-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0))).1 = (fun _ => 1#1)
    ∧ (Cert.Pre_separated.fn (F := Ideal) (m ((c.tc : Thread Cert.KernelIdeal.nD Cert.KernelIdeal.τ).loc Cert.KernelIdeal.main_arg0))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0))).1 = (fun _ => 1#1)
    ∧ (Cert.Pre_separated.fn (F := Ideal) (m ((c.tc : Thread Cert.ReferenceIdeal.nD Cert.ReferenceIdeal.τ).loc Cert.ReferenceIdeal.main_arg0))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_off_axis [hPre_off_axis : Cert.Pre_off_axis.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_off_axis.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_off_axis.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_off_axis.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_off_axis.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_off_axis.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_off_axis [hPre_off_axis : Cert.Pre_off_axis.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_off_axis.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_off_axis.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_off_axis.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_off_axis.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_off_axis.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_off_axis [hKernel2Ideal : Cert.Kernel2Ideal.Facts] [hPre_off_axis : Cert.Pre_off_axis.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_off_axis m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_off_axis [hReference2Ideal : Cert.Reference2Ideal.Facts] [hPre_off_axis : Cert.Pre_off_axis.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_off_axis m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  IdealRules.named_const.Statement Cert.KernelIdeal.κ "big" .f32 0x7F61B1E6#32 ⊤
  ∧ IdealRules.sign_bit.Statement Cert.KernelIdeal.S256x1 .f32

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal_pre_off_axis [hKernel2Ideal : Cert.Kernel2Ideal.Facts] [hReference2Ideal : Cert.Reference2Ideal.Facts] [hPre_off_axis : Cert.Pre_off_axis.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_off_axis m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v123) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_separated : Cert.Pre_separated.Facts) (hPre_off_axis : Cert.Pre_off_axis.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ quiescent_Kernel2 (hKernel2 := hKernel2)
    ∧ quiescent_Kernel2Ideal (hKernel2Ideal := hKernel2Ideal)
    ∧ quiescent_Kernel2Ideal_pre_off_axis (hKernel2Ideal := hKernel2Ideal) (hPre_off_axis := hPre_off_axis)
    ∧ quiescent_Reference2Ideal (hReference2Ideal := hReference2Ideal)
    ∧ quiescent_Reference2Ideal_pre_off_axis (hReference2Ideal := hReference2Ideal) (hPre_off_axis := hPre_off_axis)
    ∧ preserves_Kernel_KernelIdeal
    ∧ algebraic_KernelIdeal_ReferenceIdeal_pre_separated (hKernelIdeal := hKernelIdeal) (hReferenceIdeal := hReferenceIdeal) (hPre_separated := hPre_separated)
    ∧ preserves_Kernel2_Kernel2Ideal
    ∧ algebraic_Kernel2Ideal_Reference2Ideal_pre_off_axis (hKernel2Ideal := hKernel2Ideal) (hReference2Ideal := hReference2Ideal) (hPre_off_axis := hPre_off_axis)
-- ==== Pre_off_axis.lean ====
abbrev S4x2048x16 : Shape := ⟨3, ![4, 2048, 16]⟩
abbrev S4x2048x3 : Shape := ⟨3, ![4, 2048, 3]⟩
abbrev S4x2048x1 : Shape := ⟨3, ![4, 2048, 1]⟩
abbrev S_ : Shape := ⟨0, ![]⟩

class Facts : Prop where
  bcast_S_S4x2048x16 : S_.BroadcastsInDim S4x2048x16 (![] : Fin 0 → Fin S4x2048x16.rank)

variable [Facts]

def fn {F : FTy → Type} [FloatOps F] (main_arg0 : FVec F S4x2048x16 .f32) (main_arg1 : FVec F S4x2048x16 .f32) (main_arg2 : FVec F S4x2048x16 .f32) (main_arg3 : FVec F S4x2048x3 .f32) (main_arg4 : IVec S4x2048x16 32) (main_arg5 : FVec F S4x2048x1 .f32) : IVec S4x2048x16 1 × IVec S4x2048x16 1 × IVec S4x2048x16 1 × IVec S4x2048x16 1 × IVec S4x2048x16 1 :=
  let main_c : IVec S_ 32 := constantI S_ 32 0#32
  let main_v0 : IVec S4x2048x16 32 := broadcastInDim S4x2048x16 ![] bcast_S_S4x2048x16 main_c
  let main_v1 : IVec S4x2048x16 1 := cmpi .sge main_arg4 main_v0
  let main_c_0 : IVec S_ 32 := constantI S_ 32 2048#32
  let main_v2 : IVec S4x2048x16 32 := broadcastInDim S4x2048x16 ![] bcast_S_S4x2048x16 main_c_0
  let main_v3 : IVec S4x2048x16 1 := cmpi .slt main_arg4 main_v2
  let main_v4 : FVec F S4x2048x16 .f32 := Host.absf main_arg1
  let main_cst : FVec F S_ .f32 := constant S_ .f32 0x7F800000#32
  let main_v5 : FVec F S4x2048x16 .f32 := broadcastInDim S4x2048x16 ![] bcast_S_S4x2048x16 main_cst
  let main_v6 : IVec S4x2048x16 1 := cmpf .olt main_v4 main_v5
  let main_v7 : FVec F S4x2048x16 .f32 := Host.absf main_arg2
  let main_cst_1 : FVec F S_ .f32 := constant S_ .f32 0x7F800000#32
  let main_v8 : FVec F S4x2048x16 .f32 := broadcastInDim S4x2048x16 ![] bcast_S_S4x2048x16 main_cst_1
  let main_v9 : IVec S4x2048x16 1 := cmpf .olt main_v7 main_v8
  let main_cst_2 : FVec F S_ .f32 := constant S_ .f32 0x00000000#32
  let main_v10 : FVec F S4x2048x16 .f32 := broadcastInDim S4x2048x16 ![] bcast_S_S4x2048x16 main_cst_2
  let main_v11 : IVec S4x2048x16 1 := cmpf .une main_arg1 main_v10
  let main_cst_3 : FVec F S_ .f32 := constant S_ .f32 0x00000000#32
  let main_v12 : FVec F S4x2048x16 .f32 := broadcastInDim S4x2048x16 ![] bcast_S_S4x2048x16 main_cst_3
  let main_v13 : IVec S4x2048x16 1 := cmpf .une main_arg2 main_v12
  let main_v14 : IVec S4x2048x16 1 := ori main_v11 main_v13
  (main_v1, main_v3, main_v6, main_v9, main_v14)
-- ==== Pre_separated.lean ====
abbrev S4x2048x3 : Shape := ⟨3, ![4, 2048, 3]⟩
abbrev S4x2048x1x3 : Shape := ⟨4, ![4, 2048, 1, 3]⟩
abbrev S4x1x2048x3 : Shape := ⟨4, ![4, 1, 2048, 3]⟩
abbrev S4x2048x2048x3 : Shape := ⟨4, ![4, 2048, 2048, 3]⟩
abbrev S_ : Shape := ⟨0, ![]⟩
abbrev S4x2048x2048 : Shape := ⟨3, ![4, 2048, 2048]⟩

class Facts : Prop where
  bcast_S4x2048x3_S4x2048x1x3_0_1_3 : S4x2048x3.BroadcastsInDim S4x2048x1x3 (![0, 1, 3] : Fin 3 → Fin S4x2048x1x3.rank)
  bcast_S4x2048x3_S4x1x2048x3_0_2_3 : S4x2048x3.BroadcastsInDim S4x1x2048x3 (![0, 2, 3] : Fin 3 → Fin S4x1x2048x3.rank)
  bcast_S4x2048x1x3_S4x2048x2048x3_0_1_2_3 : S4x2048x1x3.BroadcastsInDim S4x2048x2048x3 (![0, 1, 2, 3] : Fin 4 → Fin S4x2048x2048x3.rank)
  bcast_S4x1x2048x3_S4x2048x2048x3_0_1_2_3 : S4x1x2048x3.BroadcastsInDim S4x2048x2048x3 (![0, 1, 2, 3] : Fin 4 → Fin S4x2048x2048x3.rank)
  reducesTo_S4x2048x2048x3_S4x2048x2048_d3 : S4x2048x2048x3.ReducesTo [3] S4x2048x2048
  h_S_ : 0 < S_.numel
  bcast_S_S4x2048x3 : S_.BroadcastsInDim S4x2048x3 (![] : Fin 0 → Fin S4x2048x3.rank)
  bcast_S_S4x2048x2048 : S_.BroadcastsInDim S4x2048x2048 (![] : Fin 0 → Fin S4x2048x2048.rank)

variable [Facts]

def fn {F : FTy → Type} [FloatOps F] (main_arg0 : FVec F S4x2048x3 .f32) : IVec S4x2048x3 1 × IVec S4x2048x2048 1 :=
  let main_v0 : FVec F S4x2048x1x3 .f32 := broadcastInDim S4x2048x1x3 ![0, 1, 3] bcast_S4x2048x3_S4x2048x1x3_0_1_3 main_arg0
  let main_v1 : FVec F S4x1x2048x3 .f32 := broadcastInDim S4x1x2048x3 ![0, 2, 3] bcast_S4x2048x3_S4x1x2048x3_0_2_3 main_arg0
  let main_v2 : FVec F S4x2048x2048x3 .f32 := broadcastInDim S4x2048x2048x3 ![0, 1, 2, 3] bcast_S4x2048x1x3_S4x2048x2048x3_0_1_2_3 main_v0
  let main_v3 : FVec F S4x2048x2048x3 .f32 := broadcastInDim S4x2048x2048x3 ![0, 1, 2, 3] bcast_S4x1x2048x3_S4x2048x2048x3_0_1_2_3 main_v1
  let main_v4 : FVec F S4x2048x2048x3 .f32 := subf main_v2 main_v3
  let main_v5 : FVec F S4x2048x2048x3 .f32 := mulf main_v4 main_v4
  let main_cst : FVec F S_ .f32 := constant S_ .f32 0x00000000#32
  let main_v6 : FVec F S4x2048x2048 .f32 := (fun x v => Host.reduceAdd x v reducesTo_S4x2048x2048x3_S4x2048x2048_d3 h_S_) main_v5 main_cst
  let main_v7 : IVec S4x2048x2048 32 := iotaInDim S4x2048x2048 32 1
  let main_v8 : IVec S4x2048x2048 32 := iotaInDim S4x2048x2048 32 2
  let main_v9 : FVec F S4x2048x3 .f32 := Host.absf main_arg0
  let main_cst_0 : FVec F S_ .f32 := constant S_ .f32 0x7F800000#32
  let main_v10 : FVec F S4x2048x3 .f32 := broadcastInDim S4x2048x3 ![] bcast_S_S4x2048x3 main_cst_0
  let main_v11 : IVec S4x2048x3 1 := cmpf .olt main_v9 main_v10
  let main_cst_1 : FVec F S_ .f32 := constant S_ .f32 0x00000000#32
  let main_v12 : FVec F S4x2048x2048 .f32 := broadcastInDim S4x2048x2048 ![] bcast_S_S4x2048x2048 main_cst_1
  let main_v13 : IVec S4x2048x2048 1 := cmpf .ogt main_v6 main_v12
  let main_v14 : IVec S4x2048x2048 1 := cmpi .eq main_v7 main_v8
  let main_v15 : IVec S4x2048x2048 1 := ori main_v13 main_v14
  (main_v11, main_v15)
-- ==== Kernel.lean ====
abbrev S4x2048x3 : Shape := ⟨3, ![4, 2048, 3]⟩
abbrev S4x3x2048 : Shape := ⟨3, ![4, 3, 2048]⟩
abbrev S4x2048x16 : Shape := ⟨3, ![4, 2048, 16]⟩
abbrev S4x2048x1 : Shape := ⟨3, ![4, 2048, 1]⟩
abbrev S1x256x3 : Shape := ⟨3, ![1, 256, 3]⟩
abbrev S1x3x2048 : Shape := ⟨3, ![1, 3, 2048]⟩
abbrev S1x256x16 : Shape := ⟨3, ![1, 256, 16]⟩
abbrev S1x256x1 : Shape := ⟨3, ![1, 256, 1]⟩
abbrev S256x3 : Shape := ⟨2, ![256, 3]⟩
abbrev S256x1 : Shape := ⟨2, ![256, 1]⟩
abbrev S1x1x2048 : Shape := ⟨3, ![1, 1, 2048]⟩
abbrev S1x2048 : Shape := ⟨2, ![1, 2048]⟩
abbrev S256x2048 : Shape := ⟨2, ![256, 2048]⟩
abbrev S256 : Shape := ⟨1, ![256]⟩
abbrev S256x16 : Shape := ⟨2, ![256, 16]⟩
abbrev S256x112 : Shape := ⟨2, ![256, 112]⟩
abbrev S256x128 : Shape := ⟨2, ![256, 128]⟩
abbrev S1x128 : Shape := ⟨2, ![1, 128]⟩
abbrev S256x128x1 : Shape := ⟨3, ![256, 128, 1]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x3, .f32⟩
  | .hbm, ⟨1, _⟩ => ⟨S4x3x2048, .f32⟩
  | .hbm, ⟨2, _⟩ => ⟨S4x2048x16, .f32⟩
  | .hbm, ⟨3, _⟩ => ⟨S4x2048x16, .f32⟩
  | .hbm, ⟨4, _⟩ => ⟨S4x2048x16, .f32⟩
  | .hbm, ⟨5, _⟩ => ⟨S4x2048x3, .f32⟩
  | .hbm, ⟨6, _⟩ => ⟨S4x2048x16, .i32⟩
  | .hbm, ⟨7, _⟩ => ⟨S4x2048x1, .f32⟩
  | .local _ .vmem, ⟨0, _⟩ => ⟨S1x256x3, .f32⟩
  | .local _ .vmem, ⟨1, _⟩ => ⟨S1x256x3, .f32⟩
  | .local _ .vmem, ⟨2, _⟩ => ⟨S1x3x2048, .f32⟩
  | .local _ .vmem, ⟨3, _⟩ => ⟨S1x3x2048, .f32⟩
  | .local _ .vmem, ⟨4, _⟩ => ⟨S1x256x16, .f32⟩
  | .local _ .vmem, ⟨5, _⟩ => ⟨S1x256x16, .f32⟩
  | .local _ .vmem, ⟨6, _⟩ => ⟨S1x256x16, .f32⟩
  | .local _ .vmem, ⟨7, _⟩ => ⟨S1x256x16, .f32⟩
  | .local _ .vmem, ⟨8, _⟩ => ⟨S1x256x16, .f32⟩
  | .local _ .vmem, ⟨9, _⟩ => ⟨S1x256x16, .f32⟩
  | .local _ .vmem, ⟨10, _⟩ => ⟨S1x256x3, .f32⟩
  | .local _ .vmem, ⟨11, _⟩ => ⟨S1x256x3, .f32⟩
  | .local _ .vmem, ⟨12, _⟩ => ⟨S1x256x16, .i32⟩
  | .local _ .vmem, ⟨13, _⟩ => ⟨S1x256x16, .i32⟩
  | .local _ .vmem, ⟨14, _⟩ => ⟨S1x256x1, .f32⟩
  | .local _ .vmem, ⟨15, _⟩ => ⟨S1x256x1, .f32⟩
  | _, _ => ⟨S4x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1_0 : Ref sig .tc := ⟨.hbm, 2, rfl⟩
abbrev main_call0_v1_1 : Ref sig .tc := ⟨.hbm, 3, rfl⟩
abbrev main_call0_v1_2 : Ref sig .tc := ⟨.hbm, 4, rfl⟩
abbrev main_call0_v1_3 : Ref sig .tc := ⟨.hbm, 5, rfl⟩
abbrev main_v0 : Ref sig .tc := ⟨.hbm, 6, rfl⟩
abbrev main_call0_v1_5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨2, ![4, 8], ![false, false]⟩

@[reducible] def k0_t1_loop : Scf.Loop 32 :=
  let c0_i32_231 : BitVec 32 := 0#32
  let c5_i32_232 : BitVec 32 := 5#32
  let v1104 : BitVec 32 := Scalar.addi c0_i32_231 c5_i32_232
  let c1_i32_233 : BitVec 32 := 1#32
  ⟨c0_i32_231, v1104, c1_i32_233⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x16 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "big" => some ⊤
  | _ => none
-- ==== ReferenceIdeal.lean ====
abbrev S4x2048x3 : Shape := ⟨3, ![4, 2048, 3]⟩
abbrev S4x2048x1x3 : Shape := ⟨4, ![4, 2048, 1, 3]⟩
abbrev S4x1x2048x3 : Shape := ⟨4, ![4, 1, 2048, 3]⟩
abbrev S4x2048x2048x3 : Shape := ⟨4, ![4, 2048, 2048, 3]⟩
abbrev S_ : Shape := ⟨0, ![]⟩
abbrev S4x2048x2048 : Shape := ⟨3, ![4, 2048, 2048]⟩
abbrev S4x2048x17 : Shape := ⟨3, ![4, 2048, 17]⟩
abbrev S4x2048x16 : Shape := ⟨3, ![4, 2048, 16]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x3, .f32⟩
  | .hbm, ⟨1, _⟩ => ⟨S4x2048x1x3, .f32⟩
  | .hbm, ⟨2, _⟩ => ⟨S4x1x2048x3, .f32⟩
  | .hbm, ⟨3, _⟩ => ⟨S4x2048x2048x3, .f32⟩
  | .hbm, ⟨4, _⟩ => ⟨S4x2048x2048x3, .f32⟩
  | .hbm, ⟨5, _⟩ => ⟨S4x2048x2048x3, .f32⟩
  | .hbm, ⟨6, _⟩ => ⟨S4x2048x2048x3, .f32⟩
  | .hbm, ⟨7, _⟩ => ⟨S_, .f32⟩
  | .hbm, ⟨8, _⟩ => ⟨S4x2048x2048, .f32⟩
  | .hbm, ⟨9, _⟩ => ⟨S4x2048x2048, .f32⟩
  | .hbm, ⟨10, _⟩ => ⟨S4x2048x17, .f32⟩
  | .hbm, ⟨11, _⟩ => ⟨S4x2048x17, .i32⟩
  | .hbm, ⟨12, _⟩ => ⟨S4x2048x16, .i32⟩
  | _, _ => ⟨S4x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_values : Ref sig .tc := ⟨.hbm, 10, rfl⟩
abbrev main_indices : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel2.lean ====
abbrev S4x2048x16 : Shape := ⟨3, ![4, 2048, 16]⟩
abbrev S4x2048x3 : Shape := ⟨3, ![4, 2048, 3]⟩
abbrev S4x2048x1 : Shape := ⟨3, ![4, 2048, 1]⟩
abbrev S4x3x2048 : Shape := ⟨3, ![4, 3, 2048]⟩
abbrev S4x1x2048 : Shape := ⟨3, ![4, 1, 2048]⟩
abbrev S4x2048x352 : Shape := ⟨3, ![4, 2048, 352]⟩
abbrev S1x256x3 : Shape := ⟨3, ![1, 256, 3]⟩
abbrev S1x3x2048 : Shape := ⟨3, ![1, 3, 2048]⟩
abbrev S1x256x16 : Shape := ⟨3, ![1, 256, 16]⟩
abbrev S1x1x2048 : Shape := ⟨3, ![1, 1, 2048]⟩
abbrev S1x256x352 : Shape := ⟨3, ![1, 256, 352]⟩
abbrev S1x2048 : Shape := ⟨2, ![1, 2048]⟩
abbrev S1 : Shape := ⟨1, ![1]⟩
abbrev S1x1 : Shape := ⟨2, ![1, 1]⟩
abbrev S256x3 : Shape := ⟨2, ![256, 3]⟩
abbrev S256x1 : Shape := ⟨2, ![256, 1]⟩
abbrev S256x16 : Shape := ⟨2, ![256, 16]⟩
abbrev S256x112 : Shape := ⟨2, ![256, 112]⟩
abbrev S256x128 : Shape := ⟨2, ![256, 128]⟩
abbrev S1x128 : Shape := ⟨2, ![1, 128]⟩
abbrev S256x128x1 : Shape := ⟨3, ![256, 128, 1]⟩
abbrev S1x352 : Shape := ⟨2, ![1, 352]⟩
abbrev S256x352 : Shape := ⟨2, ![256, 352]⟩
abbrev S256 : Shape := ⟨1, ![256]⟩

abbrev nBuf : Space → Nat
  | .hbm => 9
  | .vmem => 16
  | .smem => 0
  | _ => 0

abbrev bufTy : (tb : Table) → Fin (tcTables nBuf tb) → BufTy
  | .hbm, ⟨0, _⟩ => ⟨S4x2048x16, .f32⟩
  | .hbm, ⟨1, _⟩ => ⟨S4x2048x16, .f32⟩
  | .hbm, ⟨2, _⟩ => ⟨S4x2048x16, .f32⟩
  | .hbm, ⟨3, _⟩ => ⟨S4x2048x3, .f32⟩
  | .hbm, ⟨4, _⟩ => ⟨S4x2048x16, .i32⟩
  | .hbm, ⟨5, _⟩ => ⟨S4x2048x1, .f32⟩
  | .hbm, ⟨6, _⟩ => ⟨S4x3x2048, .f32⟩
  | .hbm, ⟨7, _⟩ => ⟨S4x1x2048, .f32⟩
  | .hbm, ⟨8, _⟩ => ⟨S4x2048x352, .f32⟩
  | .local _ .vmem, ⟨0, _⟩ => ⟨S1x256x3, .f32⟩
  | .local _ .vmem, ⟨1, _⟩ => ⟨S1x256x3, .f32⟩
  | .local _ .vmem, ⟨2, _⟩ => ⟨S1x3x2048, .f32⟩
  | .local _ .vmem, ⟨3, _⟩ => ⟨S1x3x2048, .f32⟩
  | .local _ .vmem, ⟨4, _⟩ => ⟨S1x256x16, .i32⟩
  | .local _ .vmem, ⟨5, _⟩ => ⟨S1x256x16, .i32⟩
  | .local _ .vmem, ⟨6, _⟩ => ⟨S1x256x16, .f32⟩
  | .local _ .vmem, ⟨7, _⟩ => ⟨S1x256x16, .f32⟩
  | .local _ .vmem, ⟨8, _⟩ => ⟨S1x256x16, .f32⟩
  | .local _ .vmem, ⟨9, _⟩ => ⟨S1x256x16, .f32⟩
  | .local _ .vmem, ⟨10, _⟩ => ⟨S1x256x16, .f32⟩
  | .local _ .vmem, ⟨11, _⟩ => ⟨S1x256x16, .f32⟩
  | .local _ .vmem, ⟨12, _⟩ => ⟨S1x1x2048, .f32⟩
  | .local _ .vmem, ⟨13, _⟩ => ⟨S1x1x2048, .f32⟩
  | .local _ .vmem, ⟨14, _⟩ => ⟨S1x256x352, .f32⟩
  | .local _ .vmem, ⟨15, _⟩ => ⟨S1x256x352, .f32⟩
  | _, _ => ⟨S4x2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x352 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S4x2048x16 : Shape := ⟨3, ![4, 2048, 16]⟩
abbrev S4x2048x3 : Shape := ⟨3, ![4, 2048, 3]⟩
abbrev S4x2048x1 : Shape := ⟨3, ![4, 2048, 1]⟩
abbrev S4 : Shape := ⟨1, ![4]⟩
abbrev S4x1x1 : Shape := ⟨3, ![4, 1, 1]⟩
abbrev S2048 : Shape := ⟨1, ![2048]⟩
abbrev S1x2048x1 : Shape := ⟨3, ![1, 2048, 1]⟩
abbrev S_ : Shape := ⟨0, ![]⟩
abbrev S4x1 : Shape := ⟨2, ![4, 1]⟩
abbrev S4x2048x16x1 : Shape := ⟨4, ![4, 2048, 16, 1]⟩
abbrev S4x2048x16x2 : Shape := ⟨4, ![4, 2048, 16, 2]⟩
abbrev S4x2048x16x3 : Shape := ⟨4, ![4, 2048, 16, 3]⟩
abbrev S4x2048x1x3 : Shape := ⟨4, ![4, 2048, 1, 3]⟩
abbrev S4x2048x352 : Shape := ⟨3, ![4, 2048, 352]⟩
abbrev S4x2048 : Shape := ⟨2, ![4, 2048]⟩

abbrev nBuf : Space → Nat
  | .hbm => 199
  | .vmem => 0
  | .smem => 0
  | _ => 0

abbrev hbmTy0_0 (i : Nat) : BufTy := match i % 128 with
  | 0 => ⟨S4x2048x16, .f32⟩
  | 1 => ⟨S4x2048x16, .f32⟩
  | 2 => ⟨S4x2048x16, .f32⟩
  | 3 => ⟨S4x2048x3, .f32⟩
  | 4 => ⟨S4x2048x16, .i32⟩
  | 5 => ⟨S4x2048x1, .f32⟩
  | 6 => ⟨S4, .i32⟩
  | 7 => ⟨S4x1x1, .i32⟩
  | 8 => ⟨S2048, .i32⟩
  | 9 => ⟨S1x2048x1, .i32⟩
  | 10 => ⟨S_, .f32⟩
  | 11 => ⟨S4x1, .f32⟩
  | 12 => ⟨S4x1x1, .f32⟩
  | 13 => ⟨S4x2048x16, .f32⟩
  | 14 => ⟨S4x2048x16, .f32⟩
  | 15 => ⟨S4x2048x16, .f32⟩
  | 16 => ⟨S4x2048x16, .f32⟩
  | 17 => ⟨S4x2048x16, .f32⟩
  | 18 => ⟨S_, .f32⟩
  | 19 => ⟨S4x2048x16, .f32⟩
  | 20 => ⟨S4x2048x16, .f32⟩
  | 21 => ⟨S4x2048x16, .f32⟩
  | 22 => ⟨S_, .i32⟩
  | 23 => ⟨S4x1x1, .i32⟩
  | 24 => ⟨S4x1x1, .i1⟩
  | 25 => ⟨S_, .i32⟩
  | 26 => ⟨S4x1x1, .i32⟩
  | 27 => ⟨S4x1x1, .i32⟩
  | 28 => ⟨S4x1x1, .i32⟩
  | 29 => ⟨S_, .i32⟩
  | 30 => ⟨S4x2048x16, .i32⟩
  | 31 => ⟨S4x2048x16, .i1⟩
  | 32 => ⟨S_, .i32⟩
  | 33 => ⟨S4x2048x16, .i32⟩
  | 34 => ⟨S4x2048x16, .i32⟩
  | 35 => ⟨S4x2048x16, .i32⟩
  | 36 => ⟨S4x2048x16, .i32⟩
  | 37 => ⟨S4x2048x16x1, .i32⟩
  | 38 => ⟨S4x2048x16x1, .i32⟩
  | 39 => ⟨S4x2048x16x2, .i32⟩
  | 40 => ⟨S4x2048x16x3, .f32⟩
  | 41 => ⟨S4x2048x1x3, .f32⟩
  | 42 => ⟨S4x2048x16x3, .f32⟩
  | 43 => ⟨S4x2048x16x3, .f32⟩
  | 44 => ⟨S_, .f32⟩
  | 45 => ⟨S4x2048x16, .f32⟩
  | 46 => ⟨S_, .f32⟩
  | 47 => ⟨S_, .f32⟩
  | 48 => ⟨S_, .f32⟩
  | 49 => ⟨S4x2048x16, .f32⟩
  | 50 => ⟨S4x2048x16, .f32⟩
  | 51 => ⟨S_, .f32⟩
  | 52 => ⟨S4x2048x16, .f32⟩
  | 53 => ⟨S4x2048x16, .f32⟩
  | 54 => ⟨S_, .f32⟩
  | 55 => ⟨S4x2048x16, .f32⟩
  | 56 => ⟨S4x2048x16, .f32⟩
  | 57 => ⟨S_, .f32⟩
  | 58 => ⟨S4x2048x16, .f32⟩
  | 59 => ⟨S4x2048x16, .f32⟩
  | 60 => ⟨S_, .f32⟩
  | 61 => ⟨S4x2048x16, .f32⟩
  | 62 => ⟨S4x2048x16, .f32⟩
  | 63 => ⟨S4x2048x16, .f32⟩
  | 64 => ⟨S4x2048x16, .i32⟩
  | 65 => ⟨S_, .i32⟩
  | 66 => ⟨S_, .i32⟩
  | 67 => ⟨S_, .i32⟩
  | 68 => ⟨S4x2048x16, .i32⟩
  | 69 => ⟨S4x2048x16, .i32⟩
  | 70 => ⟨S_, .i32⟩
  | 71 => ⟨S4x2048x16, .i32⟩
  | 72 => ⟨S4x2048x16, .i32⟩
  | 73 => ⟨S_, .f32⟩
  | 74 => ⟨S4x1x1, .f32⟩
  | 75 => ⟨S4x1x1, .f32⟩
  | 76 => ⟨S4x2048x16, .f32⟩
  | 77 => ⟨S4x2048x16, .f32⟩
  | 78 => ⟨S_, .f32⟩
  | 79 => ⟨S4x2048x16, .f32⟩
  | 80 => ⟨S4x2048x16, .f32⟩
  | 81 => ⟨S4x2048x16, .f32⟩
  | 82 => ⟨S4x2048x16, .i32⟩
  | 83 => ⟨S_, .i32⟩
  | 84 => ⟨S_, .i32⟩
  | 85 => ⟨S_, .i32⟩
  | 86 => ⟨S4x2048x16, .i32⟩
  | 87 => ⟨S4x2048x16, .i32⟩
  | 88 => ⟨S_, .i32⟩
  | 89 => ⟨S4x2048x16, .i32⟩
  | 90 => ⟨S4x2048x16, .i32⟩
  | 91 => ⟨S4x2048x16, .f32⟩
  | 92 => ⟨S_, .f32⟩
  | 93 => ⟨S4x2048x16, .f32⟩
  | 94 => ⟨S4x2048x16, .f32⟩
  | 95 => ⟨S_, .f32⟩
  | 96 => ⟨S4x2048x16, .f32⟩
  | 97 => ⟨S4x2048x16, .f32⟩
  | 98 => ⟨S_, .f32⟩
  | 99 => ⟨S4x2048x16, .f32⟩
  | 100 => ⟨S4x2048x16, .f32⟩
  | 101 => ⟨S4x2048x16, .f32⟩
  | 102 => ⟨S4x2048x16, .i32⟩
  | 103 => ⟨S_, .i32⟩
  | 104 => ⟨S_, .i32⟩
  | 105 => ⟨S_, .i32⟩
  | 106 => ⟨S4x2048x16, .i32⟩
  | 107 => ⟨S4x2048x16, .i32⟩
  | 108 => ⟨S_, .i32⟩
  | 109 => ⟨S4x2048x16, .i32⟩
  | 110 => ⟨S4x2048x16, .i32⟩
  | 111 => ⟨S_, .f32⟩
  | 112 => ⟨S_, .f32⟩
  | 113 => ⟨S_, .f32⟩
  | 114 => ⟨S4x2048x16, .f32⟩
  | 115 => ⟨S_, .f32⟩
  | 116 => ⟨S4x2048x16, .f32⟩
  | 117 => ⟨S4x2048x16, .f32⟩
  | 118 => ⟨S_, .f32⟩
  | 119 => ⟨S_, .f32⟩
  | 120 => ⟨S_, .f32⟩
  | 121 => ⟨S4x2048x16, .f32⟩
  | 122 => ⟨S4x2048x16, .f32⟩
  | 123 => ⟨S_, .f32⟩
  | 124 => ⟨S4x2048x16, .f32⟩
  | 125 => ⟨S4x2048x16, .f32⟩
  | 126 => ⟨S4x2048x16, .f32⟩
  | 127 => ⟨S4x2048x16, .i32⟩
  | _ => ⟨S4x2048x16, .f32⟩

abbrev hbmTy0_1 (i : Nat) : BufTy := match i % 128 with
  | 0 => ⟨S_, .i32⟩
  | 1 => ⟨S_, .i32⟩
  | 2 => ⟨S_, .i32⟩
  | 3 => ⟨S4x2048x16, .i32⟩
  | 4 => ⟨S4x2048x16, .i32⟩
  | 5 => ⟨S_, .i32⟩
  | 6 => ⟨S4x2048x16, .i32⟩
  | 7 => ⟨S4x2048x16, .i32⟩
  | 8 => ⟨S_, .i32⟩
  | 9 => ⟨S4x2048x16, .i32⟩
  | 10 => ⟨S4x2048x16, .i32⟩
  | 11 => ⟨S4x2048x16, .i32⟩
  | 12 => ⟨S_, .i32⟩
  | 13 => ⟨S4x2048x16, .i32⟩
  | 14 => ⟨S4x2048x16, .i32⟩
  | 15 => ⟨S4x2048x16, .i32⟩
  | 16 => ⟨S_, .i32⟩
  | 17 => ⟨S4x2048x16, .i32⟩
  | 18 => ⟨S4x2048x16, .i32⟩
  | 19 => ⟨S4x2048x16, .i32⟩
  | 20 => ⟨S_, .f32⟩
  | 21 => ⟨S4x1x1, .f32⟩
  | 22 => ⟨S4x1x1, .f32⟩
  | 23 => ⟨S4x2048x16, .f32⟩
  | 24 => ⟨S4x2048x16, .f32⟩
  | 25 => ⟨S_, .f32⟩
  | 26 => ⟨S4x2048x16, .f32⟩
  | 27 => ⟨S4x2048x16, .f32⟩
  | 28 => ⟨S_, .f32⟩
  | 29 => ⟨S4x2048x16, .f32⟩
  | 30 => ⟨S4x2048x16, .f32⟩
  | 31 => ⟨S_, .f32⟩
  | 32 => ⟨S4x2048x352, .f32⟩
  | 33 => ⟨S_, .i32⟩
  | 34 => ⟨S4x1x1, .i32⟩
  | 35 => ⟨S4x1x1, .i1⟩
  | 36 => ⟨S_, .i32⟩
  | 37 => ⟨S4x1x1, .i32⟩
  | 38 => ⟨S4x1x1, .i32⟩
  | 39 => ⟨S4x1x1, .i32⟩
  | 40 => ⟨S_, .i32⟩
  | 41 => ⟨S1x2048x1, .i32⟩
  | 42 => ⟨S1x2048x1, .i1⟩
  | 43 => ⟨S_, .i32⟩
  | 44 => ⟨S1x2048x1, .i32⟩
  | 45 => ⟨S1x2048x1, .i32⟩
  | 46 => ⟨S1x2048x1, .i32⟩
  | 47 => ⟨S_, .i32⟩
  | 48 => ⟨S4x2048x16, .i32⟩
  | 49 => ⟨S4x2048x16, .i1⟩
  | 50 => ⟨S_, .i32⟩
  | 51 => ⟨S4x2048x16, .i32⟩
  | 52 => ⟨S4x2048x16, .i32⟩
  | 53 => ⟨S4x2048x16, .i32⟩
  | 54 => ⟨S4x2048x16, .i32⟩
  | 55 => ⟨S4x2048x16, .i32⟩
  | 56 => ⟨S4x2048x16x1, .i32⟩
  | 57 => ⟨S4x2048x16x1, .i32⟩
  | 58 => ⟨S4x2048x16x1, .i32⟩
  | 59 => ⟨S4x2048x16x3, .i32⟩
  | 60 => ⟨S4x2048x352, .f32⟩
  | 61 => ⟨S4x2048x352, .f32⟩
  | 62 => ⟨S_, .f32⟩
  | 63 => ⟨S4x2048, .f32⟩
  | 64 => ⟨S4x2048x1, .f32⟩
  | 65 => ⟨S_, .f32⟩
  | 66 => ⟨S4x2048x1, .f32⟩
  | 67 => ⟨S4x2048x1, .f32⟩
  | 68 => ⟨S4x2048x1, .f32⟩
  | 69 => ⟨S4x2048x352, .f32⟩
  | 70 => ⟨S4x2048x352, .f32⟩
  | _ => ⟨S4x2048x16, .f32⟩

abbrev hbmTy (i : Nat) : BufTy := match i / 128 with
  | 0 => hbmTy0_0 i
  | 1 => hbmTy0_1 i
  | _ => ⟨S4x2048x16, .f32⟩

abbrev bufTy : (tb : Table) → Fin (tcTables nBuf tb) → BufTy
  | .hbm, ⟨i, _⟩ => hbmTy i
  | _, _ => ⟨S4x2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_cst_5 : Ref sig .tc := ⟨.hbm, 46, rfl⟩
abbrev main_cst_6 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_10 : Ref sig .tc := ⟨.hbm, 65, rfl⟩
abbrev main_c_11 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v42 : Ref sig .tc := ⟨.hbm, 72, rfl⟩
abbrev main_cst_12 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_13 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_14 : Ref sig .tc := ⟨.hbm, 83, rfl⟩
abbrev main_c_15 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_v51 : Ref sig .tc := ⟨.hbm, 90, rfl⟩
abbrev main_v52 : Ref sig .tc := ⟨.hbm, 91, rfl⟩
abbrev main_cst_16 : Ref sig .tc := ⟨.hbm, 92, rfl⟩
abbrev main_v53 : Ref sig .tc := ⟨.hbm, 93, rfl⟩
abbrev main_v54 : Ref sig .tc := ⟨.hbm, 94, rfl⟩
abbrev main_cst_17 : Ref sig .tc := ⟨.hbm, 95, rfl⟩
abbrev main_v55 : Ref sig .tc := ⟨.hbm, 96, rfl⟩
abbrev main_v56 : Ref sig .tc := ⟨.hbm, 97, rfl⟩
abbrev main_cst_18 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_c_19 : Ref sig .tc := ⟨.hbm, 103, rfl⟩
abbrev main_c_20 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_v61 : Ref sig .tc := ⟨.hbm, 110, rfl⟩
abbrev main_cst_21 : Ref sig .tc := ⟨.hbm, 111, rfl⟩
abbrev main_cst_22 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_cst_23 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_cst_24 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_c_25 : Ref sig .tc := ⟨.hbm, 128, rfl⟩
abbrev main_c_26 : Ref sig .tc := ⟨.hbm, 129, rfl⟩
abbrev main_call4_v0 : Ref sig .tc := ⟨.hbm, 130, rfl⟩
abbrev main_call4_v1 : Ref sig .tc := ⟨.hbm, 131, rfl⟩
abbrev main_call4_v2 : Ref sig .tc := ⟨.hbm, 132, rfl⟩
abbrev main_call4_v3 : Ref sig .tc := ⟨.hbm, 133, rfl⟩
abbrev main_call4_v4 : Ref sig .tc := ⟨.hbm, 134, rfl⟩
abbrev main_v75 : Ref sig .tc := ⟨.hbm, 135, rfl⟩
abbrev main_c_27 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_c_28 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_c_29 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_cst_30 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_cst_31 : Ref sig .tc := ⟨.hbm, 153, rfl⟩
abbrev main_v89 : Ref sig .tc := ⟨.hbm, 154, rfl⟩
abbrev main_v90 : Ref sig .tc := ⟨.hbm, 155, rfl⟩
abbrev main_cst_32 : Ref sig .tc := ⟨.hbm, 156, rfl⟩
abbrev main_v91 : Ref sig .tc := ⟨.hbm, 157, rfl⟩
abbrev main_v92 : Ref sig .tc := ⟨.hbm, 158, rfl⟩
abbrev main_cst_33 : Ref sig .tc := ⟨.hbm, 159, rfl⟩
abbrev main_v93 : Ref sig .tc := ⟨.hbm, 160, rfl⟩
abbrev main_c_34 : Ref sig .tc := ⟨.hbm, 161, rfl⟩
abbrev main_v94 : Ref sig .tc := ⟨.hbm, 162, rfl⟩
abbrev main_v95 : Ref sig .tc := ⟨.hbm, 163, rfl⟩
abbrev main_c_35 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_c_36 : Ref sig .tc := ⟨.hbm, 168, rfl⟩
abbrev main_v99 : Ref sig .tc := ⟨.hbm, 169, rfl⟩
abbrev main_v100 : Ref sig .tc := ⟨.hbm, 170, rfl⟩
abbrev main_c_37 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_c_38 : Ref sig .tc := ⟨.hbm, 175, rfl⟩
abbrev main_v104 : Ref sig .tc := ⟨.hbm, 176, rfl⟩
abbrev main_v105 : Ref sig .tc := ⟨.hbm, 177, rfl⟩
abbrev main_c_39 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_cst_40 : Ref sig .tc := ⟨.hbm, 190, rfl⟩
abbrev main_v117 : Ref sig .tc := ⟨.hbm, 191, rfl⟩
abbrev main_v118 : Ref sig .tc := ⟨.hbm, 192, rfl⟩
abbrev main_cst_41 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩

abbrev nD : Nat := 1
abbrev τ : Topo := Topo.v7x

variable {F : FTy → Type} [FloatOps F]
-- ==== Proof.KernelParts.lean ====
/- The body of the first call: everything between its loads and its stores is pure, its parts and its loop included,
   so it runs to its end with each output's buffer at a function of the two input blocks; the neighbours' in full. -/
module

public import proofs.«01_k».proof.Proof.Gen.Kernel.Frame
public import proofs.«01_k».proof.Proof.Gen.Kernel.Skeleton
public import Idealize.ShloMosaic.Lib.Tactic
public import Idealize.ShloMosaic.Lib.Pipeline.FrameBody

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

theorem part1_pure (c0_i32_231 : BitVec 32) (c1_i32_233 : BitVec 32) (k0_t1 : Fin k0_t1_loop.trips) (arg11 : FVec F S256x1 .f32) (arg13 : FVec F S256x1 .f32) (arg16 : FVec F S256x1 .f32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part1 (F := F) i arg2 harg2 arg3 harg3 arg4 harg4 arg5 harg5 arg6 harg6 arg7 harg7 arg8 harg8 arg9 harg9 c0_i32_231 c1_i32_233 k0_t1 arg11 arg13 arg16 = Pure.pure r :=
  ⟨_, fun i arg2 harg2 arg3 harg3 arg4 harg4 arg5 harg5 arg6 harg6 arg7 harg7 arg8 harg8 arg9 harg9 => by rw [k0_part1_eq_skeleton]; rfl⟩

theorem part2_pure (arg12 : FVec F S256x1 .f32) (arg14 : FVec F S256x1 .f32) (arg15 : FVec F S256x1 .f32) (arg17 : FVec F S256x1 .f32) (arg19 : FVec F S256x1 .f32) (arg20 : FVec F S256x1 .f32) (arg22 : FVec F S256x1 .f32) (arg23 : FVec F S256x1 .f32) (arg25 : FVec F S256x1 .f32) (v1296 : FVec F S256x1 .f32) (v1297 : FVec F S256x1 .f32) (v1300 : FVec F S256x1 .f32) (v1303 : FVec F S256x1 .f32) (v1315 : FVec F S256x1 .f32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part2 (F := F) i arg2 harg2 arg3 harg3 arg4 harg4 arg5 harg5 arg6 harg6 arg7 harg7 arg8 harg8 arg9 harg9 arg12 arg14 arg15 arg17 arg19 arg20 arg22 arg23 arg25 v1296 v1297 v1300 v1303 v1315 = Pure.pure r :=
  ⟨_, fun i arg2 harg2 arg3 harg3 arg4 harg4 arg5 harg5 arg6 harg6 arg7 harg7 arg8 harg8 arg9 harg9 => by rw [k0_part2_eq_skeleton]; rfl⟩

theorem part3_pure (arg14 : FVec F S256x1 .f32) (arg18 : FVec F S256x1 .f32) (arg21 : FVec F S256x1 .f32) (arg24 : FVec F S256x1 .f32) (v1312 : FVec F S256x1 .f32) (v1315 : FVec F S256x1 .f32) (v1318 : FVec F S256x1 .f32) (v1321 : FVec F S256x1 .f32) (v1324 : FVec F S256x1 .f32) (v1330 : FVec F S256x1 .f32) (v1336 : FVec F S256x1 .f32) (v1342 : FVec F S256x1 .f32) (v1367 : FVec F S256x1 .f32) (v1368 : FVec F S256x1 .f32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part3 (F := F) i arg2 harg2 arg3 harg3 arg4 harg4 arg5 harg5 arg6 harg6 arg7 harg7 arg8 harg8 arg9 harg9 arg14 arg18 arg21 arg24 v1312 v1315 v1318 v1321 v1324 v1330 v1336 v1342 v1367 v1368 = Pure.pure r :=
  ⟨_, fun i arg2 harg2 arg3 harg3 arg4 harg4 arg5 harg5 arg6 harg6 arg7 harg7 arg8 harg8 arg9 harg9 => by rw [k0_part3_eq_skeleton]; rfl⟩

theorem part4_pure (v1312 : FVec F S256x1 .f32) (v1392 : FVec F S256x1 .f32) (v1395 : FVec F S256x1 .f32) (v1398 : FVec F S256x1 .f32) (v1401 : FVec F S256x1 .f32) (v1423 : FVec F S256x1 .f32) (v1424 : IVec S256x1 32) (c_m2147483648_i32_281 : BitVec 32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part4 (F := F) i arg2 harg2 arg3 harg3 arg4 harg4 arg5 harg5 arg6 harg6 arg7 harg7 arg8 harg8 arg9 harg9 v1312 v1392 v1395 v1398 v1401 v1423 v1424 c_m2147483648_i32_281 = Pure.pure r :=
  ⟨_, fun i arg2 harg2 arg3 harg3 arg4 harg4 arg5 harg5 arg6 harg6 arg7 harg7 arg8 harg8 arg9 harg9 => by rw [k0_part4_eq_skeleton]; rfl⟩

theorem part11_pure (v6 : FVec F S1x2048 .f32) (v272 : IVec S256x16 32) (v276 : IVec S256x128 32) (cst_71 : F .f32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part11 (F := F) i arg2 harg2 arg3 harg3 arg4 harg4 arg5 harg5 arg6 harg6 arg7 harg7 arg8 harg8 arg9 harg9 v6 v272 v276 cst_71 = Pure.pure r :=
  ⟨_, fun i arg2 harg2 arg3 harg3 arg4 harg4 arg5 harg5 arg6 harg6 arg7 harg7 arg8 harg8 arg9 harg9 => by rw [k0_part11_eq_skeleton]; rfl⟩

theorem part12_pure (v6 : FVec F S1x2048 .f32) (v272 : IVec S256x16 32) (v276 : IVec S256x128 32) (v322 : FVec F S256x16 .f32) (v325 : FVec F S256x128 .f32) (v326 : IVec S256x128 32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part12 (F := F) i arg2 harg2 arg3 harg3 arg4 harg4 arg5 harg5 arg6 harg6 arg7 harg7 arg8 harg8 arg9 harg9 v6 v272 v276 v322 v325 v326 = Pure.pure r :=
  ⟨_, fun i arg2 harg2 arg3 harg3 arg4 harg4 arg5 harg5 arg6 harg6 arg7 harg7 arg8 harg8 arg9 harg9 => by rw [k0_part12_eq_skeleton]; rfl⟩

theorem part13_pure (v6 : FVec F S1x2048 .f32) (v272 : IVec S256x16 32) (v276 : IVec S256x128 32) (v367 : FVec F S256x16 .f32) (v370 : FVec F S256x128 .f32) (v376 : IVec S256x128x1 32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part13 (F := F) i arg2 harg2 arg3 harg3 arg4 harg4 arg5 harg5 arg6 harg6 arg7 harg7 arg8 harg8 arg9 harg9 v6 v272 v276 v367 v370 v376 = Pure.pure r :=
  ⟨_, fun i arg2 harg2 arg3 harg3 arg4 harg4 arg5 harg5 arg6 harg6 arg7 harg7 arg8 harg8 arg9 harg9 => by rw [k0_part13_eq_skeleton]; rfl⟩

theorem part14_pure (v6 : FVec F S1x2048 .f32) (v272 : IVec S256x16 32) (v276 : IVec S256x128 32) (v412 : FVec F S256x16 .f32) (v424 : FVec F S256x16 .f32) (v426 : IVec S256x16 1) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part14 (F := F) i arg2 harg2 arg3 harg3 arg4 harg4 arg5 harg5 arg6 harg6 arg7 harg7 arg8 harg8 arg9 harg9 v6 v272 v276 v412 v424 v426 = Pure.pure r :=
  ⟨_, fun i arg2 harg2 arg3 harg3 arg4 harg4 arg5 harg5 arg6 harg6 arg7 harg7 arg8 harg8 arg9 harg9 => by rw [k0_part14_eq_skeleton]; rfl⟩

theorem part15_pure (v2 : FVec F S256x1 .f32) (v6 : FVec F S1x2048 .f32) (v270 : IVec S256x16 32) (v272 : IVec S256x16 32) (v276 : IVec S256x128 32) (v472 : FVec F S256x16 .f32) (v475 : FVec F S256x128 .f32) (v476 : IVec S256x128 32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part15 (F := F) i arg2 harg2 arg3 harg3 arg4 harg4 arg5 harg5 arg6 harg6 arg7 harg7 arg8 harg8 arg9 harg9 v2 v6 v270 v272 v276 v472 v475 v476 = Pure.pure r :=
  ⟨_, fun i arg2 harg2 arg3 harg3 arg4 harg4 arg5 harg5 arg6 harg6 arg7 harg7 arg8 harg8 arg9 harg9 => by rw [k0_part15_eq_skeleton]; rfl⟩

theorem part16_pure (v8 : FVec F S1x2048 .f32) (v521 : IVec S256x16 32) (v525 : IVec S256x128 32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part16 (F := F) i arg2 harg2 arg3 harg3 arg4 harg4 arg5 harg5 arg6 harg6 arg7 harg7 arg8 harg8 arg9 harg9 v8 v521 v525 = Pure.pure r :=
  ⟨_, fun i arg2 harg2 arg3 harg3 arg4 harg4 arg5 harg5 arg6 harg6 arg7 harg7 arg8 harg8 arg9 harg9 => by rw [k0_part16_eq_skeleton]; rfl⟩

theorem part17_pure (v8 : FVec F S1x2048 .f32) (v521 : IVec S256x16 32) (v525 : IVec S256x128 32) (v571 : FVec F S256x16 .f32) (v574 : FVec F S256x128 .f32) (c0_i32_118 : BitVec 32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part17 (F := F) i arg2 harg2 arg3 harg3 arg4 harg4 arg5 harg5 arg6 harg6 arg7 harg7 arg8 harg8 arg9 harg9 v8 v521 v525 v571 v574 c0_i32_118 = Pure.pure r :=
  ⟨_, fun i arg2 harg2 arg3 harg3 arg4 harg4 arg5 harg5 arg6 harg6 arg7 harg7 arg8 harg8 arg9 harg9 => by rw [k0_part17_eq_skeleton]; rfl⟩

theorem part18_pure (v8 : FVec F S1x2048 .f32) (v521 : IVec S256x16 32) (v525 : IVec S256x128 32) (v616 : FVec F S256x16 .f32) (v619 : FVec F S256x128 .f32) (v624 : IVec S256x128 32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part18 (F := F) i arg2 harg2 arg3 harg3 arg4 harg4 arg5 harg5 arg6 harg6 arg7 harg7 arg8 harg8 arg9 harg9 v8 v521 v525 v616 v619 v624 = Pure.pure r :=
  ⟨_, fun i arg2 harg2 arg3 harg3 arg4 harg4 arg5 harg5 arg6 harg6 arg7 harg7 arg8 harg8 arg9 harg9 => by rw [k0_part18_eq_skeleton]; rfl⟩

theorem part19_pure (v8 : FVec F S1x2048 .f32) (v521 : IVec S256x16 32) (v525 : IVec S256x128 32) (v661 : FVec F S256x16 .f32) (v673 : FVec F S256x16 .f32) (v674 : IVec S256x16 32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part19 (F := F) i arg2 harg2 arg3 harg3 arg4 harg4 arg5 harg5 arg6 harg6 arg7 harg7 arg8 harg8 arg9 harg9 v8 v521 v525 v661 v673 v674 = Pure.pure r :=
  ⟨_, fun i arg2 harg2 arg3 harg3 arg4 harg4 arg5 harg5 arg6 harg6 arg7 harg7 arg8 harg8 arg9 harg9 => by rw [k0_part19_eq_skeleton]; rfl⟩

theorem part20_pure (v3 : FVec F S256x1 .f32) (v8 : FVec F S1x2048 .f32) (v270 : IVec S256x16 32) (v521 : IVec S256x16 32) (v525 : IVec S256x128 32) (v721 : FVec F S256x16 .f32) (v724 : FVec F S256x128 .f32) (c0_i32_148 : BitVec 32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part20 (F := F) i arg2 harg2 arg3 harg3 arg4 harg4 arg5 harg5 arg6 harg6 arg7 harg7 arg8 harg8 arg9 harg9 v3 v8 v270 v521 v525 v721 v724 c0_i32_148 = Pure.pure r :=
  ⟨_, fun i arg2 harg2 arg3 harg3 arg4 harg4 arg5 harg5 arg6 harg6 arg7 harg7 arg8 harg8 arg9 harg9 => by rw [k0_part20_eq_skeleton]; rfl⟩

theorem part21_pure (v10 : FVec F S1x2048 .f32) (v770 : IVec S256x16 32) (v772 : IVec S256x16 32) (v773 : IVec S256x112 32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part21 (F := F) i arg2 harg2 arg3 harg3 arg4 harg4 arg5 harg5 arg6 harg6 arg7 harg7 arg8 harg8 arg9 harg9 v10 v770 v772 v773 = Pure.pure r :=
  ⟨_, fun i arg2 harg2 arg3 harg3 arg4 harg4 arg5 harg5 arg6 harg6 arg7 harg7 arg8 harg8 arg9 harg9 => by rw [k0_part21_eq_skeleton]; rfl⟩

theorem part22_pure (v10 : FVec F S1x2048 .f32) (v770 : IVec S256x16 32) (v774 : IVec S256x128 32) (v820 : FVec F S256x16 .f32) (v823 : FVec F S256x128 .f32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part22 (F := F) i arg2 harg2 arg3 harg3 arg4 harg4 arg5 harg5 arg6 harg6 arg7 harg7 arg8 harg8 arg9 harg9 v10 v770 v774 v820 v823 = Pure.pure r :=
  ⟨_, fun i arg2 harg2 arg3 harg3 arg4 harg4 arg5 harg5 arg6 harg6 arg7 harg7 arg8 harg8 arg9 harg9 => by rw [k0_part22_eq_skeleton]; rfl⟩

theorem part23_pure (v10 : FVec F S1x2048 .f32) (v770 : IVec S256x16 32) (v774 : IVec S256x128 32) (v865 : FVec F S256x16 .f32) (v868 : FVec F S256x128 .f32) (v870 : IVec S256x128 1) (v872 : IVec S256x128 32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part23 (F := F) i arg2 harg2 arg3 harg3 arg4 harg4 arg5 harg5 arg6 harg6 arg7 harg7 arg8 harg8 arg9 harg9 v10 v770 v774 v865 v868 v870 v872 = Pure.pure r :=
  ⟨_, fun i arg2 harg2 arg3 harg3 arg4 harg4 arg5 harg5 arg6 harg6 arg7 harg7 arg8 harg8 arg9 harg9 => by rw [k0_part23_eq_skeleton]; rfl⟩

theorem part24_pure (v10 : FVec F S1x2048 .f32) (v770 : IVec S256x16 32) (v774 : IVec S256x128 32) (v910 : FVec F S256x16 .f32) (v922 : FVec F S256x16 .f32) (c9_i32_190 : BitVec 32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part24 (F := F) i arg2 harg2 arg3 harg3 arg4 harg4 arg5 harg5 arg6 harg6 arg7 harg7 arg8 harg8 arg9 harg9 v10 v770 v774 v910 v922 c9_i32_190 = Pure.pure r :=
  ⟨_, fun i arg2 harg2 arg3 harg3 arg4 harg4 arg5 harg5 arg6 harg6 arg7 harg7 arg8 harg8 arg9 harg9 => by rw [k0_part24_eq_skeleton]; rfl⟩

theorem part25_pure (v4 : FVec F S256x1 .f32) (v10 : FVec F S1x2048 .f32) (v519 : FVec F S256x16 .f32) (v768 : FVec F S256x16 .f32) (v770 : IVec S256x16 32) (v774 : IVec S256x128 32) (v970 : FVec F S256x16 .f32) (v973 : FVec F S256x128 .f32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part25 (F := F) i arg2 harg2 arg3 harg3 arg4 harg4 arg5 harg5 arg6 harg6 arg7 harg7 arg8 harg8 arg9 harg9 v4 v10 v519 v768 v770 v774 v970 v973 = Pure.pure r :=
  ⟨_, fun i arg2 harg2 arg3 harg3 arg4 harg4 arg5 harg5 arg6 harg6 arg7 harg7 arg8 harg8 arg9 harg9 => by rw [k0_part25_eq_skeleton]; rfl⟩

theorem part26_pure (v519 : FVec F S256x16 .f32) (v768 : FVec F S256x16 .f32) (v1017 : FVec F S256x16 .f32) (v1022 : FVec F S256x16 .f32) (v1023 : FVec F S256x16 .f32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part26 (F := F) i arg2 harg2 arg3 harg3 arg4 harg4 arg5 harg5 arg6 harg6 arg7 harg7 arg8 harg8 arg9 harg9 v519 v768 v1017 v1022 v1023 = Pure.pure r :=
  ⟨_, fun i arg2 harg2 arg3 harg3 arg4 harg4 arg5 harg5 arg6 harg6 arg7 harg7 arg8 harg8 arg9 harg9 => by rw [k0_part26_eq_skeleton]; rfl⟩

theorem part28_pure (v1046 : FVec F S256x16 .f32) (v1048 : FVec F S256x16 .f32) (v1050 : FVec F S256x16 .f32) (v1105_3 : FVec F S256x1 .f32) (v1105_5 : FVec F S256x1 .f32) (v1105_6 : FVec F S256x1 .f32) (v1105_7 : FVec F S256x1 .f32) (v1105_8 : FVec F S256x1 .f32) (v1105_9 : FVec F S256x1 .f32) (v1105_10 : FVec F S256x1 .f32) (v1105_11 : FVec F S256x1 .f32) (v1105_12 : FVec F S256x1 .f32) (v1105_13 : FVec F S256x1 .f32) (v1105_14 : FVec F S256x1 .f32) (v1109 : FVec F S256x1 .f32) (v1113 : FVec F S256x1 .f32) (v1117 : FVec F S256x1 .f32) (v1118 : IVec S256x1 1) (v1119 : IVec S256x1 1) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part28 (F := F) i arg2 harg2 arg3 harg3 arg4 harg4 arg5 harg5 arg6 harg6 arg7 harg7 arg8 harg8 arg9 harg9 v1046 v1048 v1050 v1105_3 v1105_5 v1105_6 v1105_7 v1105_8 v1105_9 v1105_10 v1105_11 v1105_12 v1105_13 v1105_14 v1109 v1113 v1117 v1118 v1119 = Pure.pure r :=
  ⟨_, fun i arg2 harg2 arg3 harg3 arg4 harg4 arg5 harg5 arg6 harg6 arg7 harg7 arg8 harg8 arg9 harg9 => by rw [k0_part28_eq_skeleton]; rfl⟩

theorem part29_pure (v1046 : FVec F S256x16 .f32) (v1048 : FVec F S256x16 .f32) (v1050 : FVec F S256x16 .f32) (v1113 : FVec F S256x1 .f32) (v1117 : FVec F S256x1 .f32) (v1121 : FVec F S256x1 .f32) (v1160 : FVec F S256x1 .f32) (v1161 : FVec F S256x1 .f32) (v1162 : FVec F S256x1 .f32) (v1171 : FVec F S256x16 .f32) (v1173 : FVec F S256x1 .f32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part29 (F := F) i arg2 harg2 arg3 harg3 arg4 harg4 arg5 harg5 arg6 harg6 arg7 harg7 arg8 harg8 arg9 harg9 v1046 v1048 v1050 v1113 v1117 v1121 v1160 v1161 v1162 v1171 v1173 = Pure.pure r :=
  ⟨_, fun i arg2 harg2 arg3 harg3 arg4 harg4 arg5 harg5 arg6 harg6 arg7 harg7 arg8 harg8 arg9 harg9 => by rw [k0_part29_eq_skeleton]; rfl⟩

/-- One sweep of the eigensolver computes its 15 carried vectors from the ones it is given, touching no buffer. -/
theorem sweep_pure (v1035 : FVec F S256x1 .f32) (v1038 : FVec F S256x16 .f32) (v1041 : FVec F S256x16 .f32) (v1044 : FVec F S256x16 .f32) (v1046 : FVec F S256x16 .f32) (v1048 : FVec F S256x16 .f32) (v1050 : FVec F S256x16 .f32) (v1056 : FVec F S256x1 .f32) (v1062 : FVec F S256x1 .f32) (v1068 : FVec F S256x1 .f32) (v1072 : FVec F S256x1 .f32) (k0_t1 : Fin k0_t1_loop.trips) (acc : FVec F S256x1 .f32 × FVec F S256x1 .f32 × FVec F S256x1 .f32 × FVec F S256x1 .f32 × FVec F S256x1 .f32 × FVec F S256x1 .f32 × FVec F S256x1 .f32 × FVec F S256x1 .f32 × FVec F S256x1 .f32 × FVec F S256x1 .f32 × FVec F S256x1 .f32 × FVec F S256x1 .f32 × FVec F S256x1 .f32 × FVec F S256x1 .f32 × FVec F S256x1 .f32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_t1_body (F := F) i arg2 harg2 arg3 harg3 arg4 harg4 arg5 harg5 arg6 harg6 arg7 harg7 arg8 harg8 arg9 harg9 v1035 v1038 v1041 v1044 v1046 v1048 v1050 v1056 v1062 v1068 v1072 k0_t1 acc = .ret r := by
  obtain ⟨arg11, arg12, arg13, arg14, arg15, arg16, arg17, arg18, arg19, arg20, arg21, arg22, arg23, arg24, arg25⟩ := acc
  obtain ⟨⟨v1296, v1297, v1300, v1303, v1312, v1315⟩, h1⟩ := part1_pure (F := F) 0#32 1#32 k0_t1 arg11 arg13 arg16
  obtain ⟨⟨v1318, v1321, v1324, v1327, v1330, v1333, v1336, v1339, v1342, v1367, v1368⟩, h2⟩ := part2_pure (F := F) arg12 arg14 arg15 arg17 arg19 arg20 arg22 arg23 arg25 v1296 v1297 v1300 v1303 v1315
  obtain ⟨⟨v1389, v1392, v1395, v1398, v1401, v1404, v1407, v1410, v1413, v1416, v1419, v1423, v1424, c_m2147483648_i32_281⟩, h3⟩ := part3_pure (F := F) arg14 arg18 arg21 arg24 v1312 v1315 v1318 v1321 v1324 v1330 v1336 v1342 v1367 v1368
  obtain ⟨⟨v1450, v1451, v1466, v1469, v1472, v1475, v1476, v1477⟩, h4⟩ := part4_pure (F := F) v1312 v1392 v1395 v1398 v1401 v1423 v1424 c_m2147483648_i32_281
  exact ⟨_, fun i arg2 harg2 arg3 harg3 arg4 harg4 arg5 harg5 arg6 harg6 arg7 harg7 arg8 harg8 arg9 harg9 => by
    simp only [k0_t1_body, h1, h2, h3, h4, pure_bind]
    exact rfl⟩

/-- The five sweeps and the vectors taken from them touch no buffer. -/
theorem part27_pure (v1035 : FVec F S256x1 .f32) (v1038 : FVec F S256x16 .f32) (v1041 : FVec F S256x16 .f32) (v1044 : FVec F S256x16 .f32) (v1046 : FVec F S256x16 .f32) (v1048 : FVec F S256x16 .f32) (v1050 : FVec F S256x16 .f32) (v1056 : FVec F S256x1 .f32) (v1062 : FVec F S256x1 .f32) (v1068 : FVec F S256x1 .f32) (v1072 : FVec F S256x1 .f32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part27 (F := F) i arg2 harg2 arg3 harg3 arg4 harg4 arg5 harg5 arg6 harg6 arg7 harg7 arg8 harg8 arg9 harg9 v1035 v1038 v1041 v1044 v1046 v1048 v1050 v1056 v1062 v1068 v1072 = Pure.pure r := by
  choose g hg using sweep_pure (F := F) v1035 v1038 v1041 v1044 v1046 v1048 v1050 v1056 v1062 v1068 v1072
  exact ⟨_, fun i arg2 harg2 arg3 harg3 arg4 harg4 arg5 harg5 arg6 harg6 arg7 harg7 arg8 harg8 arg9 harg9 => by
    rw [k0_part27_eq_skeleton]
    unfold k0_part27_skel
    rw [Scf.Loop.for, Scf.for_pure _ _ _ _ _ _ g (fun k acc => hg k acc i arg2 harg2 arg3 harg3 arg4 harg4 arg5 harg5 arg6 harg6 arg7 harg7 arg8 harg8 arg9 harg9)]
    exact rfl⟩

/-- The vectors the program computes from the loaded rows before the selection starts. -/
structure Loaded (F : FTy → Type) where
  v2 : FVec F S256x1 .f32
  v3 : FVec F S256x1 .f32
  v4 : FVec F S256x1 .f32
  v6 : FVec F S1x2048 .f32
  v8 : FVec F S1x2048 .f32
  v10 : FVec F S1x2048 .f32
  v29 : IVec S1x2048 32
  v34 : FVec F S256x2048 .f32
  v38 : IVec S256x2048 1
  v40 : IVec S256x2048 32
  v41 : IVec S256x2048 32

/-! What every part returns, value by value, from the loaded rows: the selection of the neighbours in full, the rest as functions. -/

def N.v44 (i : grid0.Coords) (p : Loaded F) : IVec S256x1 32 := k0_pay59 p.v38 p.v40 p.v41

def N.v59 (i : grid0.Coords) (p : Loaded F) : IVec S256x1 32 := k0_pay61 p.v29 p.v34 p.v38 p.v40 p.v41

def N.v74 (i : grid0.Coords) (p : Loaded F) : IVec S256x1 32 := k0_pay63 p.v29 p.v34 p.v38 p.v40 p.v41

def N.v79 (i : grid0.Coords) (p : Loaded F) : FVec F S256x2048 .f32 := k0_pay64 p.v29 p.v34 p.v38 p.v40 p.v41

def N.v88 (i : grid0.Coords) (p : Loaded F) : IVec S256 32 := k0_pay65 p.v29 p.v34 p.v38 p.v40 p.v41

def N.v89 (i : grid0.Coords) (p : Loaded F) : IVec S256x1 32 := k0_pay66 (N.v88 i p)

def N.v104 (i : grid0.Coords) (p : Loaded F) : IVec S256x1 32 := k0_pay68 p.v29 (N.v79 i p) (N.v88 i p)

def N.v119 (i : grid0.Coords) (p : Loaded F) : IVec S256x1 32 := k0_pay70 p.v29 (N.v79 i p) (N.v88 i p)

def N.v124 (i : grid0.Coords) (p : Loaded F) : FVec F S256x2048 .f32 := k0_pay71 p.v29 (N.v79 i p) (N.v88 i p)

def N.v134 (i : grid0.Coords) (p : Loaded F) : IVec S256x1 32 := k0_pay72 p.v29 (N.v79 i p) (N.v88 i p)

def N.v135 (i : grid0.Coords) (p : Loaded F) : IVec S256x2048 32 := k0_pay73 p.v29

def N.v136 (i : grid0.Coords) (p : Loaded F) : IVec S256x2048 32 := k0_pay74 p.v29 (N.v79 i p) (N.v88 i p)

def N.v149 (i : grid0.Coords) (p : Loaded F) : IVec S256x1 32 := k0_pay76 p.v29 (N.v124 i p) (N.v135 i p) (N.v136 i p)

def N.v164 (i : grid0.Coords) (p : Loaded F) : IVec S256x1 32 := k0_pay78 p.v29 (N.v124 i p) (N.v135 i p) (N.v136 i p)

def N.v169 (i : grid0.Coords) (p : Loaded F) : FVec F S256x2048 .f32 := k0_pay79 p.v29 (N.v124 i p) (N.v135 i p) (N.v136 i p)

def N.v179 (i : grid0.Coords) (p : Loaded F) : IVec S256x1 32 := k0_pay80 p.v29 (N.v124 i p) (N.v135 i p) (N.v136 i p)

def N.v182 (i : grid0.Coords) (p : Loaded F) : IVec S256x2048 1 := k0_pay81 p.v29 (N.v124 i p) (N.v135 i p) (N.v136 i p)

def N.v183 (i : grid0.Coords) (p : Loaded F) : FVec F S256x2048 .f32 := k0_pay82 (F := F)

def N.v194 (i : grid0.Coords) (p : Loaded F) : IVec S256x1 32 := k0_pay84 p.v29 (N.v169 i p) (N.v182 i p) (N.v183 i p)

def N.v209 (i : grid0.Coords) (p : Loaded F) : IVec S256x1 32 := k0_pay86 p.v29 (N.v169 i p) (N.v182 i p) (N.v183 i p)

def N.v224 (i : grid0.Coords) (p : Loaded F) : IVec S256x1 32 := k0_pay88 p.v29 (N.v169 i p) (N.v182 i p) (N.v183 i p)

def N.v229 (i : grid0.Coords) (p : Loaded F) : FVec F S256x2048 .f32 := k0_pay89 p.v29 (N.v169 i p) (N.v182 i p) (N.v183 i p)

def N.v230 (i : grid0.Coords) (p : Loaded F) : FVec F S256 .f32 := k0_pay90 p.v29 (N.v169 i p) (N.v182 i p) (N.v183 i p)

def N.v270 (i : grid0.Coords) (p : Loaded F) : IVec S256x16 32 := k0_pay91 p.v29 (N.v44 i p) (N.v59 i p) (N.v74 i p) (N.v89 i p) (N.v104 i p) (N.v119 i p) (N.v134 i p) (N.v149 i p) (N.v164 i p) (N.v179 i p) (N.v194 i p) (N.v209 i p) (N.v224 i p) (N.v229 i p) (N.v230 i p)

def N.v272 (i : grid0.Coords) (p : Loaded F) : IVec S256x16 32 := k0_pay92 p.v29 (N.v44 i p) (N.v59 i p) (N.v74 i p) (N.v89 i p) (N.v104 i p) (N.v119 i p) (N.v134 i p) (N.v149 i p) (N.v164 i p) (N.v179 i p) (N.v194 i p) (N.v209 i p) (N.v224 i p) (N.v229 i p) (N.v230 i p)

def N.v276 (i : grid0.Coords) (p : Loaded F) : IVec S256x128 32 := k0_pay93 p.v29 (N.v44 i p) (N.v59 i p) (N.v74 i p) (N.v89 i p) (N.v104 i p) (N.v119 i p) (N.v134 i p) (N.v149 i p) (N.v164 i p) (N.v179 i p) (N.v194 i p) (N.v209 i p) (N.v224 i p) (N.v229 i p) (N.v230 i p)

def N.cst_71 (i : grid0.Coords) (p : Loaded F) : F .f32 := Scalar.ofBits .f32 0x00000000#32

def N.v322 (i : grid0.Coords) (p : Loaded F) : FVec F S256x16 .f32 := (part11_pure (F := F) p.v6 (N.v272 i p) (N.v276 i p) (N.cst_71 i p)).choose.1

def N.v325 (i : grid0.Coords) (p : Loaded F) : FVec F S256x128 .f32 := (part11_pure (F := F) p.v6 (N.v272 i p) (N.v276 i p) (N.cst_71 i p)).choose.2.1

def N.v326 (i : grid0.Coords) (p : Loaded F) : IVec S256x128 32 := (part11_pure (F := F) p.v6 (N.v272 i p) (N.v276 i p) (N.cst_71 i p)).choose.2.2

def N.v367 (i : grid0.Coords) (p : Loaded F) : FVec F S256x16 .f32 := (part12_pure (F := F) p.v6 (N.v272 i p) (N.v276 i p) (N.v322 i p) (N.v325 i p) (N.v326 i p)).choose.1

def N.v370 (i : grid0.Coords) (p : Loaded F) : FVec F S256x128 .f32 := (part12_pure (F := F) p.v6 (N.v272 i p) (N.v276 i p) (N.v322 i p) (N.v325 i p) (N.v326 i p)).choose.2.1

def N.v376 (i : grid0.Coords) (p : Loaded F) : IVec S256x128x1 32 := (part12_pure (F := F) p.v6 (N.v272 i p) (N.v276 i p) (N.v322 i p) (N.v325 i p) (N.v326 i p)).choose.2.2

def N.v412 (i : grid0.Coords) (p : Loaded F) : FVec F S256x16 .f32 := (part13_pure (F := F) p.v6 (N.v272 i p) (N.v276 i p) (N.v367 i p) (N.v370 i p) (N.v376 i p)).choose.1

def N.v424 (i : grid0.Coords) (p : Loaded F) : FVec F S256x16 .f32 := (part13_pure (F := F) p.v6 (N.v272 i p) (N.v276 i p) (N.v367 i p) (N.v370 i p) (N.v376 i p)).choose.2.1

def N.v426 (i : grid0.Coords) (p : Loaded F) : IVec S256x16 1 := (part13_pure (F := F) p.v6 (N.v272 i p) (N.v276 i p) (N.v367 i p) (N.v370 i p) (N.v376 i p)).choose.2.2

def N.v472 (i : grid0.Coords) (p : Loaded F) : FVec F S256x16 .f32 := (part14_pure (F := F) p.v6 (N.v272 i p) (N.v276 i p) (N.v412 i p) (N.v424 i p) (N.v426 i p)).choose.1

def N.v475 (i : grid0.Coords) (p : Loaded F) : FVec F S256x128 .f32 := (part14_pure (F := F) p.v6 (N.v272 i p) (N.v276 i p) (N.v412 i p) (N.v424 i p) (N.v426 i p)).choose.2.1

def N.v476 (i : grid0.Coords) (p : Loaded F) : IVec S256x128 32 := (part14_pure (F := F) p.v6 (N.v272 i p) (N.v276 i p) (N.v412 i p) (N.v424 i p) (N.v426 i p)).choose.2.2

def N.v519 (i : grid0.Coords) (p : Loaded F) : FVec F S256x16 .f32 := (part15_pure (F := F) p.v2 p.v6 (N.v270 i p) (N.v272 i p) (N.v276 i p) (N.v472 i p) (N.v475 i p) (N.v476 i p)).choose.1

def N.v521 (i : grid0.Coords) (p : Loaded F) : IVec S256x16 32 := (part15_pure (F := F) p.v2 p.v6 (N.v270 i p) (N.v272 i p) (N.v276 i p) (N.v472 i p) (N.v475 i p) (N.v476 i p)).choose.2.1

def N.v525 (i : grid0.Coords) (p : Loaded F) : IVec S256x128 32 := (part15_pure (F := F) p.v2 p.v6 (N.v270 i p) (N.v272 i p) (N.v276 i p) (N.v472 i p) (N.v475 i p) (N.v476 i p)).choose.2.2

def N.v571 (i : grid0.Coords) (p : Loaded F) : FVec F S256x16 .f32 := (part16_pure (F := F) p.v8 (N.v521 i p) (N.v525 i p)).choose.1

def N.v574 (i : grid0.Coords) (p : Loaded F) : FVec F S256x128 .f32 := (part16_pure (F := F) p.v8 (N.v521 i p) (N.v525 i p)).choose.2.1

def N.c0_i32_118 (i : grid0.Coords) (p : Loaded F) : BitVec 32 := (part16_pure (F := F) p.v8 (N.v521 i p) (N.v525 i p)).choose.2.2

def N.v616 (i : grid0.Coords) (p : Loaded F) : FVec F S256x16 .f32 := (part17_pure (F := F) p.v8 (N.v521 i p) (N.v525 i p) (N.v571 i p) (N.v574 i p) (N.c0_i32_118 i p)).choose.1

def N.v619 (i : grid0.Coords) (p : Loaded F) : FVec F S256x128 .f32 := (part17_pure (F := F) p.v8 (N.v521 i p) (N.v525 i p) (N.v571 i p) (N.v574 i p) (N.c0_i32_118 i p)).choose.2.1

def N.v624 (i : grid0.Coords) (p : Loaded F) : IVec S256x128 32 := (part17_pure (F := F) p.v8 (N.v521 i p) (N.v525 i p) (N.v571 i p) (N.v574 i p) (N.c0_i32_118 i p)).choose.2.2

def N.v661 (i : grid0.Coords) (p : Loaded F) : FVec F S256x16 .f32 := (part18_pure (F := F) p.v8 (N.v521 i p) (N.v525 i p) (N.v616 i p) (N.v619 i p) (N.v624 i p)).choose.1

def N.v673 (i : grid0.Coords) (p : Loaded F) : FVec F S256x16 .f32 := (part18_pure (F := F) p.v8 (N.v521 i p) (N.v525 i p) (N.v616 i p) (N.v619 i p) (N.v624 i p)).choose.2.1

def N.v674 (i : grid0.Coords) (p : Loaded F) : IVec S256x16 32 := (part18_pure (F := F) p.v8 (N.v521 i p) (N.v525 i p) (N.v616 i p) (N.v619 i p) (N.v624 i p)).choose.2.2

def N.v721 (i : grid0.Coords) (p : Loaded F) : FVec F S256x16 .f32 := (part19_pure (F := F) p.v8 (N.v521 i p) (N.v525 i p) (N.v661 i p) (N.v673 i p) (N.v674 i p)).choose.1

def N.v724 (i : grid0.Coords) (p : Loaded F) : FVec F S256x128 .f32 := (part19_pure (F := F) p.v8 (N.v521 i p) (N.v525 i p) (N.v661 i p) (N.v673 i p) (N.v674 i p)).choose.2.1

def N.c0_i32_148 (i : grid0.Coords) (p : Loaded F) : BitVec 32 := (part19_pure (F := F) p.v8 (N.v521 i p) (N.v525 i p) (N.v661 i p) (N.v673 i p) (N.v674 i p)).choose.2.2

def N.v768 (i : grid0.Coords) (p : Loaded F) : FVec F S256x16 .f32 := (part20_pure (F := F) p.v3 p.v8 (N.v270 i p) (N.v521 i p) (N.v525 i p) (N.v721 i p) (N.v724 i p) (N.c0_i32_148 i p)).choose.1

def N.v770 (i : grid0.Coords) (p : Loaded F) : IVec S256x16 32 := (part20_pure (F := F) p.v3 p.v8 (N.v270 i p) (N.v521 i p) (N.v525 i p) (N.v721 i p) (N.v724 i p) (N.c0_i32_148 i p)).choose.2.1

def N.v772 (i : grid0.Coords) (p : Loaded F) : IVec S256x16 32 := (part20_pure (F := F) p.v3 p.v8 (N.v270 i p) (N.v521 i p) (N.v525 i p) (N.v721 i p) (N.v724 i p) (N.c0_i32_148 i p)).choose.2.2.1

def N.v773 (i : grid0.Coords) (p : Loaded F) : IVec S256x112 32 := (part20_pure (F := F) p.v3 p.v8 (N.v270 i p) (N.v521 i p) (N.v525 i p) (N.v721 i p) (N.v724 i p) (N.c0_i32_148 i p)).choose.2.2.2

def N.v774 (i : grid0.Coords) (p : Loaded F) : IVec S256x128 32 := (part21_pure (F := F) p.v10 (N.v770 i p) (N.v772 i p) (N.v773 i p)).choose.1

def N.v820 (i : grid0.Coords) (p : Loaded F) : FVec F S256x16 .f32 := (part21_pure (F := F) p.v10 (N.v770 i p) (N.v772 i p) (N.v773 i p)).choose.2.1

def N.v823 (i : grid0.Coords) (p : Loaded F) : FVec F S256x128 .f32 := (part21_pure (F := F) p.v10 (N.v770 i p) (N.v772 i p) (N.v773 i p)).choose.2.2

def N.v865 (i : grid0.Coords) (p : Loaded F) : FVec F S256x16 .f32 := (part22_pure (F := F) p.v10 (N.v770 i p) (N.v774 i p) (N.v820 i p) (N.v823 i p)).choose.1

def N.v868 (i : grid0.Coords) (p : Loaded F) : FVec F S256x128 .f32 := (part22_pure (F := F) p.v10 (N.v770 i p) (N.v774 i p) (N.v820 i p) (N.v823 i p)).choose.2.1

def N.v870 (i : grid0.Coords) (p : Loaded F) : IVec S256x128 1 := (part22_pure (F := F) p.v10 (N.v770 i p) (N.v774 i p) (N.v820 i p) (N.v823 i p)).choose.2.2.1

def N.v872 (i : grid0.Coords) (p : Loaded F) : IVec S256x128 32 := (part22_pure (F := F) p.v10 (N.v770 i p) (N.v774 i p) (N.v820 i p) (N.v823 i p)).choose.2.2.2

def N.v910 (i : grid0.Coords) (p : Loaded F) : FVec F S256x16 .f32 := (part23_pure (F := F) p.v10 (N.v770 i p) (N.v774 i p) (N.v865 i p) (N.v868 i p) (N.v870 i p) (N.v872 i p)).choose.1

def N.v922 (i : grid0.Coords) (p : Loaded F) : FVec F S256x16 .f32 := (part23_pure (F := F) p.v10 (N.v770 i p) (N.v774 i p) (N.v865 i p) (N.v868 i p) (N.v870 i p) (N.v872 i p)).choose.2.1

def N.c9_i32_190 (i : grid0.Coords) (p : Loaded F) : BitVec 32 := (part23_pure (F := F) p.v10 (N.v770 i p) (N.v774 i p) (N.v865 i p) (N.v868 i p) (N.v870 i p) (N.v872 i p)).choose.2.2

def N.v970 (i : grid0.Coords) (p : Loaded F) : FVec F S256x16 .f32 := (part24_pure (F := F) p.v10 (N.v770 i p) (N.v774 i p) (N.v910 i p) (N.v922 i p) (N.c9_i32_190 i p)).choose.1

def N.v973 (i : grid0.Coords) (p : Loaded F) : FVec F S256x128 .f32 := (part24_pure (F := F) p.v10 (N.v770 i p) (N.v774 i p) (N.v910 i p) (N.v922 i p) (N.c9_i32_190 i p)).choose.2

def N.v1017 (i : grid0.Coords) (p : Loaded F) : FVec F S256x16 .f32 := (part25_pure (F := F) p.v4 p.v10 (N.v519 i p) (N.v768 i p) (N.v770 i p) (N.v774 i p) (N.v970 i p) (N.v973 i p)).choose.1

def N.v1022 (i : grid0.Coords) (p : Loaded F) : FVec F S256x16 .f32 := (part25_pure (F := F) p.v4 p.v10 (N.v519 i p) (N.v768 i p) (N.v770 i p) (N.v774 i p) (N.v970 i p) (N.v973 i p)).choose.2.1

def N.v1023 (i : grid0.Coords) (p : Loaded F) : FVec F S256x16 .f32 := (part25_pure (F := F) p.v4 p.v10 (N.v519 i p) (N.v768 i p) (N.v770 i p) (N.v774 i p) (N.v970 i p) (N.v973 i p)).choose.2.2

def N.v1035 (i : grid0.Coords) (p : Loaded F) : FVec F S256x1 .f32 := (part26_pure (F := F) (N.v519 i p) (N.v768 i p) (N.v1017 i p) (N.v1022 i p) (N.v1023 i p)).choose.1

def N.v1038 (i : grid0.Coords) (p : Loaded F) : FVec F S256x16 .f32 := (part26_pure (F := F) (N.v519 i p) (N.v768 i p) (N.v1017 i p) (N.v1022 i p) (N.v1023 i p)).choose.2.1

def N.v1041 (i : grid0.Coords) (p : Loaded F) : FVec F S256x16 .f32 := (part26_pure (F := F) (N.v519 i p) (N.v768 i p) (N.v1017 i p) (N.v1022 i p) (N.v1023 i p)).choose.2.2.1

def N.v1044 (i : grid0.Coords) (p : Loaded F) : FVec F S256x16 .f32 := (part26_pure (F := F) (N.v519 i p) (N.v768 i p) (N.v1017 i p) (N.v1022 i p) (N.v1023 i p)).choose.2.2.2.1

def N.v1046 (i : grid0.Coords) (p : Loaded F) : FVec F S256x16 .f32 := (part26_pure (F := F) (N.v519 i p) (N.v768 i p) (N.v1017 i p) (N.v1022 i p) (N.v1023 i p)).choose.2.2.2.2.1

def N.v1048 (i : grid0.Coords) (p : Loaded F) : FVec F S256x16 .f32 := (part26_pure (F := F) (N.v519 i p) (N.v768 i p) (N.v1017 i p) (N.v1022 i p) (N.v1023 i p)).choose.2.2.2.2.2.1

def N.v1050 (i : grid0.Coords) (p : Loaded F) : FVec F S256x16 .f32 := (part26_pure (F := F) (N.v519 i p) (N.v768 i p) (N.v1017 i p) (N.v1022 i p) (N.v1023 i p)).choose.2.2.2.2.2.2.1

def N.v1056 (i : grid0.Coords) (p : Loaded F) : FVec F S256x1 .f32 := (part26_pure (F := F) (N.v519 i p) (N.v768 i p) (N.v1017 i p) (N.v1022 i p) (N.v1023 i p)).choose.2.2.2.2.2.2.2.1

def N.v1062 (i : grid0.Coords) (p : Loaded F) : FVec F S256x1 .f32 := (part26_pure (F := F) (N.v519 i p) (N.v768 i p) (N.v1017 i p) (N.v1022 i p) (N.v1023 i p)).choose.2.2.2.2.2.2.2.2.1

def N.v1068 (i : grid0.Coords) (p : Loaded F) : FVec F S256x1 .f32 := (part26_pure (F := F) (N.v519 i p) (N.v768 i p) (N.v1017 i p) (N.v1022 i p) (N.v1023 i p)).choose.2.2.2.2.2.2.2.2.2.1

def N.v1072 (i : grid0.Coords) (p : Loaded F) : FVec F S256x1 .f32 := (part26_pure (F := F) (N.v519 i p) (N.v768 i p) (N.v1017 i p) (N.v1022 i p) (N.v1023 i p)).choose.2.2.2.2.2.2.2.2.2.2

def N.v1105_3 (i : grid0.Coords) (p : Loaded F) : FVec F S256x1 .f32 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.1

def N.v1105_5 (i : grid0.Coords) (p : Loaded F) : FVec F S256x1 .f32 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.2.1

def N.v1105_6 (i : grid0.Coords) (p : Loaded F) : FVec F S256x1 .f32 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.2.2.1

def N.v1105_7 (i : grid0.Coords) (p : Loaded F) : FVec F S256x1 .f32 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.2.2.2.1

def N.v1105_8 (i : grid0.Coords) (p : Loaded F) : FVec F S256x1 .f32 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.2.2.2.2.1

def N.v1105_9 (i : grid0.Coords) (p : Loaded F) : FVec F S256x1 .f32 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.2.2.2.2.2.1

def N.v1105_10 (i : grid0.Coords) (p : Loaded F) : FVec F S256x1 .f32 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.2.2.2.2.2.2.1

def N.v1105_11 (i : grid0.Coords) (p : Loaded F) : FVec F S256x1 .f32 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.2.2.2.2.2.2.2.1

def N.v1105_12 (i : grid0.Coords) (p : Loaded F) : FVec F S256x1 .f32 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.2.2.2.2.2.2.2.2.1

def N.v1105_13 (i : grid0.Coords) (p : Loaded F) : FVec F S256x1 .f32 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.2.2.2.2.2.2.2.2.2.1

def N.v1105_14 (i : grid0.Coords) (p : Loaded F) : FVec F S256x1 .f32 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.2.2.2.2.2.2.2.2.2.2.1

def N.v1109 (i : grid0.Coords) (p : Loaded F) : FVec F S256x1 .f32 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.2.2.2.2.2.2.2.2.2.2.2.1

def N.v1113 (i : grid0.Coords) (p : Loaded F) : FVec F S256x1 .f32 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.2.2.2.2.2.2.2.2.2.2.2.2.1

def N.v1117 (i : grid0.Coords) (p : Loaded F) : FVec F S256x1 .f32 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.2.2.2.2.2.2.2.2.2.2.2.2.2.1

def N.v1118 (i : grid0.Coords) (p : Loaded F) : IVec S256x1 1 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.2.2.2.2.2.2.2.2.2.2.2.2.2.2.1

def N.v1119 (i : grid0.Coords) (p : Loaded F) : IVec S256x1 1 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.2.2.2.2.2.2.2.2.2.2.2.2.2.2.2

def N.v1121 (i : grid0.Coords) (p : Loaded F) : FVec F S256x1 .f32 := (part28_pure (F := F) (N.v1046 i p) (N.v1048 i p) (N.v1050 i p) (N.v1105_3 i p) (N.v1105_5 i p) (N.v1105_6 i p) (N.v1105_7 i p) (N.v1105_8 i p) (N.v1105_9 i p) (N.v1105_10 i p) (N.v1105_11 i p) (N.v1105_12 i p) (N.v1105_13 i p) (N.v1105_14 i p) (N.v1109 i p) (N.v1113 i p) (N.v1117 i p) (N.v1118 i p) (N.v1119 i p)).choose.1

def N.v1160 (i : grid0.Coords) (p : Loaded F) : FVec F S256x1 .f32 := (part28_pure (F := F) (N.v1046 i p) (N.v1048 i p) (N.v1050 i p) (N.v1105_3 i p) (N.v1105_5 i p) (N.v1105_6 i p) (N.v1105_7 i p) (N.v1105_8 i p) (N.v1105_9 i p) (N.v1105_10 i p) (N.v1105_11 i p) (N.v1105_12 i p) (N.v1105_13 i p) (N.v1105_14 i p) (N.v1109 i p) (N.v1113 i p) (N.v1117 i p) (N.v1118 i p) (N.v1119 i p)).choose.2.1

def N.v1161 (i : grid0.Coords) (p : Loaded F) : FVec F S256x1 .f32 := (part28_pure (F := F) (N.v1046 i p) (N.v1048 i p) (N.v1050 i p) (N.v1105_3 i p) (N.v1105_5 i p) (N.v1105_6 i p) (N.v1105_7 i p) (N.v1105_8 i p) (N.v1105_9 i p) (N.v1105_10 i p) (N.v1105_11 i p) (N.v1105_12 i p) (N.v1105_13 i p) (N.v1105_14 i p) (N.v1109 i p) (N.v1113 i p) (N.v1117 i p) (N.v1118 i p) (N.v1119 i p)).choose.2.2.1

def N.v1162 (i : grid0.Coords) (p : Loaded F) : FVec F S256x1 .f32 := (part28_pure (F := F) (N.v1046 i p) (N.v1048 i p) (N.v1050 i p) (N.v1105_3 i p) (N.v1105_5 i p) (N.v1105_6 i p) (N.v1105_7 i p) (N.v1105_8 i p) (N.v1105_9 i p) (N.v1105_10 i p) (N.v1105_11 i p) (N.v1105_12 i p) (N.v1105_13 i p) (N.v1105_14 i p) (N.v1109 i p) (N.v1113 i p) (N.v1117 i p) (N.v1118 i p) (N.v1119 i p)).choose.2.2.2.1

def N.v1171 (i : grid0.Coords) (p : Loaded F) : FVec F S256x16 .f32 := (part28_pure (F := F) (N.v1046 i p) (N.v1048 i p) (N.v1050 i p) (N.v1105_3 i p) (N.v1105_5 i p) (N.v1105_6 i p) (N.v1105_7 i p) (N.v1105_8 i p) (N.v1105_9 i p) (N.v1105_10 i p) (N.v1105_11 i p) (N.v1105_12 i p) (N.v1105_13 i p) (N.v1105_14 i p) (N.v1109 i p) (N.v1113 i p) (N.v1117 i p) (N.v1118 i p) (N.v1119 i p)).choose.2.2.2.2.1

def N.v1173 (i : grid0.Coords) (p : Loaded F) : FVec F S256x1 .f32 := (part28_pure (F := F) (N.v1046 i p) (N.v1048 i p) (N.v1050 i p) (N.v1105_3 i p) (N.v1105_5 i p) (N.v1105_6 i p) (N.v1105_7 i p) (N.v1105_8 i p) (N.v1105_9 i p) (N.v1105_10 i p) (N.v1105_11 i p) (N.v1105_12 i p) (N.v1105_13 i p) (N.v1105_14 i p) (N.v1109 i p) (N.v1113 i p) (N.v1117 i p) (N.v1118 i p) (N.v1119 i p)).choose.2.2.2.2.2

def N.v1189 (i : grid0.Coords) (p : Loaded F) : FVec F S256x1 .f32 := (part29_pure (F := F) (N.v1046 i p) (N.v1048 i p) (N.v1050 i p) (N.v1113 i p) (N.v1117 i p) (N.v1121 i p) (N.v1160 i p) (N.v1161 i p) (N.v1162 i p) (N.v1171 i p) (N.v1173 i p)).choose.1

def N.v1190 (i : grid0.Coords) (p : Loaded F) : FVec F S256x1 .f32 := (part29_pure (F := F) (N.v1046 i p) (N.v1048 i p) (N.v1050 i p) (N.v1113 i p) (N.v1117 i p) (N.v1121 i p) (N.v1160 i p) (N.v1161 i p) (N.v1162 i p) (N.v1171 i p) (N.v1173 i p)).choose.2.1

def N.v1191 (i : grid0.Coords) (p : Loaded F) : FVec F S256x1 .f32 := (part29_pure (F := F) (N.v1046 i p) (N.v1048 i p) (N.v1050 i p) (N.v1113 i p) (N.v1117 i p) (N.v1121 i p) (N.v1160 i p) (N.v1161 i p) (N.v1162 i p) (N.v1171 i p) (N.v1173 i p)).choose.2.2.1

def N.v1214 (i : grid0.Coords) (p : Loaded F) : FVec F S256x16 .f32 := (part29_pure (F := F) (N.v1046 i p) (N.v1048 i p) (N.v1050 i p) (N.v1113 i p) (N.v1117 i p) (N.v1121 i p) (N.v1160 i p) (N.v1161 i p) (N.v1162 i p) (N.v1171 i p) (N.v1173 i p)).choose.2.2.2.1

def N.v1223 (i : grid0.Coords) (p : Loaded F) : FVec F S256x16 .f32 := (part29_pure (F := F) (N.v1046 i p) (N.v1048 i p) (N.v1050 i p) (N.v1113 i p) (N.v1117 i p) (N.v1121 i p) (N.v1160 i p) (N.v1161 i p) (N.v1162 i p) (N.v1171 i p) (N.v1173 i p)).choose.2.2.2.2.1

def N.v1227 (i : grid0.Coords) (p : Loaded F) : FVec F S256x16 .f32 := (part29_pure (F := F) (N.v1046 i p) (N.v1048 i p) (N.v1050 i p) (N.v1113 i p) (N.v1117 i p) (N.v1121 i p) (N.v1160 i p) (N.v1161 i p) (N.v1162 i p) (N.v1171 i p) (N.v1173 i p)).choose.2.2.2.2.2

theorem part6_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part6 (F := F) i arg2 harg2 arg3 harg3 arg4 harg4 arg5 harg5 arg6 harg6 arg7 harg7 arg8 harg8 arg9 harg9 p.v29 p.v34 p.v38 p.v40 p.v41 = Pure.pure ⟨N.v44 i p, N.v59 i p, N.v74 i p, N.v79 i p, N.v88 i p⟩ :=
  by rw [k0_part6_eq_skeleton]; rfl

theorem part7_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part7 (F := F) i arg2 harg2 arg3 harg3 arg4 harg4 arg5 harg5 arg6 harg6 arg7 harg7 arg8 harg8 arg9 harg9 p.v29 (N.v79 i p) (N.v88 i p) = Pure.pure ⟨N.v89 i p, N.v104 i p, N.v119 i p, N.v124 i p, N.v134 i p, N.v135 i p, N.v136 i p⟩ :=
  by rw [k0_part7_eq_skeleton]; rfl

theorem part8_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part8 (F := F) i arg2 harg2 arg3 harg3 arg4 harg4 arg5 harg5 arg6 harg6 arg7 harg7 arg8 harg8 arg9 harg9 p.v29 (N.v124 i p) (N.v135 i p) (N.v136 i p) = Pure.pure ⟨N.v149 i p, N.v164 i p, N.v169 i p, N.v179 i p, N.v182 i p, N.v183 i p⟩ :=
  by rw [k0_part8_eq_skeleton]; rfl

theorem part9_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part9 (F := F) i arg2 harg2 arg3 harg3 arg4 harg4 arg5 harg5 arg6 harg6 arg7 harg7 arg8 harg8 arg9 harg9 p.v29 (N.v169 i p) (N.v182 i p) (N.v183 i p) = Pure.pure ⟨N.v194 i p, N.v209 i p, N.v224 i p, N.v229 i p, N.v230 i p⟩ :=
  by rw [k0_part9_eq_skeleton]; rfl

theorem part10_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part10 (F := F) i arg2 harg2 arg3 harg3 arg4 harg4 arg5 harg5 arg6 harg6 arg7 harg7 arg8 harg8 arg9 harg9 p.v29 (N.v44 i p) (N.v59 i p) (N.v74 i p) (N.v89 i p) (N.v104 i p) (N.v119 i p) (N.v134 i p) (N.v149 i p) (N.v164 i p) (N.v179 i p) (N.v194 i p) (N.v209 i p) (N.v224 i p) (N.v229 i p) (N.v230 i p) = Pure.pure ⟨N.v270 i p, N.v272 i p, N.v276 i p, N.cst_71 i p⟩ :=
  by rw [k0_part10_eq_skeleton]; rfl

theorem part11_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part11 (F := F) i arg2 harg2 arg3 harg3 arg4 harg4 arg5 harg5 arg6 harg6 arg7 harg7 arg8 harg8 arg9 harg9 p.v6 (N.v272 i p) (N.v276 i p) (N.cst_71 i p) = Pure.pure ⟨N.v322 i p, N.v325 i p, N.v326 i p⟩ :=
  (part11_pure (F := F) p.v6 (N.v272 i p) (N.v276 i p) (N.cst_71 i p)).choose_spec i arg2 harg2 arg3 harg3 arg4 harg4 arg5 harg5 arg6 harg6 arg7 harg7 arg8 harg8 arg9 harg9

theorem part12_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part12 (F := F) i arg2 harg2 arg3 harg3 arg4 harg4 arg5 harg5 arg6 harg6 arg7 harg7 arg8 harg8 arg9 harg9 p.v6 (N.v272 i p) (N.v276 i p) (N.v322 i p) (N.v325 i p) (N.v326 i p) = Pure.pure ⟨N.v367 i p, N.v370 i p, N.v376 i p⟩ :=
  (part12_pure (F := F) p.v6 (N.v272 i p) (N.v276 i p) (N.v322 i p) (N.v325 i p) (N.v326 i p)).choose_spec i arg2 harg2 arg3 harg3 arg4 harg4 arg5 harg5 arg6 harg6 arg7 harg7 arg8 harg8 arg9 harg9

theorem part13_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part13 (F := F) i arg2 harg2 arg3 harg3 arg4 harg4 arg5 harg5 arg6 harg6 arg7 harg7 arg8 harg8 arg9 harg9 p.v6 (N.v272 i p) (N.v276 i p) (N.v367 i p) (N.v370 i p) (N.v376 i p) = Pure.pure ⟨N.v412 i p, N.v424 i p, N.v426 i p⟩ :=
  (part13_pure (F := F) p.v6 (N.v272 i p) (N.v276 i p) (N.v367 i p) (N.v370 i p) (N.v376 i p)).choose_spec i arg2 harg2 arg3 harg3 arg4 harg4 arg5 harg5 arg6 harg6 arg7 harg7 arg8 harg8 arg9 harg9

theorem part14_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part14 (F := F) i arg2 harg2 arg3 harg3 arg4 harg4 arg5 harg5 arg6 harg6 arg7 harg7 arg8 harg8 arg9 harg9 p.v6 (N.v272 i p) (N.v276 i p) (N.v412 i p) (N.v424 i p) (N.v426 i p) = Pure.pure ⟨N.v472 i p, N.v475 i p, N.v476 i p⟩ :=
  (part14_pure (F := F) p.v6 (N.v272 i p) (N.v276 i p) (N.v412 i p) (N.v424 i p) (N.v426 i p)).choose_spec i arg2 harg2 arg3 harg3 arg4 harg4 arg5 harg5 arg6 harg6 arg7 harg7 arg8 harg8 arg9 harg9

theorem part15_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part15 (F := F) i arg2 harg2 arg3 harg3 arg4 harg4 arg5 harg5 arg6 harg6 arg7 harg7 arg8 harg8 arg9 harg9 p.v2 p.v6 (N.v270 i p) (N.v272 i p) (N.v276 i p) (N.v472 i p) (N.v475 i p) (N.v476 i p) = Pure.pure ⟨N.v519 i p, N.v521 i p, N.v525 i p⟩ :=
  (part15_pure (F := F) p.v2 p.v6 (N.v270 i p) (N.v272 i p) (N.v276 i p) (N.v472 i p) (N.v475 i p) (N.v476 i p)).choose_spec i arg2 harg2 arg3 harg3 arg4 harg4 arg5 harg5 arg6 harg6 arg7 harg7 arg8 harg8 arg9 harg9

theorem part16_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part16 (F := F) i arg2 harg2 arg3 harg3 arg4 harg4 arg5 harg5 arg6 harg6 arg7 harg7 arg8 harg8 arg9 harg9 p.v8 (N.v521 i p) (N.v525 i p) = Pure.pure ⟨N.v571 i p, N.v574 i p, N.c0_i32_118 i p⟩ :=
  (part16_pure (F := F) p.v8 (N.v521 i p) (N.v525 i p)).choose_spec i arg2 harg2 arg3 harg3 arg4 harg4 arg5 harg5 arg6 harg6 arg7 harg7 arg8 harg8 arg9 harg9

theorem part17_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part17 (F := F) i arg2 harg2 arg3 harg3 arg4 harg4 arg5 harg5 arg6 harg6 arg7 harg7 arg8 harg8 arg9 harg9 p.v8 (N.v521 i p) (N.v525 i p) (N.v571 i p) (N.v574 i p) (N.c0_i32_118 i p) = Pure.pure ⟨N.v616 i p, N.v619 i p, N.v624 i p⟩ :=
  (part17_pure (F := F) p.v8 (N.v521 i p) (N.v525 i p) (N.v571 i p) (N.v574 i p) (N.c0_i32_118 i p)).choose_spec i arg2 harg2 arg3 harg3 arg4 harg4 arg5 harg5 arg6 harg6 arg7 harg7 arg8 harg8 arg9 harg9

theorem part18_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part18 (F := F) i arg2 harg2 arg3 harg3 arg4 harg4 arg5 harg5 arg6 harg6 arg7 harg7 arg8 harg8 arg9 harg9 p.v8 (N.v521 i p) (N.v525 i p) (N.v616 i p) (N.v619 i p) (N.v624 i p) = Pure.pure ⟨N.v661 i p, N.v673 i p, N.v674 i p⟩ :=
  (part18_pure (F := F) p.v8 (N.v521 i p) (N.v525 i p) (N.v616 i p) (N.v619 i p) (N.v624 i p)).choose_spec i arg2 harg2 arg3 harg3 arg4 harg4 arg5 harg5 arg6 harg6 arg7 harg7 arg8 harg8 arg9 harg9

theorem part19_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part19 (F := F) i arg2 harg2 arg3 harg3 arg4 harg4 arg5 harg5 arg6 harg6 arg7 harg7 arg8 harg8 arg9 harg9 p.v8 (N.v521 i p) (N.v525 i p) (N.v661 i p) (N.v673 i p) (N.v674 i p) = Pure.pure ⟨N.v721 i p, N.v724 i p, N.c0_i32_148 i p⟩ :=
  (part19_pure (F := F) p.v8 (N.v521 i p) (N.v525 i p) (N.v661 i p) (N.v673 i p) (N.v674 i p)).choose_spec i arg2 harg2 arg3 harg3 arg4 harg4 arg5 harg5 arg6 harg6 arg7 harg7 arg8 harg8 arg9 harg9

theorem part20_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part20 (F := F) i arg2 harg2 arg3 harg3 arg4 harg4 arg5 harg5 arg6 harg6 arg7 harg7 arg8 harg8 arg9 harg9 p.v3 p.v8 (N.v270 i p) (N.v521 i p) (N.v525 i p) (N.v721 i p) (N.v724 i p) (N.c0_i32_148 i p) = Pure.pure ⟨N.v768 i p, N.v770 i p, N.v772 i p, N.v773 i p⟩ :=
  (part20_pure (F := F) p.v3 p.v8 (N.v270 i p) (N.v521 i p) (N.v525 i p) (N.v721 i p) (N.v724 i p) (N.c0_i32_148 i p)).choose_spec i arg2 harg2 arg3 harg3 arg4 harg4 arg5 harg5 arg6 harg6 arg7 harg7 arg8 harg8 arg9 harg9

theorem part21_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part21 (F := F) i arg2 harg2 arg3 harg3 arg4 harg4 arg5 harg5 arg6 harg6 arg7 harg7 arg8 harg8 arg9 harg9 p.v10 (N.v770 i p) (N.v772 i p) (N.v773 i p) = Pure.pure ⟨N.v774 i p, N.v820 i p, N.v823 i p⟩ :=
  (part21_pure (F := F) p.v10 (N.v770 i p) (N.v772 i p) (N.v773 i p)).choose_spec i arg2 harg2 arg3 harg3 arg4 harg4 arg5 harg5 arg6 harg6 arg7 harg7 arg8 harg8 arg9 harg9

theorem part22_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part22 (F := F) i arg2 harg2 arg3 harg3 arg4 harg4 arg5 harg5 arg6 harg6 arg7 harg7 arg8 harg8 arg9 harg9 p.v10 (N.v770 i p) (N.v774 i p) (N.v820 i p) (N.v823 i p) = Pure.pure ⟨N.v865 i p, N.v868 i p, N.v870 i p, N.v872 i p⟩ :=
  (part22_pure (F := F) p.v10 (N.v770 i p) (N.v774 i p) (N.v820 i p) (N.v823 i p)).choose_spec i arg2 harg2 arg3 harg3 arg4 harg4 arg5 harg5 arg6 harg6 arg7 harg7 arg8 harg8 arg9 harg9

theorem part23_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part23 (F := F) i arg2 harg2 arg3 harg3 arg4 harg4 arg5 harg5 arg6 harg6 arg7 harg7 arg8 harg8 arg9 harg9 p.v10 (N.v770 i p) (N.v774 i p) (N.v865 i p) (N.v868 i p) (N.v870 i p) (N.v872 i p) = Pure.pure ⟨N.v910 i p, N.v922 i p, N.c9_i32_190 i p⟩ :=
  (part23_pure (F := F) p.v10 (N.v770 i p) (N.v774 i p) (N.v865 i p) (N.v868 i p) (N.v870 i p) (N.v872 i p)).choose_spec i arg2 harg2 arg3 harg3 arg4 harg4 arg5 harg5 arg6 harg6 arg7 harg7 arg8 harg8 arg9 harg9

theorem part24_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part24 (F := F) i arg2 harg2 arg3 harg3 arg4 harg4 arg5 harg5 arg6 harg6 arg7 harg7 arg8 harg8 arg9 harg9 p.v10 (N.v770 i p) (N.v774 i p) (N.v910 i p) (N.v922 i p) (N.c9_i32_190 i p) = Pure.pure ⟨N.v970 i p, N.v973 i p⟩ :=
  (part24_pure (F := F) p.v10 (N.v770 i p) (N.v774 i p) (N.v910 i p) (N.v922 i p) (N.c9_i32_190 i p)).choose_spec i arg2 harg2 arg3 harg3 arg4 harg4 arg5 harg5 arg6 harg6 arg7 harg7 arg8 harg8 arg9 harg9

theorem part25_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part25 (F := F) i arg2 harg2 arg3 harg3 arg4 harg4 arg5 harg5 arg6 harg6 arg7 harg7 arg8 harg8 arg9 harg9 p.v4 p.v10 (N.v519 i p) (N.v768 i p) (N.v770 i p) (N.v774 i p) (N.v970 i p) (N.v973 i p) = Pure.pure ⟨N.v1017 i p, N.v1022 i p, N.v1023 i p⟩ :=
  (part25_pure (F := F) p.v4 p.v10 (N.v519 i p) (N.v768 i p) (N.v770 i p) (N.v774 i p) (N.v970 i p) (N.v973 i p)).choose_spec i arg2 harg2 arg3 harg3 arg4 harg4 arg5 harg5 arg6 harg6 arg7 harg7 arg8 harg8 arg9 harg9

theorem part26_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part26 (F := F) i arg2 harg2 arg3 harg3 arg4 harg4 arg5 harg5 arg6 harg6 arg7 harg7 arg8 harg8 arg9 harg9 (N.v519 i p) (N.v768 i p) (N.v1017 i p) (N.v1022 i p) (N.v1023 i p) = Pure.pure ⟨N.v1035 i p, N.v1038 i p, N.v1041 i p, N.v1044 i p, N.v1046 i p, N.v1048 i p, N.v1050 i p, N.v1056 i p, N.v1062 i p, N.v1068 i p, N.v1072 i p⟩ :=
  (part26_pure (F := F) (N.v519 i p) (N.v768 i p) (N.v1017 i p) (N.v1022 i p) (N.v1023 i p)).choose_spec i arg2 harg2 arg3 harg3 arg4 harg4 arg5 harg5 arg6 harg6 arg7 harg7 arg8 harg8 arg9 harg9

theorem part27_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part27 (F := F) i arg2 harg2 arg3 harg3 arg4 harg4 arg5 harg5 arg6 harg6 arg7 harg7 arg8 harg8 arg9 harg9 (N.v1035 i p) (N.v1038 i p) (N.v1041 i p) (N.v1044 i p) (N.v1046 i p) (N.v1048 i p) (N.v1050 i p) (N.v1056 i p) (N.v1062 i p) (N.v1068 i p) (N.v1072 i p) = Pure.pure ⟨N.v1105_3 i p, N.v1105_5 i p, N.v1105_6 i p, N.v1105_7 i p, N.v1105_8 i p, N.v1105_9 i p, N.v1105_10 i p, N.v1105_11 i p, N.v1105_12 i p, N.v1105_13 i p, N.v1105_14 i p, N.v1109 i p, N.v1113 i p, N.v1117 i p, N.v1118 i p, N.v1119 i p⟩ :=
  (part27_pure (F := F) (N.v1035 i p) (N.v1038 i p) (N.v1041 i p) (N.v1044 i p) (N.v1046 i p) (N.v1048 i p) (N.v1050 i p) (N.v1056 i p) (N.v1062 i p) (N.v1068 i p) (N.v1072 i p)).choose_spec i arg2 harg2 arg3 harg3 arg4 harg4 arg5 harg5 arg6 harg6 arg7 harg7 arg8 harg8 arg9 harg9

theorem part28_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part28 (F := F) i arg2 harg2 arg3 harg3 arg4 harg4 arg5 harg5 arg6 harg6 arg7 harg7 arg8 harg8 arg9 harg9 (N.v1046 i p) (N.v1048 i p) (N.v1050 i p) (N.v1105_3 i p) (N.v1105_5 i p) (N.v1105_6 i p) (N.v1105_7 i p) (N.v1105_8 i p) (N.v1105_9 i p) (N.v1105_10 i p) (N.v1105_11 i p) (N.v1105_12 i p) (N.v1105_13 i p) (N.v1105_14 i p) (N.v1109 i p) (N.v1113 i p) (N.v1117 i p) (N.v1118 i p) (N.v1119 i p) = Pure.pure ⟨N.v1121 i p, N.v1160 i p, N.v1161 i p, N.v1162 i p, N.v1171 i p, N.v1173 i p⟩ :=
  (part28_pure (F := F) (N.v1046 i p) (N.v1048 i p) (N.v1050 i p) (N.v1105_3 i p) (N.v1105_5 i p) (N.v1105_6 i p) (N.v1105_7 i p) (N.v1105_8 i p) (N.v1105_9 i p) (N.v1105_10 i p) (N.v1105_11 i p) (N.v1105_12 i p) (N.v1105_13 i p) (N.v1105_14 i p) (N.v1109 i p) (N.v1113 i p) (N.v1117 i p) (N.v1118 i p) (N.v1119 i p)).choose_spec i arg2 harg2 arg3 harg3 arg4 harg4 arg5 harg5 arg6 harg6 arg7 harg7 arg8 harg8 arg9 harg9

theorem part29_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part29 (F := F) i arg2 harg2 arg3 harg3 arg4 harg4 arg5 harg5 arg6 harg6 arg7 harg7 arg8 harg8 arg9 harg9 (N.v1046 i p) (N.v1048 i p) (N.v1050 i p) (N.v1113 i p) (N.v1117 i p) (N.v1121 i p) (N.v1160 i p) (N.v1161 i p) (N.v1162 i p) (N.v1171 i p) (N.v1173 i p) = Pure.pure ⟨N.v1189 i p, N.v1190 i p, N.v1191 i p, N.v1214 i p, N.v1223 i p, N.v1227 i p⟩ :=
  (part29_pure (F := F) (N.v1046 i p) (N.v1048 i p) (N.v1050 i p) (N.v1113 i p) (N.v1117 i p) (N.v1121 i p) (N.v1160 i p) (N.v1161 i p) (N.v1162 i p) (N.v1171 i p) (N.v1173 i p)).choose_spec i arg2 harg2 arg3 harg3 arg4 harg4 arg5 harg5 arg6 harg6 arg7 harg7 arg8 harg8 arg9 harg9

abbrev r3 : Rect S1x256x3 := Rect.unit (s := S1x256x3) ![0, 0, 0] S1x256x3.size inb_S1x256x3_S1x256x3_0_0_0
abbrev r16 : Rect S1x256x16 := Rect.unit (s := S1x256x16) ![0, 0, 0] S1x256x16.size inb_S1x256x16_S1x256x16_0_0_0
abbrev r1 : Rect S1x256x1 := Rect.unit (s := S1x256x1) ![0, 0, 0] S1x256x1.size inb_S1x256x1_S1x256x1_0_0_0
abbrev q0 : Rect S1x3x2048 := Rect.unit (s := S1x3x2048) ![0, 0, 0] S1x1x2048.size inb_S1x3x2048_S1x1x2048_0_0_0
abbrev q1 : Rect S1x3x2048 := Rect.unit (s := S1x3x2048) ![0, 1, 0] S1x1x2048.size inb_S1x3x2048_S1x1x2048_0_1_0
abbrev q2 : Rect S1x3x2048 := Rect.unit (s := S1x3x2048) ![0, 2, 0] S1x1x2048.size inb_S1x3x2048_S1x1x2048_0_2_0

/-- What the program computes from the loaded rows before its first part ends. -/
def loaded (i : grid0.Coords) (x0 : Vec F S1x256x3 .f32) (x1 : Vec F S1x3x2048 .f32) : Loaded F :=
  ⟨k0_pay49 (View.ld x0 r3), k0_pay50 (View.ld x0 r3), k0_pay51 (View.ld x0 r3), k0_pay52 (View.ld x1 q0), k0_pay53 (View.ld x1 q1), k0_pay54 (View.ld x1 q2), iota .tc S1x2048 32 [1] iota_S1x2048_d1_w32, k0_pay55 i (View.ld x0 r3) (View.ld x1 q0) (View.ld x1 q1) (View.ld x1 q2), k0_pay56 i (View.ld x0 r3) (View.ld x1 q0) (View.ld x1 q1) (View.ld x1 q2), k0_pay57, k0_pay58⟩

/-- The program after its loads. -/
def rest (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) : Prog (TpuEff nD τ sig (Elt F) Λ₀ .tc) PUnit := do
  let ⟨v44, v59, v74, v79, v88⟩ : Σ' (v44 : IVec S256x1 32) (v59 : IVec S256x1 32) (v74 : IVec S256x1 32) (v79 : FVec F S256x2048 .f32), IVec S256 32 ← k0_part6 i arg2 harg2 arg3 harg3 arg4 harg4 arg5 harg5 arg6 harg6 arg7 harg7 arg8 harg8 arg9 harg9 p.v29 p.v34 p.v38 p.v40 p.v41
  let ⟨v89, v104, v119, v124, v134, v135, v136⟩ : Σ' (v89 : IVec S256x1 32) (v104 : IVec S256x1 32) (v119 : IVec S256x1 32) (v124 : FVec F S256x2048 .f32) (v134 : IVec S256x1 32) (v135 : IVec S256x2048 32), IVec S256x2048 32 ← k0_part7 i arg2 harg2 arg3 harg3 arg4 harg4 arg5 harg5 arg6 harg6 arg7 harg7 arg8 harg8 arg9 harg9 p.v29 v79 v88
  let ⟨v149, v164, v169, v179, v182, v183⟩ : Σ' (v149 : IVec S256x1 32) (v164 : IVec S256x1 32) (v169 : FVec F S256x2048 .f32) (v179 : IVec S256x1 32) (v182 : IVec S256x2048 1), FVec F S256x2048 .f32 ← k0_part8 i arg2 harg2 arg3 harg3 arg4 harg4 arg5 harg5 arg6 harg6 arg7 harg7 arg8 harg8 arg9 harg9 p.v29 v124 v135 v136
  let ⟨v194, v209, v224, v229, v230⟩ : Σ' (v194 : IVec S256x1 32) (v209 : IVec S256x1 32) (v224 : IVec S256x1 32) (v229 : FVec F S256x2048 .f32), FVec F S256 .f32 ← k0_part9 i arg2 harg2 arg3 harg3 arg4 harg4 arg5 harg5 arg6 harg6 arg7 harg7 arg8 harg8 arg9 harg9 p.v29 v169 v182 v183
  let ⟨v270, v272, v276, cst_71⟩ : Σ' (v270 : IVec S256x16 32) (v272 : IVec S256x16 32) (v276 : IVec S256x128 32), F .f32 ← k0_part10 i arg2 harg2 arg3 harg3 arg4 harg4 arg5 harg5 arg6 harg6 arg7 harg7 arg8 harg8 arg9 harg9 p.v29 v44 v59 v74 v89 v104 v119 v134 v149 v164 v179 v194 v209 v224 v229 v230
  let ⟨v322, v325, v326⟩ : Σ' (v322 : FVec F S256x16 .f32) (v325 : FVec F S256x128 .f32), IVec S256x128 32 ← k0_part11 i arg2 harg2 arg3 harg3 arg4 harg4 arg5 harg5 arg6 harg6 arg7 harg7 arg8 harg8 arg9 harg9 p.v6 v272 v276 cst_71
  let ⟨v367, v370, v376⟩ : Σ' (v367 : FVec F S256x16 .f32) (v370 : FVec F S256x128 .f32), IVec S256x128x1 32 ← k0_part12 i arg2 harg2 arg3 harg3 arg4 harg4 arg5 harg5 arg6 harg6 arg7 harg7 arg8 harg8 arg9 harg9 p.v6 v272 v276 v322 v325 v326
  let ⟨v412, v424, v426⟩ : Σ' (v412 : FVec F S256x16 .f32) (v424 : FVec F S256x16 .f32), IVec S256x16 1 ← k0_part13 i arg2 harg2 arg3 harg3 arg4 harg4 arg5 harg5 arg6 harg6 arg7 harg7 arg8 harg8 arg9 harg9 p.v6 v272 v276 v367 v370 v376
  let ⟨v472, v475, v476⟩ : Σ' (v472 : FVec F S256x16 .f32) (v475 : FVec F S256x128 .f32), IVec S256x128 32 ← k0_part14 i arg2 harg2 arg3 harg3 arg4 harg4 arg5 harg5 arg6 harg6 arg7 harg7 arg8 harg8 arg9 harg9 p.v6 v272 v276 v412 v424 v426
  let ⟨v519, v521, v525⟩ : Σ' (v519 : FVec F S256x16 .f32) (v521 : IVec S256x16 32), IVec S256x128 32 ← k0_part15 i arg2 harg2 arg3 harg3 arg4 harg4 arg5 harg5 arg6 harg6 arg7 harg7 arg8 harg8 arg9 harg9 p.v2 p.v6 v270 v272 v276 v472 v475 v476
  let ⟨v571, v574, c0_i32_118⟩ : Σ' (v571 : FVec F S256x16 .f32) (v574 : FVec F S256x128 .f32), BitVec 32 ← k0_part16 i arg2 harg2 arg3 harg3 arg4 harg4 arg5 harg5 arg6 harg6 arg7 harg7 arg8 harg8 arg9 harg9 p.v8 v521 v525
  let ⟨v616, v619, v624⟩ : Σ' (v616 : FVec F S256x16 .f32) (v619 : FVec F S256x128 .f32), IVec S256x128 32 ← k0_part17 i arg2 harg2 arg3 harg3 arg4 harg4 arg5 harg5 arg6 harg6 arg7 harg7 arg8 harg8 arg9 harg9 p.v8 v521 v525 v571 v574 c0_i32_118
  let ⟨v661, v673, v674⟩ : Σ' (v661 : FVec F S256x16 .f32) (v673 : FVec F S256x16 .f32), IVec S256x16 32 ← k0_part18 i arg2 harg2 arg3 harg3 arg4 harg4 arg5 harg5 arg6 harg6 arg7 harg7 arg8 harg8 arg9 harg9 p.v8 v521 v525 v616 v619 v624
  let ⟨v721, v724, c0_i32_148⟩ : Σ' (v721 : FVec F S256x16 .f32) (v724 : FVec F S256x128 .f32), BitVec 32 ← k0_part19 i arg2 harg2 arg3 harg3 arg4 harg4 arg5 harg5 arg6 harg6 arg7 harg7 arg8 harg8 arg9 harg9 p.v8 v521 v525 v661 v673 v674
  let ⟨v768, v770, v772, v773⟩ : Σ' (v768 : FVec F S256x16 .f32) (v770 : IVec S256x16 32) (v772 : IVec S256x16 32), IVec S256x112 32 ← k0_part20 i arg2 harg2 arg3 harg3 arg4 harg4 arg5 harg5 arg6 harg6 arg7 harg7 arg8 harg8 arg9 harg9 p.v3 p.v8 v270 v521 v525 v721 v724 c0_i32_148
  let ⟨v774, v820, v823⟩ : Σ' (v774 : IVec S256x128 32) (v820 : FVec F S256x16 .f32), FVec F S256x128 .f32 ← k0_part21 i arg2 harg2 arg3 harg3 arg4 harg4 arg5 harg5 arg6 harg6 arg7 harg7 arg8 harg8 arg9 harg9 p.v10 v770 v772 v773
  let ⟨v865, v868, v870, v872⟩ : Σ' (v865 : FVec F S256x16 .f32) (v868 : FVec F S256x128 .f32) (v870 : IVec S256x128 1), IVec S256x128 32 ← k0_part22 i arg2 harg2 arg3 harg3 arg4 harg4 arg5 harg5 arg6 harg6 arg7 harg7 arg8 harg8 arg9 harg9 p.v10 v770 v774 v820 v823
  let ⟨v910, v922, c9_i32_190⟩ : Σ' (v910 : FVec F S256x16 .f32) (v922 : FVec F S256x16 .f32), BitVec 32 ← k0_part23 i arg2 harg2 arg3 harg3 arg4 harg4 arg5 harg5 arg6 harg6 arg7 harg7 arg8 harg8 arg9 harg9 p.v10 v770 v774 v865 v868 v870 v872
  let ⟨v970, v973⟩ : Σ' (v970 : FVec F S256x16 .f32), FVec F S256x128 .f32 ← k0_part24 i arg2 harg2 arg3 harg3 arg4 harg4 arg5 harg5 arg6 harg6 arg7 harg7 arg8 harg8 arg9 harg9 p.v10 v770 v774 v910 v922 c9_i32_190
  let ⟨v1017, v1022, v1023⟩ : Σ' (v1017 : FVec F S256x16 .f32) (v1022 : FVec F S256x16 .f32), FVec F S256x16 .f32 ← k0_part25 i arg2 harg2 arg3 harg3 arg4 harg4 arg5 harg5 arg6 harg6 arg7 harg7 arg8 harg8 arg9 harg9 p.v4 p.v10 v519 v768 v770 v774 v970 v973
  let ⟨v1035, v1038, v1041, v1044, v1046, v1048, v1050, v1056, v1062, v1068, v1072⟩ : Σ' (v1035 : FVec F S256x1 .f32) (v1038 : FVec F S256x16 .f32) (v1041 : FVec F S256x16 .f32) (v1044 : FVec F S256x16 .f32) (v1046 : FVec F S256x16 .f32) (v1048 : FVec F S256x16 .f32) (v1050 : FVec F S256x16 .f32) (v1056 : FVec F S256x1 .f32) (v1062 : FVec F S256x1 .f32) (v1068 : FVec F S256x1 .f32), FVec F S256x1 .f32 ← k0_part26 i arg2 harg2 arg3 harg3 arg4 harg4 arg5 harg5 arg6 harg6 arg7 harg7 arg8 harg8 arg9 harg9 v519 v768 v1017 v1022 v1023
  let ⟨v1105_3, v1105_5, v1105_6, v1105_7, v1105_8, v1105_9, v1105_10, v1105_11, v1105_12, v1105_13, v1105_14, v1109, v1113, v1117, v1118, v1119⟩ : Σ' (v1105_3 : FVec F S256x1 .f32) (v1105_5 : FVec F S256x1 .f32) (v1105_6 : FVec F S256x1 .f32) (v1105_7 : FVec F S256x1 .f32) (v1105_8 : FVec F S256x1 .f32) (v1105_9 : FVec F S256x1 .f32) (v1105_10 : FVec F S256x1 .f32) (v1105_11 : FVec F S256x1 .f32) (v1105_12 : FVec F S256x1 .f32) (v1105_13 : FVec F S256x1 .f32) (v1105_14 : FVec F S256x1 .f32) (v1109 : FVec F S256x1 .f32) (v1113 : FVec F S256x1 .f32) (v1117 : FVec F S256x1 .f32) (v1118 : IVec S256x1 1), IVec S256x1 1 ← k0_part27 i arg2 harg2 arg3 harg3 arg4 harg4 arg5 harg5 arg6 harg6 arg7 harg7 arg8 harg8 arg9 harg9 v1035 v1038 v1041 v1044 v1046 v1048 v1050 v1056 v1062 v1068 v1072
  let ⟨v1121, v1160, v1161, v1162, v1171, v1173⟩ : Σ' (v1121 : FVec F S256x1 .f32) (v1160 : FVec F S256x1 .f32) (v1161 : FVec F S256x1 .f32) (v1162 : FVec F S256x1 .f32) (v1171 : FVec F S256x16 .f32), FVec F S256x1 .f32 ← k0_part28 i arg2 harg2 arg3 harg3 arg4 harg4 arg5 harg5 arg6 harg6 arg7 harg7 arg8 harg8 arg9 harg9 v1046 v1048 v1050 v1105_3 v1105_5 v1105_6 v1105_7 v1105_8 v1105_9 v1105_10 v1105_11 v1105_12 v1105_13 v1105_14 v1109 v1113 v1117 v1118 v1119
  let ⟨v1189, v1190, v1191, v1214, v1223, v1227⟩ : Σ' (v1189 : FVec F S256x1 .f32) (v1190 : FVec F S256x1 .f32) (v1191 : FVec F S256x1 .f32) (v1214 : FVec F S256x16 .f32) (v1223 : FVec F S256x16 .f32), FVec F S256x16 .f32 ← k0_part29 i arg2 harg2 arg3 harg3 arg4 harg4 arg5 harg5 arg6 harg6 arg7 harg7 arg8 harg8 arg9 harg9 v1046 v1048 v1050 v1113 v1117 v1121 v1160 v1161 v1162 v1171 v1173
  let ⟨v1262, v1263⟩ : Σ' (v1262 : FVec F S256x1 .f32), Vec F S1x256x1 .f32 ← k0_part30 i arg2 harg2 arg3 harg3 arg4 harg4 arg5 harg5 arg6 harg6 arg7 harg7 arg8 harg8 arg9 harg9 v270 v1046 v1048 v1050 v1160 v1161 v1162 v1189 v1190 v1191 v1214 v1223 v1227
  Prog.lift (.store arg9 (Rect.unit (s := S1x256x1) ![0, 0, 0] S1x256x1.size inb_S1x256x1_S1x256x1_0_0_0) (k0_pay1 v1262) Finset.univ (View.stores_vmem_bits_univ h_S1x256x1 rfl) (.inl rfl))
  pure ⟨⟩

/-- The program after its loads is its stores, of values computed purely. -/
theorem rest_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    rest (F := F) i p arg2 harg2 arg3 harg3 arg4 harg4 arg5 harg5 arg6 harg6 arg7 harg7 arg8 harg8 arg9 harg9 = (do
    let ⟨v1262, v1263⟩ : Σ' (v1262 : FVec F S256x1 .f32), Vec F S1x256x1 .f32 ← k0_part30 i arg2 harg2 arg3 harg3 arg4 harg4 arg5 harg5 arg6 harg6 arg7 harg7 arg8 harg8 arg9 harg9 (N.v270 i p) (N.v1046 i p) (N.v1048 i p) (N.v1050 i p) (N.v1160 i p) (N.v1161 i p) (N.v1162 i p) (N.v1189 i p) (N.v1190 i p) (N.v1191 i p) (N.v1214 i p) (N.v1223 i p) (N.v1227 i p)
    Prog.lift (.store arg9 (Rect.unit (s := S1x256x1) ![0, 0, 0] S1x256x1.size inb_S1x256x1_S1x256x1_0_0_0) (k0_pay1 v1262) Finset.univ (View.stores_vmem_bits_univ h_S1x256x1 rfl) (.inl rfl))
    pure ⟨⟩) := by
  unfold rest
  simp only [part6_eq, part7_eq, part8_eq, part9_eq, part10_eq, part11_eq, part12_eq, part13_eq, part14_eq, part15_eq, part16_eq, part17_eq, part18_eq, part19_eq, part20_eq, part21_eq, part22_eq, part23_eq, part24_eq, part25_eq, part26_eq, part27_eq, part28_eq, part29_eq, pure_bind]

theorem root_eq (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    cc0__lrf_kernel (F := F) i arg2 harg2 arg3 harg3 arg4 harg4 arg5 harg5 arg6 harg6 arg7 harg7 arg8 harg8 arg9 harg9 = (k0_part5 i arg2 harg2 arg3 harg3 arg4 harg4 arg5 harg5 arg6 harg6 arg7 harg7 arg8 harg8 arg9 harg9 >>= fun ⟨v2, v3, v4, v6, v8, v10, v29, v34, v38, v40, v41⟩ =>
      rest i ⟨v2, v3, v4, v6, v8, v10, v29, v34, v38, v40, v41⟩ arg2 harg2 arg3 harg3 arg4 harg4 arg5 harg5 arg6 harg6 arg7 harg7 arg8 harg8 arg9 harg9) := by
  rw [cc0__lrf_kernel_eq_skeleton]; rfl

/-- Each output's buffer after the body at point `i`, from the two input blocks. -/
def out2 (i : grid0.Coords) (x0 : Vec F S1x256x3 .f32) (x1 : Vec F S1x3x2048 .f32) : Vec F S1x256x16 .f32 :=
  View.canon [⟨r16, k0_pay186 (N.v1214 i (loaded i x0 x1))⟩]
def out3 (i : grid0.Coords) (x0 : Vec F S1x256x3 .f32) (x1 : Vec F S1x3x2048 .f32) : Vec F S1x256x16 .f32 :=
  View.canon [⟨r16, k0_pay187 (N.v1223 i (loaded i x0 x1)) (N.v1227 i (loaded i x0 x1))⟩]
def out4 (i : grid0.Coords) (x0 : Vec F S1x256x3 .f32) (x1 : Vec F S1x3x2048 .f32) : Vec F S1x256x16 .f32 :=
  View.canon [⟨r16, k0_pay188 (N.v1046 i (loaded i x0 x1)) (N.v1048 i (loaded i x0 x1)) (N.v1050 i (loaded i x0 x1)) (N.v1160 i (loaded i x0 x1)) (N.v1161 i (loaded i x0 x1)) (N.v1162 i (loaded i x0 x1))⟩]
def out5 (i : grid0.Coords) (x0 : Vec F S1x256x3 .f32) (x1 : Vec F S1x3x2048 .f32) : Vec F S1x256x3 .f32 :=
  View.canon [⟨r3, k0_pay189 (N.v1189 i (loaded i x0 x1)) (N.v1190 i (loaded i x0 x1)) (N.v1191 i (loaded i x0 x1))⟩]
def out6 (i : grid0.Coords) (x0 : Vec F S1x256x3 .f32) (x1 : Vec F S1x3x2048 .f32) : Vec F S1x256x16 .i32 :=
  View.canon [⟨r16, k0_pay190 (N.v270 i (loaded i x0 x1))⟩]
def out7 (i : grid0.Coords) (x0 : Vec F S1x256x3 .f32) (x1 : Vec F S1x3x2048 .f32) : Vec F S1x256x1 .f32 :=
  View.canon [⟨r1, k0_pay1 (k0_pay191 (N.v1046 i (loaded i x0 x1)) (N.v1048 i (loaded i x0 x1)) (N.v1050 i (loaded i x0 x1)) (N.v1160 i (loaded i x0 x1)) (N.v1161 i (loaded i x0 x1)) (N.v1162 i (loaded i x0 x1)) (N.v1214 i (loaded i x0 x1)) (N.v1223 i (loaded i x0 x1)) (N.v1227 i (loaded i x0 x1)))⟩]

theorem cover16 {e : EltTy} (p0 : Vec F S1x256x16 e) (y : S1x256x16.Idx) :
    ∃ pc ∈ ([⟨r16, p0⟩] : List (View.Piece (Elt F) S1x256x16 e)), y ∈ pc.1.set :=
  View.cover_of_tiled [⟨r16, p0⟩] S1x256x16.size (by rfl) y
theorem cover3 (p0 : Vec F S1x256x3 .f32) (y : S1x256x3.Idx) :
    ∃ pc ∈ ([⟨r3, p0⟩] : List (View.Piece (Elt F) S1x256x3 .f32)), y ∈ pc.1.set :=
  View.cover_of_tiled [⟨r3, p0⟩] S1x256x3.size (by rfl) y
theorem cover1 (p0 : Vec F S1x256x1 .f32) (y : S1x256x1.Idx) :
    ∃ pc ∈ ([⟨r1, p0⟩] : List (View.Piece (Elt F) S1x256x1 .f32)), y ∈ pc.1.set :=
  View.cover_of_tiled [⟨r1, p0⟩] S1x256x1.size (by rfl) y

end Cert.Proof.Kernel

end
-- ==== Proof.KernelIdealParts.lean ====
/- The body of the first call: everything between its loads and its stores is pure, its parts and its loop included,
   so it runs to its end with each output's buffer at a function of the two input blocks; the neighbours' in full. -/
module

public import proofs.«01_k».proof.Proof.Gen.KernelIdeal.Frame
public import proofs.«01_k».proof.Proof.Gen.KernelIdeal.Skeleton
public import Idealize.ShloMosaic.Lib.Tactic
public import Idealize.ShloMosaic.Lib.Pipeline.FrameBody

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem part1_pure (c0_i32_231 : BitVec 32) (c1_i32_233 : BitVec 32) (k0_t1 : Fin k0_t1_loop.trips) (arg11 : FVec F S256x1 .f32) (arg13 : FVec F S256x1 .f32) (arg16 : FVec F S256x1 .f32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part1 (F := F) i arg2 harg2 arg3 harg3 arg4 harg4 arg5 harg5 arg6 harg6 arg7 harg7 arg8 harg8 arg9 harg9 c0_i32_231 c1_i32_233 k0_t1 arg11 arg13 arg16 = Pure.pure r :=
  ⟨_, fun i arg2 harg2 arg3 harg3 arg4 harg4 arg5 harg5 arg6 harg6 arg7 harg7 arg8 harg8 arg9 harg9 => by rw [k0_part1_eq_skeleton]; rfl⟩

theorem part2_pure (arg12 : FVec F S256x1 .f32) (arg14 : FVec F S256x1 .f32) (arg15 : FVec F S256x1 .f32) (arg17 : FVec F S256x1 .f32) (arg19 : FVec F S256x1 .f32) (arg20 : FVec F S256x1 .f32) (arg22 : FVec F S256x1 .f32) (arg23 : FVec F S256x1 .f32) (arg25 : FVec F S256x1 .f32) (v1296 : FVec F S256x1 .f32) (v1297 : FVec F S256x1 .f32) (v1315 : FVec F S256x1 .f32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part2 (F := F) i arg2 harg2 arg3 harg3 arg4 harg4 arg5 harg5 arg6 harg6 arg7 harg7 arg8 harg8 arg9 harg9 arg12 arg14 arg15 arg17 arg19 arg20 arg22 arg23 arg25 v1296 v1297 v1315 = Pure.pure r :=
  ⟨_, fun i arg2 harg2 arg3 harg3 arg4 harg4 arg5 harg5 arg6 harg6 arg7 harg7 arg8 harg8 arg9 harg9 => by rw [k0_part2_eq_skeleton]; rfl⟩

theorem part3_pure (arg14 : FVec F S256x1 .f32) (arg18 : FVec F S256x1 .f32) (arg21 : FVec F S256x1 .f32) (arg24 : FVec F S256x1 .f32) (v1312 : FVec F S256x1 .f32) (v1315 : FVec F S256x1 .f32) (v1318 : FVec F S256x1 .f32) (v1321 : FVec F S256x1 .f32) (v1324 : FVec F S256x1 .f32) (v1330 : FVec F S256x1 .f32) (v1336 : FVec F S256x1 .f32) (v1342 : FVec F S256x1 .f32) (v1367 : FVec F S256x1 .f32) (v1371 : FVec F S256x1 .f32) (v1372 : FVec F S256x1 .f32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part3 (F := F) i arg2 harg2 arg3 harg3 arg4 harg4 arg5 harg5 arg6 harg6 arg7 harg7 arg8 harg8 arg9 harg9 arg14 arg18 arg21 arg24 v1312 v1315 v1318 v1321 v1324 v1330 v1336 v1342 v1367 v1371 v1372 = Pure.pure r :=
  ⟨_, fun i arg2 harg2 arg3 harg3 arg4 harg4 arg5 harg5 arg6 harg6 arg7 harg7 arg8 harg8 arg9 harg9 => by rw [k0_part3_eq_skeleton]; rfl⟩

theorem part4_pure (v1312 : FVec F S256x1 .f32) (v1327 : FVec F S256x1 .f32) (v1333 : FVec F S256x1 .f32) (v1392 : FVec F S256x1 .f32) (v1395 : FVec F S256x1 .f32) (v1398 : FVec F S256x1 .f32) (v1401 : FVec F S256x1 .f32) (v1407 : FVec F S256x1 .f32) (v1413 : FVec F S256x1 .f32) (v1423 : FVec F S256x1 .f32) (v1429 : FVec F S256x1 .f32) (v1430 : FVec F S256x1 .f32) (v1431 : FVec F S256x1 .f32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part4 (F := F) i arg2 harg2 arg3 harg3 arg4 harg4 arg5 harg5 arg6 harg6 arg7 harg7 arg8 harg8 arg9 harg9 v1312 v1327 v1333 v1392 v1395 v1398 v1401 v1407 v1413 v1423 v1429 v1430 v1431 = Pure.pure r :=
  ⟨_, fun i arg2 harg2 arg3 harg3 arg4 harg4 arg5 harg5 arg6 harg6 arg7 harg7 arg8 harg8 arg9 harg9 => by rw [k0_part4_eq_skeleton]; rfl⟩

theorem part11_pure (v6 : FVec F S1x2048 .f32) (v272 : IVec S256x16 32) (v276 : IVec S256x128 32) (cst_71 : F .f32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part11 (F := F) i arg2 harg2 arg3 harg3 arg4 harg4 arg5 harg5 arg6 harg6 arg7 harg7 arg8 harg8 arg9 harg9 v6 v272 v276 cst_71 = Pure.pure r :=
  ⟨_, fun i arg2 harg2 arg3 harg3 arg4 harg4 arg5 harg5 arg6 harg6 arg7 harg7 arg8 harg8 arg9 harg9 => by rw [k0_part11_eq_skeleton]; rfl⟩

theorem part12_pure (v6 : FVec F S1x2048 .f32) (v272 : IVec S256x16 32) (v276 : IVec S256x128 32) (v322 : FVec F S256x16 .f32) (v325 : FVec F S256x128 .f32) (v326 : IVec S256x128 32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part12 (F := F) i arg2 harg2 arg3 harg3 arg4 harg4 arg5 harg5 arg6 harg6 arg7 harg7 arg8 harg8 arg9 harg9 v6 v272 v276 v322 v325 v326 = Pure.pure r :=
  ⟨_, fun i arg2 harg2 arg3 harg3 arg4 harg4 arg5 harg5 arg6 harg6 arg7 harg7 arg8 harg8 arg9 harg9 => by rw [k0_part12_eq_skeleton]; rfl⟩

theorem part13_pure (v6 : FVec F S1x2048 .f32) (v272 : IVec S256x16 32) (v276 : IVec S256x128 32) (v367 : FVec F S256x16 .f32) (v370 : FVec F S256x128 .f32) (v376 : IVec S256x128x1 32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part13 (F := F) i arg2 harg2 arg3 harg3 arg4 harg4 arg5 harg5 arg6 harg6 arg7 harg7 arg8 harg8 arg9 harg9 v6 v272 v276 v367 v370 v376 = Pure.pure r :=
  ⟨_, fun i arg2 harg2 arg3 harg3 arg4 harg4 arg5 harg5 arg6 harg6 arg7 harg7 arg8 harg8 arg9 harg9 => by rw [k0_part13_eq_skeleton]; rfl⟩

theorem part14_pure (v6 : FVec F S1x2048 .f32) (v272 : IVec S256x16 32) (v276 : IVec S256x128 32) (v412 : FVec F S256x16 .f32) (v424 : FVec F S256x16 .f32) (v426 : IVec S256x16 1) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part14 (F := F) i arg2 harg2 arg3 harg3 arg4 harg4 arg5 harg5 arg6 harg6 arg7 harg7 arg8 harg8 arg9 harg9 v6 v272 v276 v412 v424 v426 = Pure.pure r :=
  ⟨_, fun i arg2 harg2 arg3 harg3 arg4 harg4 arg5 harg5 arg6 harg6 arg7 harg7 arg8 harg8 arg9 harg9 => by rw [k0_part14_eq_skeleton]; rfl⟩

theorem part15_pure (v2 : FVec F S256x1 .f32) (v6 : FVec F S1x2048 .f32) (v270 : IVec S256x16 32) (v272 : IVec S256x16 32) (v276 : IVec S256x128 32) (v472 : FVec F S256x16 .f32) (v475 : FVec F S256x128 .f32) (v476 : IVec S256x128 32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part15 (F := F) i arg2 harg2 arg3 harg3 arg4 harg4 arg5 harg5 arg6 harg6 arg7 harg7 arg8 harg8 arg9 harg9 v2 v6 v270 v272 v276 v472 v475 v476 = Pure.pure r :=
  ⟨_, fun i arg2 harg2 arg3 harg3 arg4 harg4 arg5 harg5 arg6 harg6 arg7 harg7 arg8 harg8 arg9 harg9 => by rw [k0_part15_eq_skeleton]; rfl⟩

theorem part16_pure (v8 : FVec F S1x2048 .f32) (v521 : IVec S256x16 32) (v525 : IVec S256x128 32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part16 (F := F) i arg2 harg2 arg3 harg3 arg4 harg4 arg5 harg5 arg6 harg6 arg7 harg7 arg8 harg8 arg9 harg9 v8 v521 v525 = Pure.pure r :=
  ⟨_, fun i arg2 harg2 arg3 harg3 arg4 harg4 arg5 harg5 arg6 harg6 arg7 harg7 arg8 harg8 arg9 harg9 => by rw [k0_part16_eq_skeleton]; rfl⟩

theorem part17_pure (v8 : FVec F S1x2048 .f32) (v521 : IVec S256x16 32) (v525 : IVec S256x128 32) (v571 : FVec F S256x16 .f32) (v574 : FVec F S256x128 .f32) (c0_i32_118 : BitVec 32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part17 (F := F) i arg2 harg2 arg3 harg3 arg4 harg4 arg5 harg5 arg6 harg6 arg7 harg7 arg8 harg8 arg9 harg9 v8 v521 v525 v571 v574 c0_i32_118 = Pure.pure r :=
  ⟨_, fun i arg2 harg2 arg3 harg3 arg4 harg4 arg5 harg5 arg6 harg6 arg7 harg7 arg8 harg8 arg9 harg9 => by rw [k0_part17_eq_skeleton]; rfl⟩

theorem part18_pure (v8 : FVec F S1x2048 .f32) (v521 : IVec S256x16 32) (v525 : IVec S256x128 32) (v616 : FVec F S256x16 .f32) (v619 : FVec F S256x128 .f32) (v624 : IVec S256x128 32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part18 (F := F) i arg2 harg2 arg3 harg3 arg4 harg4 arg5 harg5 arg6 harg6 arg7 harg7 arg8 harg8 arg9 harg9 v8 v521 v525 v616 v619 v624 = Pure.pure r :=
  ⟨_, fun i arg2 harg2 arg3 harg3 arg4 harg4 arg5 harg5 arg6 harg6 arg7 harg7 arg8 harg8 arg9 harg9 => by rw [k0_part18_eq_skeleton]; rfl⟩

theorem part19_pure (v8 : FVec F S1x2048 .f32) (v521 : IVec S256x16 32) (v525 : IVec S256x128 32) (v661 : FVec F S256x16 .f32) (v673 : FVec F S256x16 .f32) (v674 : IVec S256x16 32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part19 (F := F) i arg2 harg2 arg3 harg3 arg4 harg4 arg5 harg5 arg6 harg6 arg7 harg7 arg8 harg8 arg9 harg9 v8 v521 v525 v661 v673 v674 = Pure.pure r :=
  ⟨_, fun i arg2 harg2 arg3 harg3 arg4 harg4 arg5 harg5 arg6 harg6 arg7 harg7 arg8 harg8 arg9 harg9 => by rw [k0_part19_eq_skeleton]; rfl⟩

theorem part20_pure (v3 : FVec F S256x1 .f32) (v8 : FVec F S1x2048 .f32) (v270 : IVec S256x16 32) (v521 : IVec S256x16 32) (v525 : IVec S256x128 32) (v721 : FVec F S256x16 .f32) (v724 : FVec F S256x128 .f32) (c0_i32_148 : BitVec 32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part20 (F := F) i arg2 harg2 arg3 harg3 arg4 harg4 arg5 harg5 arg6 harg6 arg7 harg7 arg8 harg8 arg9 harg9 v3 v8 v270 v521 v525 v721 v724 c0_i32_148 = Pure.pure r :=
  ⟨_, fun i arg2 harg2 arg3 harg3 arg4 harg4 arg5 harg5 arg6 harg6 arg7 harg7 arg8 harg8 arg9 harg9 => by rw [k0_part20_eq_skeleton]; rfl⟩

theorem part21_pure (v10 : FVec F S1x2048 .f32) (v770 : IVec S256x16 32) (v772 : IVec S256x16 32) (v773 : IVec S256x112 32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part21 (F := F) i arg2 harg2 arg3 harg3 arg4 harg4 arg5 harg5 arg6 harg6 arg7 harg7 arg8 harg8 arg9 harg9 v10 v770 v772 v773 = Pure.pure r :=
  ⟨_, fun i arg2 harg2 arg3 harg3 arg4 harg4 arg5 harg5 arg6 harg6 arg7 harg7 arg8 harg8 arg9 harg9 => by rw [k0_part21_eq_skeleton]; rfl⟩

theorem part22_pure (v10 : FVec F S1x2048 .f32) (v770 : IVec S256x16 32) (v774 : IVec S256x128 32) (v820 : FVec F S256x16 .f32) (v823 : FVec F S256x128 .f32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part22 (F := F) i arg2 harg2 arg3 harg3 arg4 harg4 arg5 harg5 arg6 harg6 arg7 harg7 arg8 harg8 arg9 harg9 v10 v770 v774 v820 v823 = Pure.pure r :=
  ⟨_, fun i arg2 harg2 arg3 harg3 arg4 harg4 arg5 harg5 arg6 harg6 arg7 harg7 arg8 harg8 arg9 harg9 => by rw [k0_part22_eq_skeleton]; rfl⟩

theorem part23_pure (v10 : FVec F S1x2048 .f32) (v770 : IVec S256x16 32) (v774 : IVec S256x128 32) (v865 : FVec F S256x16 .f32) (v868 : FVec F S256x128 .f32) (v870 : IVec S256x128 1) (v872 : IVec S256x128 32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part23 (F := F) i arg2 harg2 arg3 harg3 arg4 harg4 arg5 harg5 arg6 harg6 arg7 harg7 arg8 harg8 arg9 harg9 v10 v770 v774 v865 v868 v870 v872 = Pure.pure r :=
  ⟨_, fun i arg2 harg2 arg3 harg3 arg4 harg4 arg5 harg5 arg6 harg6 arg7 harg7 arg8 harg8 arg9 harg9 => by rw [k0_part23_eq_skeleton]; rfl⟩

theorem part24_pure (v10 : FVec F S1x2048 .f32) (v770 : IVec S256x16 32) (v774 : IVec S256x128 32) (v910 : FVec F S256x16 .f32) (v922 : FVec F S256x16 .f32) (c9_i32_190 : BitVec 32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part24 (F := F) i arg2 harg2 arg3 harg3 arg4 harg4 arg5 harg5 arg6 harg6 arg7 harg7 arg8 harg8 arg9 harg9 v10 v770 v774 v910 v922 c9_i32_190 = Pure.pure r :=
  ⟨_, fun i arg2 harg2 arg3 harg3 arg4 harg4 arg5 harg5 arg6 harg6 arg7 harg7 arg8 harg8 arg9 harg9 => by rw [k0_part24_eq_skeleton]; rfl⟩

theorem part25_pure (v4 : FVec F S256x1 .f32) (v10 : FVec F S1x2048 .f32) (v519 : FVec F S256x16 .f32) (v768 : FVec F S256x16 .f32) (v770 : IVec S256x16 32) (v774 : IVec S256x128 32) (v970 : FVec F S256x16 .f32) (v973 : FVec F S256x128 .f32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part25 (F := F) i arg2 harg2 arg3 harg3 arg4 harg4 arg5 harg5 arg6 harg6 arg7 harg7 arg8 harg8 arg9 harg9 v4 v10 v519 v768 v770 v774 v970 v973 = Pure.pure r :=
  ⟨_, fun i arg2 harg2 arg3 harg3 arg4 harg4 arg5 harg5 arg6 harg6 arg7 harg7 arg8 harg8 arg9 harg9 => by rw [k0_part25_eq_skeleton]; rfl⟩

theorem part26_pure (v519 : FVec F S256x16 .f32) (v768 : FVec F S256x16 .f32) (v1017 : FVec F S256x16 .f32) (v1022 : FVec F S256x16 .f32) (v1023 : FVec F S256x16 .f32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part26 (F := F) i arg2 harg2 arg3 harg3 arg4 harg4 arg5 harg5 arg6 harg6 arg7 harg7 arg8 harg8 arg9 harg9 v519 v768 v1017 v1022 v1023 = Pure.pure r :=
  ⟨_, fun i arg2 harg2 arg3 harg3 arg4 harg4 arg5 harg5 arg6 harg6 arg7 harg7 arg8 harg8 arg9 harg9 => by rw [k0_part26_eq_skeleton]; rfl⟩

theorem part28_pure (v1046 : FVec F S256x16 .f32) (v1048 : FVec F S256x16 .f32) (v1050 : FVec F S256x16 .f32) (v1105_3 : FVec F S256x1 .f32) (v1105_5 : FVec F S256x1 .f32) (v1105_6 : FVec F S256x1 .f32) (v1105_7 : FVec F S256x1 .f32) (v1105_8 : FVec F S256x1 .f32) (v1105_9 : FVec F S256x1 .f32) (v1105_10 : FVec F S256x1 .f32) (v1105_11 : FVec F S256x1 .f32) (v1105_12 : FVec F S256x1 .f32) (v1105_13 : FVec F S256x1 .f32) (v1105_14 : FVec F S256x1 .f32) (v1109 : FVec F S256x1 .f32) (v1113 : FVec F S256x1 .f32) (v1117 : FVec F S256x1 .f32) (v1118 : IVec S256x1 1) (v1119 : IVec S256x1 1) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part28 (F := F) i arg2 harg2 arg3 harg3 arg4 harg4 arg5 harg5 arg6 harg6 arg7 harg7 arg8 harg8 arg9 harg9 v1046 v1048 v1050 v1105_3 v1105_5 v1105_6 v1105_7 v1105_8 v1105_9 v1105_10 v1105_11 v1105_12 v1105_13 v1105_14 v1109 v1113 v1117 v1118 v1119 = Pure.pure r :=
  ⟨_, fun i arg2 harg2 arg3 harg3 arg4 harg4 arg5 harg5 arg6 harg6 arg7 harg7 arg8 harg8 arg9 harg9 => by rw [k0_part28_eq_skeleton]; rfl⟩

theorem part29_pure (v1046 : FVec F S256x16 .f32) (v1048 : FVec F S256x16 .f32) (v1050 : FVec F S256x16 .f32) (v1113 : FVec F S256x1 .f32) (v1117 : FVec F S256x1 .f32) (v1121 : FVec F S256x1 .f32) (v1160 : FVec F S256x1 .f32) (v1161 : FVec F S256x1 .f32) (v1162 : FVec F S256x1 .f32) (v1171 : FVec F S256x16 .f32) (v1173 : FVec F S256x1 .f32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part29 (F := F) i arg2 harg2 arg3 harg3 arg4 harg4 arg5 harg5 arg6 harg6 arg7 harg7 arg8 harg8 arg9 harg9 v1046 v1048 v1050 v1113 v1117 v1121 v1160 v1161 v1162 v1171 v1173 = Pure.pure r :=
  ⟨_, fun i arg2 harg2 arg3 harg3 arg4 harg4 arg5 harg5 arg6 harg6 arg7 harg7 arg8 harg8 arg9 harg9 => by rw [k0_part29_eq_skeleton]; rfl⟩

/-- One sweep of the eigensolver computes its 15 carried vectors from the ones it is given, touching no buffer. -/
theorem sweep_pure (v1035 : FVec F S256x1 .f32) (v1038 : FVec F S256x16 .f32) (v1041 : FVec F S256x16 .f32) (v1044 : FVec F S256x16 .f32) (v1046 : FVec F S256x16 .f32) (v1048 : FVec F S256x16 .f32) (v1050 : FVec F S256x16 .f32) (v1056 : FVec F S256x1 .f32) (v1062 : FVec F S256x1 .f32) (v1068 : FVec F S256x1 .f32) (v1072 : FVec F S256x1 .f32) (k0_t1 : Fin k0_t1_loop.trips) (acc : FVec F S256x1 .f32 × FVec F S256x1 .f32 × FVec F S256x1 .f32 × FVec F S256x1 .f32 × FVec F S256x1 .f32 × FVec F S256x1 .f32 × FVec F S256x1 .f32 × FVec F S256x1 .f32 × FVec F S256x1 .f32 × FVec F S256x1 .f32 × FVec F S256x1 .f32 × FVec F S256x1 .f32 × FVec F S256x1 .f32 × FVec F S256x1 .f32 × FVec F S256x1 .f32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_t1_body (F := F) i arg2 harg2 arg3 harg3 arg4 harg4 arg5 harg5 arg6 harg6 arg7 harg7 arg8 harg8 arg9 harg9 v1035 v1038 v1041 v1044 v1046 v1048 v1050 v1056 v1062 v1068 v1072 k0_t1 acc = .ret r := by
  obtain ⟨arg11, arg12, arg13, arg14, arg15, arg16, arg17, arg18, arg19, arg20, arg21, arg22, arg23, arg24, arg25⟩ := acc
  obtain ⟨⟨v1296, v1297, v1312, v1315, v1318⟩, h1⟩ := part1_pure (F := F) 0#32 1#32 k0_t1 arg11 arg13 arg16
  obtain ⟨⟨v1321, v1324, v1327, v1330, v1333, v1336, v1339, v1342, v1367, v1371, v1372⟩, h2⟩ := part2_pure (F := F) arg12 arg14 arg15 arg17 arg19 arg20 arg22 arg23 arg25 v1296 v1297 v1315
  obtain ⟨⟨v1389, v1392, v1395, v1398, v1401, v1404, v1407, v1410, v1413, v1416, v1419, v1423, v1429, v1430, v1431⟩, h3⟩ := part3_pure (F := F) arg14 arg18 arg21 arg24 v1312 v1315 v1318 v1321 v1324 v1330 v1336 v1342 v1367 v1371 v1372
  obtain ⟨⟨v1450, v1451, v1466, v1469, v1472, v1475, v1478, v1481, v1484, v1485, v1486⟩, h4⟩ := part4_pure (F := F) v1312 v1327 v1333 v1392 v1395 v1398 v1401 v1407 v1413 v1423 v1429 v1430 v1431
  exact ⟨_, fun i arg2 harg2 arg3 harg3 arg4 harg4 arg5 harg5 arg6 harg6 arg7 harg7 arg8 harg8 arg9 harg9 => by
    simp only [k0_t1_body, h1, h2, h3, h4, pure_bind]
    exact rfl⟩

/-- The five sweeps and the vectors taken from them touch no buffer. -/
theorem part27_pure (v1035 : FVec F S256x1 .f32) (v1038 : FVec F S256x16 .f32) (v1041 : FVec F S256x16 .f32) (v1044 : FVec F S256x16 .f32) (v1046 : FVec F S256x16 .f32) (v1048 : FVec F S256x16 .f32) (v1050 : FVec F S256x16 .f32) (v1056 : FVec F S256x1 .f32) (v1062 : FVec F S256x1 .f32) (v1068 : FVec F S256x1 .f32) (v1072 : FVec F S256x1 .f32) :
    ∃ r, ∀ (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole),
      k0_part27 (F := F) i arg2 harg2 arg3 harg3 arg4 harg4 arg5 harg5 arg6 harg6 arg7 harg7 arg8 harg8 arg9 harg9 v1035 v1038 v1041 v1044 v1046 v1048 v1050 v1056 v1062 v1068 v1072 = Pure.pure r := by
  choose g hg using sweep_pure (F := F) v1035 v1038 v1041 v1044 v1046 v1048 v1050 v1056 v1062 v1068 v1072
  exact ⟨_, fun i arg2 harg2 arg3 harg3 arg4 harg4 arg5 harg5 arg6 harg6 arg7 harg7 arg8 harg8 arg9 harg9 => by
    rw [k0_part27_eq_skeleton]
    unfold k0_part27_skel
    rw [Scf.Loop.for, Scf.for_pure _ _ _ _ _ _ g (fun k acc => hg k acc i arg2 harg2 arg3 harg3 arg4 harg4 arg5 harg5 arg6 harg6 arg7 harg7 arg8 harg8 arg9 harg9)]
    exact rfl⟩

/-- The vectors the program computes from the loaded rows before the selection starts. -/
structure Loaded (F : FTy → Type) where
  v2 : FVec F S256x1 .f32
  v3 : FVec F S256x1 .f32
  v4 : FVec F S256x1 .f32
  v6 : FVec F S1x2048 .f32
  v8 : FVec F S1x2048 .f32
  v10 : FVec F S1x2048 .f32
  v29 : IVec S1x2048 32
  v34 : FVec F S256x2048 .f32
  v38 : IVec S256x2048 1
  v40 : IVec S256x2048 32
  v41 : IVec S256x2048 32

/-! What every part returns, value by value, from the loaded rows: the selection of the neighbours in full, the rest as functions. -/

def N.v44 (i : grid0.Coords) (p : Loaded F) : IVec S256x1 32 := k0_pay65 p.v38 p.v40 p.v41

def N.v59 (i : grid0.Coords) (p : Loaded F) : IVec S256x1 32 := k0_pay67 p.v29 p.v34 p.v38 p.v40 p.v41

def N.v74 (i : grid0.Coords) (p : Loaded F) : IVec S256x1 32 := k0_pay69 p.v29 p.v34 p.v38 p.v40 p.v41

def N.v79 (i : grid0.Coords) (p : Loaded F) : FVec F S256x2048 .f32 := k0_pay70 p.v29 p.v34 p.v38 p.v40 p.v41

def N.v88 (i : grid0.Coords) (p : Loaded F) : IVec S256 32 := k0_pay71 p.v29 p.v34 p.v38 p.v40 p.v41

def N.v89 (i : grid0.Coords) (p : Loaded F) : IVec S256x1 32 := k0_pay72 (N.v88 i p)

def N.v104 (i : grid0.Coords) (p : Loaded F) : IVec S256x1 32 := k0_pay74 p.v29 (N.v79 i p) (N.v88 i p)

def N.v119 (i : grid0.Coords) (p : Loaded F) : IVec S256x1 32 := k0_pay76 p.v29 (N.v79 i p) (N.v88 i p)

def N.v124 (i : grid0.Coords) (p : Loaded F) : FVec F S256x2048 .f32 := k0_pay77 p.v29 (N.v79 i p) (N.v88 i p)

def N.v134 (i : grid0.Coords) (p : Loaded F) : IVec S256x1 32 := k0_pay78 p.v29 (N.v79 i p) (N.v88 i p)

def N.v135 (i : grid0.Coords) (p : Loaded F) : IVec S256x2048 32 := k0_pay79 p.v29

def N.v136 (i : grid0.Coords) (p : Loaded F) : IVec S256x2048 32 := k0_pay80 p.v29 (N.v79 i p) (N.v88 i p)

def N.v149 (i : grid0.Coords) (p : Loaded F) : IVec S256x1 32 := k0_pay82 p.v29 (N.v124 i p) (N.v135 i p) (N.v136 i p)

def N.v164 (i : grid0.Coords) (p : Loaded F) : IVec S256x1 32 := k0_pay84 p.v29 (N.v124 i p) (N.v135 i p) (N.v136 i p)

def N.v169 (i : grid0.Coords) (p : Loaded F) : FVec F S256x2048 .f32 := k0_pay85 p.v29 (N.v124 i p) (N.v135 i p) (N.v136 i p)

def N.v179 (i : grid0.Coords) (p : Loaded F) : IVec S256x1 32 := k0_pay86 p.v29 (N.v124 i p) (N.v135 i p) (N.v136 i p)

def N.v182 (i : grid0.Coords) (p : Loaded F) : IVec S256x2048 1 := k0_pay87 p.v29 (N.v124 i p) (N.v135 i p) (N.v136 i p)

def N.v183 (i : grid0.Coords) (p : Loaded F) : FVec F S256x2048 .f32 := k0_pay88 (F := F)

def N.v194 (i : grid0.Coords) (p : Loaded F) : IVec S256x1 32 := k0_pay90 p.v29 (N.v169 i p) (N.v182 i p) (N.v183 i p)

def N.v209 (i : grid0.Coords) (p : Loaded F) : IVec S256x1 32 := k0_pay92 p.v29 (N.v169 i p) (N.v182 i p) (N.v183 i p)

def N.v224 (i : grid0.Coords) (p : Loaded F) : IVec S256x1 32 := k0_pay94 p.v29 (N.v169 i p) (N.v182 i p) (N.v183 i p)

def N.v229 (i : grid0.Coords) (p : Loaded F) : FVec F S256x2048 .f32 := k0_pay95 p.v29 (N.v169 i p) (N.v182 i p) (N.v183 i p)

def N.v230 (i : grid0.Coords) (p : Loaded F) : FVec F S256 .f32 := k0_pay96 p.v29 (N.v169 i p) (N.v182 i p) (N.v183 i p)

def N.v270 (i : grid0.Coords) (p : Loaded F) : IVec S256x16 32 := k0_pay97 p.v29 (N.v44 i p) (N.v59 i p) (N.v74 i p) (N.v89 i p) (N.v104 i p) (N.v119 i p) (N.v134 i p) (N.v149 i p) (N.v164 i p) (N.v179 i p) (N.v194 i p) (N.v209 i p) (N.v224 i p) (N.v229 i p) (N.v230 i p)

def N.v272 (i : grid0.Coords) (p : Loaded F) : IVec S256x16 32 := k0_pay98 p.v29 (N.v44 i p) (N.v59 i p) (N.v74 i p) (N.v89 i p) (N.v104 i p) (N.v119 i p) (N.v134 i p) (N.v149 i p) (N.v164 i p) (N.v179 i p) (N.v194 i p) (N.v209 i p) (N.v224 i p) (N.v229 i p) (N.v230 i p)

def N.v276 (i : grid0.Coords) (p : Loaded F) : IVec S256x128 32 := k0_pay99 p.v29 (N.v44 i p) (N.v59 i p) (N.v74 i p) (N.v89 i p) (N.v104 i p) (N.v119 i p) (N.v134 i p) (N.v149 i p) (N.v164 i p) (N.v179 i p) (N.v194 i p) (N.v209 i p) (N.v224 i p) (N.v229 i p) (N.v230 i p)

def N.cst_71 (i : grid0.Coords) (p : Loaded F) : F .f32 := Scalar.ofBits .f32 0x00000000#32

def N.v322 (i : grid0.Coords) (p : Loaded F) : FVec F S256x16 .f32 := (part11_pure (F := F) p.v6 (N.v272 i p) (N.v276 i p) (N.cst_71 i p)).choose.1

def N.v325 (i : grid0.Coords) (p : Loaded F) : FVec F S256x128 .f32 := (part11_pure (F := F) p.v6 (N.v272 i p) (N.v276 i p) (N.cst_71 i p)).choose.2.1

def N.v326 (i : grid0.Coords) (p : Loaded F) : IVec S256x128 32 := (part11_pure (F := F) p.v6 (N.v272 i p) (N.v276 i p) (N.cst_71 i p)).choose.2.2

def N.v367 (i : grid0.Coords) (p : Loaded F) : FVec F S256x16 .f32 := (part12_pure (F := F) p.v6 (N.v272 i p) (N.v276 i p) (N.v322 i p) (N.v325 i p) (N.v326 i p)).choose.1

def N.v370 (i : grid0.Coords) (p : Loaded F) : FVec F S256x128 .f32 := (part12_pure (F := F) p.v6 (N.v272 i p) (N.v276 i p) (N.v322 i p) (N.v325 i p) (N.v326 i p)).choose.2.1

def N.v376 (i : grid0.Coords) (p : Loaded F) : IVec S256x128x1 32 := (part12_pure (F := F) p.v6 (N.v272 i p) (N.v276 i p) (N.v322 i p) (N.v325 i p) (N.v326 i p)).choose.2.2

def N.v412 (i : grid0.Coords) (p : Loaded F) : FVec F S256x16 .f32 := (part13_pure (F := F) p.v6 (N.v272 i p) (N.v276 i p) (N.v367 i p) (N.v370 i p) (N.v376 i p)).choose.1

def N.v424 (i : grid0.Coords) (p : Loaded F) : FVec F S256x16 .f32 := (part13_pure (F := F) p.v6 (N.v272 i p) (N.v276 i p) (N.v367 i p) (N.v370 i p) (N.v376 i p)).choose.2.1

def N.v426 (i : grid0.Coords) (p : Loaded F) : IVec S256x16 1 := (part13_pure (F := F) p.v6 (N.v272 i p) (N.v276 i p) (N.v367 i p) (N.v370 i p) (N.v376 i p)).choose.2.2

def N.v472 (i : grid0.Coords) (p : Loaded F) : FVec F S256x16 .f32 := (part14_pure (F := F) p.v6 (N.v272 i p) (N.v276 i p) (N.v412 i p) (N.v424 i p) (N.v426 i p)).choose.1

def N.v475 (i : grid0.Coords) (p : Loaded F) : FVec F S256x128 .f32 := (part14_pure (F := F) p.v6 (N.v272 i p) (N.v276 i p) (N.v412 i p) (N.v424 i p) (N.v426 i p)).choose.2.1

def N.v476 (i : grid0.Coords) (p : Loaded F) : IVec S256x128 32 := (part14_pure (F := F) p.v6 (N.v272 i p) (N.v276 i p) (N.v412 i p) (N.v424 i p) (N.v426 i p)).choose.2.2

def N.v519 (i : grid0.Coords) (p : Loaded F) : FVec F S256x16 .f32 := (part15_pure (F := F) p.v2 p.v6 (N.v270 i p) (N.v272 i p) (N.v276 i p) (N.v472 i p) (N.v475 i p) (N.v476 i p)).choose.1

def N.v521 (i : grid0.Coords) (p : Loaded F) : IVec S256x16 32 := (part15_pure (F := F) p.v2 p.v6 (N.v270 i p) (N.v272 i p) (N.v276 i p) (N.v472 i p) (N.v475 i p) (N.v476 i p)).choose.2.1

def N.v525 (i : grid0.Coords) (p : Loaded F) : IVec S256x128 32 := (part15_pure (F := F) p.v2 p.v6 (N.v270 i p) (N.v272 i p) (N.v276 i p) (N.v472 i p) (N.v475 i p) (N.v476 i p)).choose.2.2

def N.v571 (i : grid0.Coords) (p : Loaded F) : FVec F S256x16 .f32 := (part16_pure (F := F) p.v8 (N.v521 i p) (N.v525 i p)).choose.1

def N.v574 (i : grid0.Coords) (p : Loaded F) : FVec F S256x128 .f32 := (part16_pure (F := F) p.v8 (N.v521 i p) (N.v525 i p)).choose.2.1

def N.c0_i32_118 (i : grid0.Coords) (p : Loaded F) : BitVec 32 := (part16_pure (F := F) p.v8 (N.v521 i p) (N.v525 i p)).choose.2.2

def N.v616 (i : grid0.Coords) (p : Loaded F) : FVec F S256x16 .f32 := (part17_pure (F := F) p.v8 (N.v521 i p) (N.v525 i p) (N.v571 i p) (N.v574 i p) (N.c0_i32_118 i p)).choose.1

def N.v619 (i : grid0.Coords) (p : Loaded F) : FVec F S256x128 .f32 := (part17_pure (F := F) p.v8 (N.v521 i p) (N.v525 i p) (N.v571 i p) (N.v574 i p) (N.c0_i32_118 i p)).choose.2.1

def N.v624 (i : grid0.Coords) (p : Loaded F) : IVec S256x128 32 := (part17_pure (F := F) p.v8 (N.v521 i p) (N.v525 i p) (N.v571 i p) (N.v574 i p) (N.c0_i32_118 i p)).choose.2.2

def N.v661 (i : grid0.Coords) (p : Loaded F) : FVec F S256x16 .f32 := (part18_pure (F := F) p.v8 (N.v521 i p) (N.v525 i p) (N.v616 i p) (N.v619 i p) (N.v624 i p)).choose.1

def N.v673 (i : grid0.Coords) (p : Loaded F) : FVec F S256x16 .f32 := (part18_pure (F := F) p.v8 (N.v521 i p) (N.v525 i p) (N.v616 i p) (N.v619 i p) (N.v624 i p)).choose.2.1

def N.v674 (i : grid0.Coords) (p : Loaded F) : IVec S256x16 32 := (part18_pure (F := F) p.v8 (N.v521 i p) (N.v525 i p) (N.v616 i p) (N.v619 i p) (N.v624 i p)).choose.2.2

def N.v721 (i : grid0.Coords) (p : Loaded F) : FVec F S256x16 .f32 := (part19_pure (F := F) p.v8 (N.v521 i p) (N.v525 i p) (N.v661 i p) (N.v673 i p) (N.v674 i p)).choose.1

def N.v724 (i : grid0.Coords) (p : Loaded F) : FVec F S256x128 .f32 := (part19_pure (F := F) p.v8 (N.v521 i p) (N.v525 i p) (N.v661 i p) (N.v673 i p) (N.v674 i p)).choose.2.1

def N.c0_i32_148 (i : grid0.Coords) (p : Loaded F) : BitVec 32 := (part19_pure (F := F) p.v8 (N.v521 i p) (N.v525 i p) (N.v661 i p) (N.v673 i p) (N.v674 i p)).choose.2.2

def N.v768 (i : grid0.Coords) (p : Loaded F) : FVec F S256x16 .f32 := (part20_pure (F := F) p.v3 p.v8 (N.v270 i p) (N.v521 i p) (N.v525 i p) (N.v721 i p) (N.v724 i p) (N.c0_i32_148 i p)).choose.1

def N.v770 (i : grid0.Coords) (p : Loaded F) : IVec S256x16 32 := (part20_pure (F := F) p.v3 p.v8 (N.v270 i p) (N.v521 i p) (N.v525 i p) (N.v721 i p) (N.v724 i p) (N.c0_i32_148 i p)).choose.2.1

def N.v772 (i : grid0.Coords) (p : Loaded F) : IVec S256x16 32 := (part20_pure (F := F) p.v3 p.v8 (N.v270 i p) (N.v521 i p) (N.v525 i p) (N.v721 i p) (N.v724 i p) (N.c0_i32_148 i p)).choose.2.2.1

def N.v773 (i : grid0.Coords) (p : Loaded F) : IVec S256x112 32 := (part20_pure (F := F) p.v3 p.v8 (N.v270 i p) (N.v521 i p) (N.v525 i p) (N.v721 i p) (N.v724 i p) (N.c0_i32_148 i p)).choose.2.2.2

def N.v774 (i : grid0.Coords) (p : Loaded F) : IVec S256x128 32 := (part21_pure (F := F) p.v10 (N.v770 i p) (N.v772 i p) (N.v773 i p)).choose.1

def N.v820 (i : grid0.Coords) (p : Loaded F) : FVec F S256x16 .f32 := (part21_pure (F := F) p.v10 (N.v770 i p) (N.v772 i p) (N.v773 i p)).choose.2.1

def N.v823 (i : grid0.Coords) (p : Loaded F) : FVec F S256x128 .f32 := (part21_pure (F := F) p.v10 (N.v770 i p) (N.v772 i p) (N.v773 i p)).choose.2.2

def N.v865 (i : grid0.Coords) (p : Loaded F) : FVec F S256x16 .f32 := (part22_pure (F := F) p.v10 (N.v770 i p) (N.v774 i p) (N.v820 i p) (N.v823 i p)).choose.1

def N.v868 (i : grid0.Coords) (p : Loaded F) : FVec F S256x128 .f32 := (part22_pure (F := F) p.v10 (N.v770 i p) (N.v774 i p) (N.v820 i p) (N.v823 i p)).choose.2.1

def N.v870 (i : grid0.Coords) (p : Loaded F) : IVec S256x128 1 := (part22_pure (F := F) p.v10 (N.v770 i p) (N.v774 i p) (N.v820 i p) (N.v823 i p)).choose.2.2.1

def N.v872 (i : grid0.Coords) (p : Loaded F) : IVec S256x128 32 := (part22_pure (F := F) p.v10 (N.v770 i p) (N.v774 i p) (N.v820 i p) (N.v823 i p)).choose.2.2.2

def N.v910 (i : grid0.Coords) (p : Loaded F) : FVec F S256x16 .f32 := (part23_pure (F := F) p.v10 (N.v770 i p) (N.v774 i p) (N.v865 i p) (N.v868 i p) (N.v870 i p) (N.v872 i p)).choose.1

def N.v922 (i : grid0.Coords) (p : Loaded F) : FVec F S256x16 .f32 := (part23_pure (F := F) p.v10 (N.v770 i p) (N.v774 i p) (N.v865 i p) (N.v868 i p) (N.v870 i p) (N.v872 i p)).choose.2.1

def N.c9_i32_190 (i : grid0.Coords) (p : Loaded F) : BitVec 32 := (part23_pure (F := F) p.v10 (N.v770 i p) (N.v774 i p) (N.v865 i p) (N.v868 i p) (N.v870 i p) (N.v872 i p)).choose.2.2

def N.v970 (i : grid0.Coords) (p : Loaded F) : FVec F S256x16 .f32 := (part24_pure (F := F) p.v10 (N.v770 i p) (N.v774 i p) (N.v910 i p) (N.v922 i p) (N.c9_i32_190 i p)).choose.1

def N.v973 (i : grid0.Coords) (p : Loaded F) : FVec F S256x128 .f32 := (part24_pure (F := F) p.v10 (N.v770 i p) (N.v774 i p) (N.v910 i p) (N.v922 i p) (N.c9_i32_190 i p)).choose.2

def N.v1017 (i : grid0.Coords) (p : Loaded F) : FVec F S256x16 .f32 := (part25_pure (F := F) p.v4 p.v10 (N.v519 i p) (N.v768 i p) (N.v770 i p) (N.v774 i p) (N.v970 i p) (N.v973 i p)).choose.1

def N.v1022 (i : grid0.Coords) (p : Loaded F) : FVec F S256x16 .f32 := (part25_pure (F := F) p.v4 p.v10 (N.v519 i p) (N.v768 i p) (N.v770 i p) (N.v774 i p) (N.v970 i p) (N.v973 i p)).choose.2.1

def N.v1023 (i : grid0.Coords) (p : Loaded F) : FVec F S256x16 .f32 := (part25_pure (F := F) p.v4 p.v10 (N.v519 i p) (N.v768 i p) (N.v770 i p) (N.v774 i p) (N.v970 i p) (N.v973 i p)).choose.2.2

def N.v1035 (i : grid0.Coords) (p : Loaded F) : FVec F S256x1 .f32 := (part26_pure (F := F) (N.v519 i p) (N.v768 i p) (N.v1017 i p) (N.v1022 i p) (N.v1023 i p)).choose.1

def N.v1038 (i : grid0.Coords) (p : Loaded F) : FVec F S256x16 .f32 := (part26_pure (F := F) (N.v519 i p) (N.v768 i p) (N.v1017 i p) (N.v1022 i p) (N.v1023 i p)).choose.2.1

def N.v1041 (i : grid0.Coords) (p : Loaded F) : FVec F S256x16 .f32 := (part26_pure (F := F) (N.v519 i p) (N.v768 i p) (N.v1017 i p) (N.v1022 i p) (N.v1023 i p)).choose.2.2.1

def N.v1044 (i : grid0.Coords) (p : Loaded F) : FVec F S256x16 .f32 := (part26_pure (F := F) (N.v519 i p) (N.v768 i p) (N.v1017 i p) (N.v1022 i p) (N.v1023 i p)).choose.2.2.2.1

def N.v1046 (i : grid0.Coords) (p : Loaded F) : FVec F S256x16 .f32 := (part26_pure (F := F) (N.v519 i p) (N.v768 i p) (N.v1017 i p) (N.v1022 i p) (N.v1023 i p)).choose.2.2.2.2.1

def N.v1048 (i : grid0.Coords) (p : Loaded F) : FVec F S256x16 .f32 := (part26_pure (F := F) (N.v519 i p) (N.v768 i p) (N.v1017 i p) (N.v1022 i p) (N.v1023 i p)).choose.2.2.2.2.2.1

def N.v1050 (i : grid0.Coords) (p : Loaded F) : FVec F S256x16 .f32 := (part26_pure (F := F) (N.v519 i p) (N.v768 i p) (N.v1017 i p) (N.v1022 i p) (N.v1023 i p)).choose.2.2.2.2.2.2.1

def N.v1056 (i : grid0.Coords) (p : Loaded F) : FVec F S256x1 .f32 := (part26_pure (F := F) (N.v519 i p) (N.v768 i p) (N.v1017 i p) (N.v1022 i p) (N.v1023 i p)).choose.2.2.2.2.2.2.2.1

def N.v1062 (i : grid0.Coords) (p : Loaded F) : FVec F S256x1 .f32 := (part26_pure (F := F) (N.v519 i p) (N.v768 i p) (N.v1017 i p) (N.v1022 i p) (N.v1023 i p)).choose.2.2.2.2.2.2.2.2.1

def N.v1068 (i : grid0.Coords) (p : Loaded F) : FVec F S256x1 .f32 := (part26_pure (F := F) (N.v519 i p) (N.v768 i p) (N.v1017 i p) (N.v1022 i p) (N.v1023 i p)).choose.2.2.2.2.2.2.2.2.2.1

def N.v1072 (i : grid0.Coords) (p : Loaded F) : FVec F S256x1 .f32 := (part26_pure (F := F) (N.v519 i p) (N.v768 i p) (N.v1017 i p) (N.v1022 i p) (N.v1023 i p)).choose.2.2.2.2.2.2.2.2.2.2

def N.v1105_3 (i : grid0.Coords) (p : Loaded F) : FVec F S256x1 .f32 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.1

def N.v1105_5 (i : grid0.Coords) (p : Loaded F) : FVec F S256x1 .f32 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.2.1

def N.v1105_6 (i : grid0.Coords) (p : Loaded F) : FVec F S256x1 .f32 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.2.2.1

def N.v1105_7 (i : grid0.Coords) (p : Loaded F) : FVec F S256x1 .f32 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.2.2.2.1

def N.v1105_8 (i : grid0.Coords) (p : Loaded F) : FVec F S256x1 .f32 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.2.2.2.2.1

def N.v1105_9 (i : grid0.Coords) (p : Loaded F) : FVec F S256x1 .f32 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.2.2.2.2.2.1

def N.v1105_10 (i : grid0.Coords) (p : Loaded F) : FVec F S256x1 .f32 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.2.2.2.2.2.2.1

def N.v1105_11 (i : grid0.Coords) (p : Loaded F) : FVec F S256x1 .f32 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.2.2.2.2.2.2.2.1

def N.v1105_12 (i : grid0.Coords) (p : Loaded F) : FVec F S256x1 .f32 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.2.2.2.2.2.2.2.2.1

def N.v1105_13 (i : grid0.Coords) (p : Loaded F) : FVec F S256x1 .f32 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.2.2.2.2.2.2.2.2.2.1

def N.v1105_14 (i : grid0.Coords) (p : Loaded F) : FVec F S256x1 .f32 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.2.2.2.2.2.2.2.2.2.2.1

def N.v1109 (i : grid0.Coords) (p : Loaded F) : FVec F S256x1 .f32 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.2.2.2.2.2.2.2.2.2.2.2.1

def N.v1113 (i : grid0.Coords) (p : Loaded F) : FVec F S256x1 .f32 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.2.2.2.2.2.2.2.2.2.2.2.2.1

def N.v1117 (i : grid0.Coords) (p : Loaded F) : FVec F S256x1 .f32 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.2.2.2.2.2.2.2.2.2.2.2.2.2.1

def N.v1118 (i : grid0.Coords) (p : Loaded F) : IVec S256x1 1 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.2.2.2.2.2.2.2.2.2.2.2.2.2.2.1

def N.v1119 (i : grid0.Coords) (p : Loaded F) : IVec S256x1 1 := (part27_pure (F := F) (N.v1035 i p) (N.v1038 i p) (N.v1041 i p) (N.v1044 i p) (N.v1046 i p) (N.v1048 i p) (N.v1050 i p) (N.v1056 i p) (N.v1062 i p) (N.v1068 i p) (N.v1072 i p)).choose.2.2.2.2.2.2.2.2.2.2.2.2.2.2.2

def N.v1121 (i : grid0.Coords) (p : Loaded F) : FVec F S256x1 .f32 := (part28_pure (F := F) (N.v1046 i p) (N.v1048 i p) (N.v1050 i p) (N.v1105_3 i p) (N.v1105_5 i p) (N.v1105_6 i p) (N.v1105_7 i p) (N.v1105_8 i p) (N.v1105_9 i p) (N.v1105_10 i p) (N.v1105_11 i p) (N.v1105_12 i p) (N.v1105_13 i p) (N.v1105_14 i p) (N.v1109 i p) (N.v1113 i p) (N.v1117 i p) (N.v1118 i p) (N.v1119 i p)).choose.1

def N.v1160 (i : grid0.Coords) (p : Loaded F) : FVec F S256x1 .f32 := (part28_pure (F := F) (N.v1046 i p) (N.v1048 i p) (N.v1050 i p) (N.v1105_3 i p) (N.v1105_5 i p) (N.v1105_6 i p) (N.v1105_7 i p) (N.v1105_8 i p) (N.v1105_9 i p) (N.v1105_10 i p) (N.v1105_11 i p) (N.v1105_12 i p) (N.v1105_13 i p) (N.v1105_14 i p) (N.v1109 i p) (N.v1113 i p) (N.v1117 i p) (N.v1118 i p) (N.v1119 i p)).choose.2.1

def N.v1161 (i : grid0.Coords) (p : Loaded F) : FVec F S256x1 .f32 := (part28_pure (F := F) (N.v1046 i p) (N.v1048 i p) (N.v1050 i p) (N.v1105_3 i p) (N.v1105_5 i p) (N.v1105_6 i p) (N.v1105_7 i p) (N.v1105_8 i p) (N.v1105_9 i p) (N.v1105_10 i p) (N.v1105_11 i p) (N.v1105_12 i p) (N.v1105_13 i p) (N.v1105_14 i p) (N.v1109 i p) (N.v1113 i p) (N.v1117 i p) (N.v1118 i p) (N.v1119 i p)).choose.2.2.1

def N.v1162 (i : grid0.Coords) (p : Loaded F) : FVec F S256x1 .f32 := (part28_pure (F := F) (N.v1046 i p) (N.v1048 i p) (N.v1050 i p) (N.v1105_3 i p) (N.v1105_5 i p) (N.v1105_6 i p) (N.v1105_7 i p) (N.v1105_8 i p) (N.v1105_9 i p) (N.v1105_10 i p) (N.v1105_11 i p) (N.v1105_12 i p) (N.v1105_13 i p) (N.v1105_14 i p) (N.v1109 i p) (N.v1113 i p) (N.v1117 i p) (N.v1118 i p) (N.v1119 i p)).choose.2.2.2.1

def N.v1171 (i : grid0.Coords) (p : Loaded F) : FVec F S256x16 .f32 := (part28_pure (F := F) (N.v1046 i p) (N.v1048 i p) (N.v1050 i p) (N.v1105_3 i p) (N.v1105_5 i p) (N.v1105_6 i p) (N.v1105_7 i p) (N.v1105_8 i p) (N.v1105_9 i p) (N.v1105_10 i p) (N.v1105_11 i p) (N.v1105_12 i p) (N.v1105_13 i p) (N.v1105_14 i p) (N.v1109 i p) (N.v1113 i p) (N.v1117 i p) (N.v1118 i p) (N.v1119 i p)).choose.2.2.2.2.1

def N.v1173 (i : grid0.Coords) (p : Loaded F) : FVec F S256x1 .f32 := (part28_pure (F := F) (N.v1046 i p) (N.v1048 i p) (N.v1050 i p) (N.v1105_3 i p) (N.v1105_5 i p) (N.v1105_6 i p) (N.v1105_7 i p) (N.v1105_8 i p) (N.v1105_9 i p) (N.v1105_10 i p) (N.v1105_11 i p) (N.v1105_12 i p) (N.v1105_13 i p) (N.v1105_14 i p) (N.v1109 i p) (N.v1113 i p) (N.v1117 i p) (N.v1118 i p) (N.v1119 i p)).choose.2.2.2.2.2

def N.v1189 (i : grid0.Coords) (p : Loaded F) : FVec F S256x1 .f32 := (part29_pure (F := F) (N.v1046 i p) (N.v1048 i p) (N.v1050 i p) (N.v1113 i p) (N.v1117 i p) (N.v1121 i p) (N.v1160 i p) (N.v1161 i p) (N.v1162 i p) (N.v1171 i p) (N.v1173 i p)).choose.1

def N.v1190 (i : grid0.Coords) (p : Loaded F) : FVec F S256x1 .f32 := (part29_pure (F := F) (N.v1046 i p) (N.v1048 i p) (N.v1050 i p) (N.v1113 i p) (N.v1117 i p) (N.v1121 i p) (N.v1160 i p) (N.v1161 i p) (N.v1162 i p) (N.v1171 i p) (N.v1173 i p)).choose.2.1

def N.v1191 (i : grid0.Coords) (p : Loaded F) : FVec F S256x1 .f32 := (part29_pure (F := F) (N.v1046 i p) (N.v1048 i p) (N.v1050 i p) (N.v1113 i p) (N.v1117 i p) (N.v1121 i p) (N.v1160 i p) (N.v1161 i p) (N.v1162 i p) (N.v1171 i p) (N.v1173 i p)).choose.2.2.1

def N.v1214 (i : grid0.Coords) (p : Loaded F) : FVec F S256x16 .f32 := (part29_pure (F := F) (N.v1046 i p) (N.v1048 i p) (N.v1050 i p) (N.v1113 i p) (N.v1117 i p) (N.v1121 i p) (N.v1160 i p) (N.v1161 i p) (N.v1162 i p) (N.v1171 i p) (N.v1173 i p)).choose.2.2.2.1

def N.v1223 (i : grid0.Coords) (p : Loaded F) : FVec F S256x16 .f32 := (part29_pure (F := F) (N.v1046 i p) (N.v1048 i p) (N.v1050 i p) (N.v1113 i p) (N.v1117 i p) (N.v1121 i p) (N.v1160 i p) (N.v1161 i p) (N.v1162 i p) (N.v1171 i p) (N.v1173 i p)).choose.2.2.2.2.1

def N.v1227 (i : grid0.Coords) (p : Loaded F) : FVec F S256x16 .f32 := (part29_pure (F := F) (N.v1046 i p) (N.v1048 i p) (N.v1050 i p) (N.v1113 i p) (N.v1117 i p) (N.v1121 i p) (N.v1160 i p) (N.v1161 i p) (N.v1162 i p) (N.v1171 i p) (N.v1173 i p)).choose.2.2.2.2.2

theorem part6_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part6 (F := F) i arg2 harg2 arg3 harg3 arg4 harg4 arg5 harg5 arg6 harg6 arg7 harg7 arg8 harg8 arg9 harg9 p.v29 p.v34 p.v38 p.v40 p.v41 = Pure.pure ⟨N.v44 i p, N.v59 i p, N.v74 i p, N.v79 i p, N.v88 i p⟩ :=
  by rw [k0_part6_eq_skeleton]; rfl

theorem part7_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part7 (F := F) i arg2 harg2 arg3 harg3 arg4 harg4 arg5 harg5 arg6 harg6 arg7 harg7 arg8 harg8 arg9 harg9 p.v29 (N.v79 i p) (N.v88 i p) = Pure.pure ⟨N.v89 i p, N.v104 i p, N.v119 i p, N.v124 i p, N.v134 i p, N.v135 i p, N.v136 i p⟩ :=
  by rw [k0_part7_eq_skeleton]; rfl

theorem part8_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part8 (F := F) i arg2 harg2 arg3 harg3 arg4 harg4 arg5 harg5 arg6 harg6 arg7 harg7 arg8 harg8 arg9 harg9 p.v29 (N.v124 i p) (N.v135 i p) (N.v136 i p) = Pure.pure ⟨N.v149 i p, N.v164 i p, N.v169 i p, N.v179 i p, N.v182 i p, N.v183 i p⟩ :=
  by rw [k0_part8_eq_skeleton]; rfl

theorem part9_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part9 (F := F) i arg2 harg2 arg3 harg3 arg4 harg4 arg5 harg5 arg6 harg6 arg7 harg7 arg8 harg8 arg9 harg9 p.v29 (N.v169 i p) (N.v182 i p) (N.v183 i p) = Pure.pure ⟨N.v194 i p, N.v209 i p, N.v224 i p, N.v229 i p, N.v230 i p⟩ :=
  by rw [k0_part9_eq_skeleton]; rfl

theorem part10_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part10 (F := F) i arg2 harg2 arg3 harg3 arg4 harg4 arg5 harg5 arg6 harg6 arg7 harg7 arg8 harg8 arg9 harg9 p.v29 (N.v44 i p) (N.v59 i p) (N.v74 i p) (N.v89 i p) (N.v104 i p) (N.v119 i p) (N.v134 i p) (N.v149 i p) (N.v164 i p) (N.v179 i p) (N.v194 i p) (N.v209 i p) (N.v224 i p) (N.v229 i p) (N.v230 i p) = Pure.pure ⟨N.v270 i p, N.v272 i p, N.v276 i p, N.cst_71 i p⟩ :=
  by rw [k0_part10_eq_skeleton]; rfl

theorem part11_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part11 (F := F) i arg2 harg2 arg3 harg3 arg4 harg4 arg5 harg5 arg6 harg6 arg7 harg7 arg8 harg8 arg9 harg9 p.v6 (N.v272 i p) (N.v276 i p) (N.cst_71 i p) = Pure.pure ⟨N.v322 i p, N.v325 i p, N.v326 i p⟩ :=
  (part11_pure (F := F) p.v6 (N.v272 i p) (N.v276 i p) (N.cst_71 i p)).choose_spec i arg2 harg2 arg3 harg3 arg4 harg4 arg5 harg5 arg6 harg6 arg7 harg7 arg8 harg8 arg9 harg9

theorem part12_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part12 (F := F) i arg2 harg2 arg3 harg3 arg4 harg4 arg5 harg5 arg6 harg6 arg7 harg7 arg8 harg8 arg9 harg9 p.v6 (N.v272 i p) (N.v276 i p) (N.v322 i p) (N.v325 i p) (N.v326 i p) = Pure.pure ⟨N.v367 i p, N.v370 i p, N.v376 i p⟩ :=
  (part12_pure (F := F) p.v6 (N.v272 i p) (N.v276 i p) (N.v322 i p) (N.v325 i p) (N.v326 i p)).choose_spec i arg2 harg2 arg3 harg3 arg4 harg4 arg5 harg5 arg6 harg6 arg7 harg7 arg8 harg8 arg9 harg9

theorem part13_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part13 (F := F) i arg2 harg2 arg3 harg3 arg4 harg4 arg5 harg5 arg6 harg6 arg7 harg7 arg8 harg8 arg9 harg9 p.v6 (N.v272 i p) (N.v276 i p) (N.v367 i p) (N.v370 i p) (N.v376 i p) = Pure.pure ⟨N.v412 i p, N.v424 i p, N.v426 i p⟩ :=
  (part13_pure (F := F) p.v6 (N.v272 i p) (N.v276 i p) (N.v367 i p) (N.v370 i p) (N.v376 i p)).choose_spec i arg2 harg2 arg3 harg3 arg4 harg4 arg5 harg5 arg6 harg6 arg7 harg7 arg8 harg8 arg9 harg9

theorem part14_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part14 (F := F) i arg2 harg2 arg3 harg3 arg4 harg4 arg5 harg5 arg6 harg6 arg7 harg7 arg8 harg8 arg9 harg9 p.v6 (N.v272 i p) (N.v276 i p) (N.v412 i p) (N.v424 i p) (N.v426 i p) = Pure.pure ⟨N.v472 i p, N.v475 i p, N.v476 i p⟩ :=
  (part14_pure (F := F) p.v6 (N.v272 i p) (N.v276 i p) (N.v412 i p) (N.v424 i p) (N.v426 i p)).choose_spec i arg2 harg2 arg3 harg3 arg4 harg4 arg5 harg5 arg6 harg6 arg7 harg7 arg8 harg8 arg9 harg9

theorem part15_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part15 (F := F) i arg2 harg2 arg3 harg3 arg4 harg4 arg5 harg5 arg6 harg6 arg7 harg7 arg8 harg8 arg9 harg9 p.v2 p.v6 (N.v270 i p) (N.v272 i p) (N.v276 i p) (N.v472 i p) (N.v475 i p) (N.v476 i p) = Pure.pure ⟨N.v519 i p, N.v521 i p, N.v525 i p⟩ :=
  (part15_pure (F := F) p.v2 p.v6 (N.v270 i p) (N.v272 i p) (N.v276 i p) (N.v472 i p) (N.v475 i p) (N.v476 i p)).choose_spec i arg2 harg2 arg3 harg3 arg4 harg4 arg5 harg5 arg6 harg6 arg7 harg7 arg8 harg8 arg9 harg9

theorem part16_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part16 (F := F) i arg2 harg2 arg3 harg3 arg4 harg4 arg5 harg5 arg6 harg6 arg7 harg7 arg8 harg8 arg9 harg9 p.v8 (N.v521 i p) (N.v525 i p) = Pure.pure ⟨N.v571 i p, N.v574 i p, N.c0_i32_118 i p⟩ :=
  (part16_pure (F := F) p.v8 (N.v521 i p) (N.v525 i p)).choose_spec i arg2 harg2 arg3 harg3 arg4 harg4 arg5 harg5 arg6 harg6 arg7 harg7 arg8 harg8 arg9 harg9

theorem part17_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part17 (F := F) i arg2 harg2 arg3 harg3 arg4 harg4 arg5 harg5 arg6 harg6 arg7 harg7 arg8 harg8 arg9 harg9 p.v8 (N.v521 i p) (N.v525 i p) (N.v571 i p) (N.v574 i p) (N.c0_i32_118 i p) = Pure.pure ⟨N.v616 i p, N.v619 i p, N.v624 i p⟩ :=
  (part17_pure (F := F) p.v8 (N.v521 i p) (N.v525 i p) (N.v571 i p) (N.v574 i p) (N.c0_i32_118 i p)).choose_spec i arg2 harg2 arg3 harg3 arg4 harg4 arg5 harg5 arg6 harg6 arg7 harg7 arg8 harg8 arg9 harg9

theorem part18_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part18 (F := F) i arg2 harg2 arg3 harg3 arg4 harg4 arg5 harg5 arg6 harg6 arg7 harg7 arg8 harg8 arg9 harg9 p.v8 (N.v521 i p) (N.v525 i p) (N.v616 i p) (N.v619 i p) (N.v624 i p) = Pure.pure ⟨N.v661 i p, N.v673 i p, N.v674 i p⟩ :=
  (part18_pure (F := F) p.v8 (N.v521 i p) (N.v525 i p) (N.v616 i p) (N.v619 i p) (N.v624 i p)).choose_spec i arg2 harg2 arg3 harg3 arg4 harg4 arg5 harg5 arg6 harg6 arg7 harg7 arg8 harg8 arg9 harg9

theorem part19_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part19 (F := F) i arg2 harg2 arg3 harg3 arg4 harg4 arg5 harg5 arg6 harg6 arg7 harg7 arg8 harg8 arg9 harg9 p.v8 (N.v521 i p) (N.v525 i p) (N.v661 i p) (N.v673 i p) (N.v674 i p) = Pure.pure ⟨N.v721 i p, N.v724 i p, N.c0_i32_148 i p⟩ :=
  (part19_pure (F := F) p.v8 (N.v521 i p) (N.v525 i p) (N.v661 i p) (N.v673 i p) (N.v674 i p)).choose_spec i arg2 harg2 arg3 harg3 arg4 harg4 arg5 harg5 arg6 harg6 arg7 harg7 arg8 harg8 arg9 harg9

theorem part20_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part20 (F := F) i arg2 harg2 arg3 harg3 arg4 harg4 arg5 harg5 arg6 harg6 arg7 harg7 arg8 harg8 arg9 harg9 p.v3 p.v8 (N.v270 i p) (N.v521 i p) (N.v525 i p) (N.v721 i p) (N.v724 i p) (N.c0_i32_148 i p) = Pure.pure ⟨N.v768 i p, N.v770 i p, N.v772 i p, N.v773 i p⟩ :=
  (part20_pure (F := F) p.v3 p.v8 (N.v270 i p) (N.v521 i p) (N.v525 i p) (N.v721 i p) (N.v724 i p) (N.c0_i32_148 i p)).choose_spec i arg2 harg2 arg3 harg3 arg4 harg4 arg5 harg5 arg6 harg6 arg7 harg7 arg8 harg8 arg9 harg9

theorem part21_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part21 (F := F) i arg2 harg2 arg3 harg3 arg4 harg4 arg5 harg5 arg6 harg6 arg7 harg7 arg8 harg8 arg9 harg9 p.v10 (N.v770 i p) (N.v772 i p) (N.v773 i p) = Pure.pure ⟨N.v774 i p, N.v820 i p, N.v823 i p⟩ :=
  (part21_pure (F := F) p.v10 (N.v770 i p) (N.v772 i p) (N.v773 i p)).choose_spec i arg2 harg2 arg3 harg3 arg4 harg4 arg5 harg5 arg6 harg6 arg7 harg7 arg8 harg8 arg9 harg9

theorem part22_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part22 (F := F) i arg2 harg2 arg3 harg3 arg4 harg4 arg5 harg5 arg6 harg6 arg7 harg7 arg8 harg8 arg9 harg9 p.v10 (N.v770 i p) (N.v774 i p) (N.v820 i p) (N.v823 i p) = Pure.pure ⟨N.v865 i p, N.v868 i p, N.v870 i p, N.v872 i p⟩ :=
  (part22_pure (F := F) p.v10 (N.v770 i p) (N.v774 i p) (N.v820 i p) (N.v823 i p)).choose_spec i arg2 harg2 arg3 harg3 arg4 harg4 arg5 harg5 arg6 harg6 arg7 harg7 arg8 harg8 arg9 harg9

theorem part23_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part23 (F := F) i arg2 harg2 arg3 harg3 arg4 harg4 arg5 harg5 arg6 harg6 arg7 harg7 arg8 harg8 arg9 harg9 p.v10 (N.v770 i p) (N.v774 i p) (N.v865 i p) (N.v868 i p) (N.v870 i p) (N.v872 i p) = Pure.pure ⟨N.v910 i p, N.v922 i p, N.c9_i32_190 i p⟩ :=
  (part23_pure (F := F) p.v10 (N.v770 i p) (N.v774 i p) (N.v865 i p) (N.v868 i p) (N.v870 i p) (N.v872 i p)).choose_spec i arg2 harg2 arg3 harg3 arg4 harg4 arg5 harg5 arg6 harg6 arg7 harg7 arg8 harg8 arg9 harg9

theorem part24_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part24 (F := F) i arg2 harg2 arg3 harg3 arg4 harg4 arg5 harg5 arg6 harg6 arg7 harg7 arg8 harg8 arg9 harg9 p.v10 (N.v770 i p) (N.v774 i p) (N.v910 i p) (N.v922 i p) (N.c9_i32_190 i p) = Pure.pure ⟨N.v970 i p, N.v973 i p⟩ :=
  (part24_pure (F := F) p.v10 (N.v770 i p) (N.v774 i p) (N.v910 i p) (N.v922 i p) (N.c9_i32_190 i p)).choose_spec i arg2 harg2 arg3 harg3 arg4 harg4 arg5 harg5 arg6 harg6 arg7 harg7 arg8 harg8 arg9 harg9

theorem part25_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part25 (F := F) i arg2 harg2 arg3 harg3 arg4 harg4 arg5 harg5 arg6 harg6 arg7 harg7 arg8 harg8 arg9 harg9 p.v4 p.v10 (N.v519 i p) (N.v768 i p) (N.v770 i p) (N.v774 i p) (N.v970 i p) (N.v973 i p) = Pure.pure ⟨N.v1017 i p, N.v1022 i p, N.v1023 i p⟩ :=
  (part25_pure (F := F) p.v4 p.v10 (N.v519 i p) (N.v768 i p) (N.v770 i p) (N.v774 i p) (N.v970 i p) (N.v973 i p)).choose_spec i arg2 harg2 arg3 harg3 arg4 harg4 arg5 harg5 arg6 harg6 arg7 harg7 arg8 harg8 arg9 harg9

theorem part26_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part26 (F := F) i arg2 harg2 arg3 harg3 arg4 harg4 arg5 harg5 arg6 harg6 arg7 harg7 arg8 harg8 arg9 harg9 (N.v519 i p) (N.v768 i p) (N.v1017 i p) (N.v1022 i p) (N.v1023 i p) = Pure.pure ⟨N.v1035 i p, N.v1038 i p, N.v1041 i p, N.v1044 i p, N.v1046 i p, N.v1048 i p, N.v1050 i p, N.v1056 i p, N.v1062 i p, N.v1068 i p, N.v1072 i p⟩ :=
  (part26_pure (F := F) (N.v519 i p) (N.v768 i p) (N.v1017 i p) (N.v1022 i p) (N.v1023 i p)).choose_spec i arg2 harg2 arg3 harg3 arg4 harg4 arg5 harg5 arg6 harg6 arg7 harg7 arg8 harg8 arg9 harg9

theorem part27_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part27 (F := F) i arg2 harg2 arg3 harg3 arg4 harg4 arg5 harg5 arg6 harg6 arg7 harg7 arg8 harg8 arg9 harg9 (N.v1035 i p) (N.v1038 i p) (N.v1041 i p) (N.v1044 i p) (N.v1046 i p) (N.v1048 i p) (N.v1050 i p) (N.v1056 i p) (N.v1062 i p) (N.v1068 i p) (N.v1072 i p) = Pure.pure ⟨N.v1105_3 i p, N.v1105_5 i p, N.v1105_6 i p, N.v1105_7 i p, N.v1105_8 i p, N.v1105_9 i p, N.v1105_10 i p, N.v1105_11 i p, N.v1105_12 i p, N.v1105_13 i p, N.v1105_14 i p, N.v1109 i p, N.v1113 i p, N.v1117 i p, N.v1118 i p, N.v1119 i p⟩ :=
  (part27_pure (F := F) (N.v1035 i p) (N.v1038 i p) (N.v1041 i p) (N.v1044 i p) (N.v1046 i p) (N.v1048 i p) (N.v1050 i p) (N.v1056 i p) (N.v1062 i p) (N.v1068 i p) (N.v1072 i p)).choose_spec i arg2 harg2 arg3 harg3 arg4 harg4 arg5 harg5 arg6 harg6 arg7 harg7 arg8 harg8 arg9 harg9

theorem part28_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part28 (F := F) i arg2 harg2 arg3 harg3 arg4 harg4 arg5 harg5 arg6 harg6 arg7 harg7 arg8 harg8 arg9 harg9 (N.v1046 i p) (N.v1048 i p) (N.v1050 i p) (N.v1105_3 i p) (N.v1105_5 i p) (N.v1105_6 i p) (N.v1105_7 i p) (N.v1105_8 i p) (N.v1105_9 i p) (N.v1105_10 i p) (N.v1105_11 i p) (N.v1105_12 i p) (N.v1105_13 i p) (N.v1105_14 i p) (N.v1109 i p) (N.v1113 i p) (N.v1117 i p) (N.v1118 i p) (N.v1119 i p) = Pure.pure ⟨N.v1121 i p, N.v1160 i p, N.v1161 i p, N.v1162 i p, N.v1171 i p, N.v1173 i p⟩ :=
  (part28_pure (F := F) (N.v1046 i p) (N.v1048 i p) (N.v1050 i p) (N.v1105_3 i p) (N.v1105_5 i p) (N.v1105_6 i p) (N.v1105_7 i p) (N.v1105_8 i p) (N.v1105_9 i p) (N.v1105_10 i p) (N.v1105_11 i p) (N.v1105_12 i p) (N.v1105_13 i p) (N.v1105_14 i p) (N.v1109 i p) (N.v1113 i p) (N.v1117 i p) (N.v1118 i p) (N.v1119 i p)).choose_spec i arg2 harg2 arg3 harg3 arg4 harg4 arg5 harg5 arg6 harg6 arg7 harg7 arg8 harg8 arg9 harg9

theorem part29_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    k0_part29 (F := F) i arg2 harg2 arg3 harg3 arg4 harg4 arg5 harg5 arg6 harg6 arg7 harg7 arg8 harg8 arg9 harg9 (N.v1046 i p) (N.v1048 i p) (N.v1050 i p) (N.v1113 i p) (N.v1117 i p) (N.v1121 i p) (N.v1160 i p) (N.v1161 i p) (N.v1162 i p) (N.v1171 i p) (N.v1173 i p) = Pure.pure ⟨N.v1189 i p, N.v1190 i p, N.v1191 i p, N.v1214 i p, N.v1223 i p, N.v1227 i p⟩ :=
  (part29_pure (F := F) (N.v1046 i p) (N.v1048 i p) (N.v1050 i p) (N.v1113 i p) (N.v1117 i p) (N.v1121 i p) (N.v1160 i p) (N.v1161 i p) (N.v1162 i p) (N.v1171 i p) (N.v1173 i p)).choose_spec i arg2 harg2 arg3 harg3 arg4 harg4 arg5 harg5 arg6 harg6 arg7 harg7 arg8 harg8 arg9 harg9

abbrev r3 : Rect S1x256x3 := Rect.unit (s := S1x256x3) ![0, 0, 0] S1x256x3.size inb_S1x256x3_S1x256x3_0_0_0
abbrev r16 : Rect S1x256x16 := Rect.unit (s := S1x256x16) ![0, 0, 0] S1x256x16.size inb_S1x256x16_S1x256x16_0_0_0
abbrev r1 : Rect S1x256x1 := Rect.unit (s := S1x256x1) ![0, 0, 0] S1x256x1.size inb_S1x256x1_S1x256x1_0_0_0
abbrev q0 : Rect S1x3x2048 := Rect.unit (s := S1x3x2048) ![0, 0, 0] S1x1x2048.size inb_S1x3x2048_S1x1x2048_0_0_0
abbrev q1 : Rect S1x3x2048 := Rect.unit (s := S1x3x2048) ![0, 1, 0] S1x1x2048.size inb_S1x3x2048_S1x1x2048_0_1_0
abbrev q2 : Rect S1x3x2048 := Rect.unit (s := S1x3x2048) ![0, 2, 0] S1x1x2048.size inb_S1x3x2048_S1x1x2048_0_2_0

/-- What the program computes from the loaded rows before its first part ends. -/
def loaded (i : grid0.Coords) (x0 : Vec F S1x256x3 .f32) (x1 : Vec F S1x3x2048 .f32) : Loaded F :=
  ⟨k0_pay55 (View.ld x0 r3), k0_pay56 (View.ld x0 r3), k0_pay57 (View.ld x0 r3), k0_pay58 (View.ld x1 q0), k0_pay59 (View.ld x1 q1), k0_pay60 (View.ld x1 q2), iota .tc S1x2048 32 [1] iota_S1x2048_d1_w32, k0_pay61 i (View.ld x0 r3) (View.ld x1 q0) (View.ld x1 q1) (View.ld x1 q2), k0_pay62 i (View.ld x0 r3) (View.ld x1 q0) (View.ld x1 q1) (View.ld x1 q2), k0_pay63, k0_pay64⟩

/-- The program after its loads. -/
def rest (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) : Prog (TpuEff nD τ sig (Elt F) Λ₀ .tc) PUnit := do
  let ⟨v44, v59, v74, v79, v88⟩ : Σ' (v44 : IVec S256x1 32) (v59 : IVec S256x1 32) (v74 : IVec S256x1 32) (v79 : FVec F S256x2048 .f32), IVec S256 32 ← k0_part6 i arg2 harg2 arg3 harg3 arg4 harg4 arg5 harg5 arg6 harg6 arg7 harg7 arg8 harg8 arg9 harg9 p.v29 p.v34 p.v38 p.v40 p.v41
  let ⟨v89, v104, v119, v124, v134, v135, v136⟩ : Σ' (v89 : IVec S256x1 32) (v104 : IVec S256x1 32) (v119 : IVec S256x1 32) (v124 : FVec F S256x2048 .f32) (v134 : IVec S256x1 32) (v135 : IVec S256x2048 32), IVec S256x2048 32 ← k0_part7 i arg2 harg2 arg3 harg3 arg4 harg4 arg5 harg5 arg6 harg6 arg7 harg7 arg8 harg8 arg9 harg9 p.v29 v79 v88
  let ⟨v149, v164, v169, v179, v182, v183⟩ : Σ' (v149 : IVec S256x1 32) (v164 : IVec S256x1 32) (v169 : FVec F S256x2048 .f32) (v179 : IVec S256x1 32) (v182 : IVec S256x2048 1), FVec F S256x2048 .f32 ← k0_part8 i arg2 harg2 arg3 harg3 arg4 harg4 arg5 harg5 arg6 harg6 arg7 harg7 arg8 harg8 arg9 harg9 p.v29 v124 v135 v136
  let ⟨v194, v209, v224, v229, v230⟩ : Σ' (v194 : IVec S256x1 32) (v209 : IVec S256x1 32) (v224 : IVec S256x1 32) (v229 : FVec F S256x2048 .f32), FVec F S256 .f32 ← k0_part9 i arg2 harg2 arg3 harg3 arg4 harg4 arg5 harg5 arg6 harg6 arg7 harg7 arg8 harg8 arg9 harg9 p.v29 v169 v182 v183
  let ⟨v270, v272, v276, cst_71⟩ : Σ' (v270 : IVec S256x16 32) (v272 : IVec S256x16 32) (v276 : IVec S256x128 32), F .f32 ← k0_part10 i arg2 harg2 arg3 harg3 arg4 harg4 arg5 harg5 arg6 harg6 arg7 harg7 arg8 harg8 arg9 harg9 p.v29 v44 v59 v74 v89 v104 v119 v134 v149 v164 v179 v194 v209 v224 v229 v230
  let ⟨v322, v325, v326⟩ : Σ' (v322 : FVec F S256x16 .f32) (v325 : FVec F S256x128 .f32), IVec S256x128 32 ← k0_part11 i arg2 harg2 arg3 harg3 arg4 harg4 arg5 harg5 arg6 harg6 arg7 harg7 arg8 harg8 arg9 harg9 p.v6 v272 v276 cst_71
  let ⟨v367, v370, v376⟩ : Σ' (v367 : FVec F S256x16 .f32) (v370 : FVec F S256x128 .f32), IVec S256x128x1 32 ← k0_part12 i arg2 harg2 arg3 harg3 arg4 harg4 arg5 harg5 arg6 harg6 arg7 harg7 arg8 harg8 arg9 harg9 p.v6 v272 v276 v322 v325 v326
  let ⟨v412, v424, v426⟩ : Σ' (v412 : FVec F S256x16 .f32) (v424 : FVec F S256x16 .f32), IVec S256x16 1 ← k0_part13 i arg2 harg2 arg3 harg3 arg4 harg4 arg5 harg5 arg6 harg6 arg7 harg7 arg8 harg8 arg9 harg9 p.v6 v272 v276 v367 v370 v376
  let ⟨v472, v475, v476⟩ : Σ' (v472 : FVec F S256x16 .f32) (v475 : FVec F S256x128 .f32), IVec S256x128 32 ← k0_part14 i arg2 harg2 arg3 harg3 arg4 harg4 arg5 harg5 arg6 harg6 arg7 harg7 arg8 harg8 arg9 harg9 p.v6 v272 v276 v412 v424 v426
  let ⟨v519, v521, v525⟩ : Σ' (v519 : FVec F S256x16 .f32) (v521 : IVec S256x16 32), IVec S256x128 32 ← k0_part15 i arg2 harg2 arg3 harg3 arg4 harg4 arg5 harg5 arg6 harg6 arg7 harg7 arg8 harg8 arg9 harg9 p.v2 p.v6 v270 v272 v276 v472 v475 v476
  let ⟨v571, v574, c0_i32_118⟩ : Σ' (v571 : FVec F S256x16 .f32) (v574 : FVec F S256x128 .f32), BitVec 32 ← k0_part16 i arg2 harg2 arg3 harg3 arg4 harg4 arg5 harg5 arg6 harg6 arg7 harg7 arg8 harg8 arg9 harg9 p.v8 v521 v525
  let ⟨v616, v619, v624⟩ : Σ' (v616 : FVec F S256x16 .f32) (v619 : FVec F S256x128 .f32), IVec S256x128 32 ← k0_part17 i arg2 harg2 arg3 harg3 arg4 harg4 arg5 harg5 arg6 harg6 arg7 harg7 arg8 harg8 arg9 harg9 p.v8 v521 v525 v571 v574 c0_i32_118
  let ⟨v661, v673, v674⟩ : Σ' (v661 : FVec F S256x16 .f32) (v673 : FVec F S256x16 .f32), IVec S256x16 32 ← k0_part18 i arg2 harg2 arg3 harg3 arg4 harg4 arg5 harg5 arg6 harg6 arg7 harg7 arg8 harg8 arg9 harg9 p.v8 v521 v525 v616 v619 v624
  let ⟨v721, v724, c0_i32_148⟩ : Σ' (v721 : FVec F S256x16 .f32) (v724 : FVec F S256x128 .f32), BitVec 32 ← k0_part19 i arg2 harg2 arg3 harg3 arg4 harg4 arg5 harg5 arg6 harg6 arg7 harg7 arg8 harg8 arg9 harg9 p.v8 v521 v525 v661 v673 v674
  let ⟨v768, v770, v772, v773⟩ : Σ' (v768 : FVec F S256x16 .f32) (v770 : IVec S256x16 32) (v772 : IVec S256x16 32), IVec S256x112 32 ← k0_part20 i arg2 harg2 arg3 harg3 arg4 harg4 arg5 harg5 arg6 harg6 arg7 harg7 arg8 harg8 arg9 harg9 p.v3 p.v8 v270 v521 v525 v721 v724 c0_i32_148
  let ⟨v774, v820, v823⟩ : Σ' (v774 : IVec S256x128 32) (v820 : FVec F S256x16 .f32), FVec F S256x128 .f32 ← k0_part21 i arg2 harg2 arg3 harg3 arg4 harg4 arg5 harg5 arg6 harg6 arg7 harg7 arg8 harg8 arg9 harg9 p.v10 v770 v772 v773
  let ⟨v865, v868, v870, v872⟩ : Σ' (v865 : FVec F S256x16 .f32) (v868 : FVec F S256x128 .f32) (v870 : IVec S256x128 1), IVec S256x128 32 ← k0_part22 i arg2 harg2 arg3 harg3 arg4 harg4 arg5 harg5 arg6 harg6 arg7 harg7 arg8 harg8 arg9 harg9 p.v10 v770 v774 v820 v823
  let ⟨v910, v922, c9_i32_190⟩ : Σ' (v910 : FVec F S256x16 .f32) (v922 : FVec F S256x16 .f32), BitVec 32 ← k0_part23 i arg2 harg2 arg3 harg3 arg4 harg4 arg5 harg5 arg6 harg6 arg7 harg7 arg8 harg8 arg9 harg9 p.v10 v770 v774 v865 v868 v870 v872
  let ⟨v970, v973⟩ : Σ' (v970 : FVec F S256x16 .f32), FVec F S256x128 .f32 ← k0_part24 i arg2 harg2 arg3 harg3 arg4 harg4 arg5 harg5 arg6 harg6 arg7 harg7 arg8 harg8 arg9 harg9 p.v10 v770 v774 v910 v922 c9_i32_190
  let ⟨v1017, v1022, v1023⟩ : Σ' (v1017 : FVec F S256x16 .f32) (v1022 : FVec F S256x16 .f32), FVec F S256x16 .f32 ← k0_part25 i arg2 harg2 arg3 harg3 arg4 harg4 arg5 harg5 arg6 harg6 arg7 harg7 arg8 harg8 arg9 harg9 p.v4 p.v10 v519 v768 v770 v774 v970 v973
  let ⟨v1035, v1038, v1041, v1044, v1046, v1048, v1050, v1056, v1062, v1068, v1072⟩ : Σ' (v1035 : FVec F S256x1 .f32) (v1038 : FVec F S256x16 .f32) (v1041 : FVec F S256x16 .f32) (v1044 : FVec F S256x16 .f32) (v1046 : FVec F S256x16 .f32) (v1048 : FVec F S256x16 .f32) (v1050 : FVec F S256x16 .f32) (v1056 : FVec F S256x1 .f32) (v1062 : FVec F S256x1 .f32) (v1068 : FVec F S256x1 .f32), FVec F S256x1 .f32 ← k0_part26 i arg2 harg2 arg3 harg3 arg4 harg4 arg5 harg5 arg6 harg6 arg7 harg7 arg8 harg8 arg9 harg9 v519 v768 v1017 v1022 v1023
  let ⟨v1105_3, v1105_5, v1105_6, v1105_7, v1105_8, v1105_9, v1105_10, v1105_11, v1105_12, v1105_13, v1105_14, v1109, v1113, v1117, v1118, v1119⟩ : Σ' (v1105_3 : FVec F S256x1 .f32) (v1105_5 : FVec F S256x1 .f32) (v1105_6 : FVec F S256x1 .f32) (v1105_7 : FVec F S256x1 .f32) (v1105_8 : FVec F S256x1 .f32) (v1105_9 : FVec F S256x1 .f32) (v1105_10 : FVec F S256x1 .f32) (v1105_11 : FVec F S256x1 .f32) (v1105_12 : FVec F S256x1 .f32) (v1105_13 : FVec F S256x1 .f32) (v1105_14 : FVec F S256x1 .f32) (v1109 : FVec F S256x1 .f32) (v1113 : FVec F S256x1 .f32) (v1117 : FVec F S256x1 .f32) (v1118 : IVec S256x1 1), IVec S256x1 1 ← k0_part27 i arg2 harg2 arg3 harg3 arg4 harg4 arg5 harg5 arg6 harg6 arg7 harg7 arg8 harg8 arg9 harg9 v1035 v1038 v1041 v1044 v1046 v1048 v1050 v1056 v1062 v1068 v1072
  let ⟨v1121, v1160, v1161, v1162, v1171, v1173⟩ : Σ' (v1121 : FVec F S256x1 .f32) (v1160 : FVec F S256x1 .f32) (v1161 : FVec F S256x1 .f32) (v1162 : FVec F S256x1 .f32) (v1171 : FVec F S256x16 .f32), FVec F S256x1 .f32 ← k0_part28 i arg2 harg2 arg3 harg3 arg4 harg4 arg5 harg5 arg6 harg6 arg7 harg7 arg8 harg8 arg9 harg9 v1046 v1048 v1050 v1105_3 v1105_5 v1105_6 v1105_7 v1105_8 v1105_9 v1105_10 v1105_11 v1105_12 v1105_13 v1105_14 v1109 v1113 v1117 v1118 v1119
  let ⟨v1189, v1190, v1191, v1214, v1223, v1227⟩ : Σ' (v1189 : FVec F S256x1 .f32) (v1190 : FVec F S256x1 .f32) (v1191 : FVec F S256x1 .f32) (v1214 : FVec F S256x16 .f32) (v1223 : FVec F S256x16 .f32), FVec F S256x16 .f32 ← k0_part29 i arg2 harg2 arg3 harg3 arg4 harg4 arg5 harg5 arg6 harg6 arg7 harg7 arg8 harg8 arg9 harg9 v1046 v1048 v1050 v1113 v1117 v1121 v1160 v1161 v1162 v1171 v1173
  let ⟨v1262, v1263⟩ : Σ' (v1262 : FVec F S256x1 .f32), Vec F S1x256x1 .f32 ← k0_part30 i arg2 harg2 arg3 harg3 arg4 harg4 arg5 harg5 arg6 harg6 arg7 harg7 arg8 harg8 arg9 harg9 v270 v1046 v1048 v1050 v1160 v1161 v1162 v1189 v1190 v1191 v1214 v1223 v1227
  Prog.lift (.store arg9 (Rect.unit (s := S1x256x1) ![0, 0, 0] S1x256x1.size inb_S1x256x1_S1x256x1_0_0_0) (k0_pay1 v1262) Finset.univ (View.stores_vmem_bits_univ h_S1x256x1 rfl) (.inl rfl))
  pure ⟨⟩

/-- The program after its loads is its stores, of values computed purely. -/
theorem rest_eq (i : grid0.Coords) (p : Loaded F) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    rest (F := F) i p arg2 harg2 arg3 harg3 arg4 harg4 arg5 harg5 arg6 harg6 arg7 harg7 arg8 harg8 arg9 harg9 = (do
    let ⟨v1262, v1263⟩ : Σ' (v1262 : FVec F S256x1 .f32), Vec F S1x256x1 .f32 ← k0_part30 i arg2 harg2 arg3 harg3 arg4 harg4 arg5 harg5 arg6 harg6 arg7 harg7 arg8 harg8 arg9 harg9 (N.v270 i p) (N.v1046 i p) (N.v1048 i p) (N.v1050 i p) (N.v1160 i p) (N.v1161 i p) (N.v1162 i p) (N.v1189 i p) (N.v1190 i p) (N.v1191 i p) (N.v1214 i p) (N.v1223 i p) (N.v1227 i p)
    Prog.lift (.store arg9 (Rect.unit (s := S1x256x1) ![0, 0, 0] S1x256x1.size inb_S1x256x1_S1x256x1_0_0_0) (k0_pay1 v1262) Finset.univ (View.stores_vmem_bits_univ h_S1x256x1 rfl) (.inl rfl))
    pure ⟨⟩) := by
  unfold rest
  simp only [part6_eq, part7_eq, part8_eq, part9_eq, part10_eq, part11_eq, part12_eq, part13_eq, part14_eq, part15_eq, part16_eq, part17_eq, part18_eq, part19_eq, part20_eq, part21_eq, part22_eq, part23_eq, part24_eq, part25_eq, part26_eq, part27_eq, part28_eq, part29_eq, pure_bind]

theorem root_eq (i : grid0.Coords) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) :
    cc0__lrf_kernel (F := F) i arg2 harg2 arg3 harg3 arg4 harg4 arg5 harg5 arg6 harg6 arg7 harg7 arg8 harg8 arg9 harg9 = (k0_part5 i arg2 harg2 arg3 harg3 arg4 harg4 arg5 harg5 arg6 harg6 arg7 harg7 arg8 harg8 arg9 harg9 >>= fun ⟨v2, v3, v4, v6, v8, v10, v29, v34, v38, v40, v41⟩ =>
      rest i ⟨v2, v3, v4, v6, v8, v10, v29, v34, v38, v40, v41⟩ arg2 harg2 arg3 harg3 arg4 harg4 arg5 harg5 arg6 harg6 arg7 harg7 arg8 harg8 arg9 harg9) := by
  rw [cc0__lrf_kernel_eq_skeleton]; rfl

/-- Each output's buffer after the body at point `i`, from the two input blocks. -/
def out2 (i : grid0.Coords) (x0 : Vec F S1x256x3 .f32) (x1 : Vec F S1x3x2048 .f32) : Vec F S1x256x16 .f32 :=
  View.canon [⟨r16, k0_pay189 (N.v1214 i (loaded i x0 x1))⟩]
def out3 (i : grid0.Coords) (x0 : Vec F S1x256x3 .f32) (x1 : Vec F S1x3x2048 .f32) : Vec F S1x256x16 .f32 :=
  View.canon [⟨r16, k0_pay190 (N.v1223 i (loaded i x0 x1)) (N.v1227 i (loaded i x0 x1))⟩]
def out4 (i : grid0.Coords) (x0 : Vec F S1x256x3 .f32) (x1 : Vec F S1x3x2048 .f32) : Vec F S1x256x16 .f32 :=
  View.canon [⟨r16, k0_pay191 (N.v1046 i (loaded i x0 x1)) (N.v1048 i (loaded i x0 x1)) (N.v1050 i (loaded i x0 x1)) (N.v1160 i (loaded i x0 x1)) (N.v1161 i (loaded i x0 x1)) (N.v1162 i (loaded i x0 x1))⟩]
def out5 (i : grid0.Coords) (x0 : Vec F S1x256x3 .f32) (x1 : Vec F S1x3x2048 .f32) : Vec F S1x256x3 .f32 :=
  View.canon [⟨r3, k0_pay192 (N.v1189 i (loaded i x0 x1)) (N.v1190 i (loaded i x0 x1)) (N.v1191 i (loaded i x0 x1))⟩]
def out6 (i : grid0.Coords) (x0 : Vec F S1x256x3 .f32) (x1 : Vec F S1x3x2048 .f32) : Vec F S1x256x16 .i32 :=
  View.canon [⟨r16, k0_pay193 (N.v270 i (loaded i x0 x1))⟩]
def out7 (i : grid0.Coords) (x0 : Vec F S1x256x3 .f32) (x1 : Vec F S1x3x2048 .f32) : Vec F S1x256x1 .f32 :=
  View.canon [⟨r1, k0_pay1 (k0_pay194 (N.v1046 i (loaded i x0 x1)) (N.v1048 i (loaded i x0 x1)) (N.v1050 i (loaded i x0 x1)) (N.v1160 i (loaded i x0 x1)) (N.v1161 i (loaded i x0 x1)) (N.v1162 i (loaded i x0 x1)) (N.v1214 i (loaded i x0 x1)) (N.v1223 i (loaded i x0 x1)) (N.v1227 i (loaded i x0 x1)))⟩]

theorem cover16 {e : EltTy} (p0 : Vec F S1x256x16 e) (y : S1x256x16.Idx) :
    ∃ pc ∈ ([⟨r16, p0⟩] : List (View.Piece (Elt F) S1x256x16 e)), y ∈ pc.1.set :=
  View.cover_of_tiled [⟨r16, p0⟩] S1x256x16.size (by rfl) y
theorem cover3 (p0 : Vec F S1x256x3 .f32) (y : S1x256x3.Idx) :
    ∃ pc ∈ ([⟨r3, p0⟩] : List (View.Piece (Elt F) S1x256x3 .f32)), y ∈ pc.1.set :=
  View.cover_of_tiled [⟨r3, p0⟩] S1x256x3.size (by rfl) y
theorem cover1 (p0 : Vec F S1x256x1 .f32) (y : S1x256x1.Idx) :
    ∃ pc ∈ ([⟨r1, p0⟩] : List (View.Piece (Elt F) S1x256x1 .f32)), y ∈ pc.1.set :=
  View.cover_of_tiled [⟨r1, p0⟩] S1x256x1.size (by rfl) y

end Cert.Proof.KernelIdeal

end
-- ==== Proof.KernelIdealBody.lean ====
/- The body of the first call runs to its end with each output's buffer at a function of the two input blocks. -/
module

public import proofs.«01_k».proof.Proof.Gen.KernelIdeal.Frame
public import proofs.«01_k».proof.Proof.Gen.KernelIdeal.Skeleton
public import proofs.«01_k».proof.Proof.KernelIdealParts
public import Idealize.ShloMosaic.Lib.Tactic
public import Idealize.ShloMosaic.Lib.Pipeline.FrameBody
public import Idealize.ShloMosaic.Lib.Pipeline.Value
public import Idealize.ShloMosaic.Lib.Claim
public import Idealize.ShloMosaic.Lib.UnfoldOut

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- a loaded vector has its shape only through the rectangle it is loaded from
set_option backward.isDefEq.respectTransparency.types false in
set_option maxHeartbeats 4000000 in
/-- The body on whole buffers, its two inputs at `x0` and `x1`: it runs to its end with the inputs as they were and
    each output's buffer at `outW` of them. -/
theorem sound_kernel (i : grid0.Coords) (x0 : Vec F S1x256x3 .f32) (x1 : Vec F S1x3x2048 .f32)
    (c : Dev nD) (E : Set ℕ) (arg2 : Memref sig .tc .vmem S1x256x3 .f32) (harg2 : arg2.IsWhole) (arg3 : Memref sig .tc .vmem S1x3x2048 .f32) (harg3 : arg3.IsWhole) (arg4 : Memref sig .tc .vmem S1x256x16 .f32) (harg4 : arg4.IsWhole) (arg5 : Memref sig .tc .vmem S1x256x16 .f32) (harg5 : arg5.IsWhole) (arg6 : Memref sig .tc .vmem S1x256x16 .f32) (harg6 : arg6.IsWhole) (arg7 : Memref sig .tc .vmem S1x256x3 .f32) (harg7 : arg7.IsWhole) (arg8 : Memref sig .tc .vmem S1x256x16 .i32) (harg8 : arg8.IsWhole) (arg9 : Memref sig .tc .vmem S1x256x1 .f32) (harg9 : arg9.IsWhole) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare (out2 i x0 x1) ∗ owns (c : Thread nD τ) arg5 fullShare (out3 i x0 x1) ∗ owns (c : Thread nD τ) arg6 fullShare (out4 i x0 x1) ∗ owns (c : Thread nD τ) arg7 fullShare (out5 i x0 x1) ∗ owns (c : Thread nD τ) arg8 fullShare (out6 i x0 x1) ∗ owns (c : Thread nD τ) arg9 fullShare (out7 i x0 x1)) -∗ K ⟨⟩))
      ⊢ wp frame (wpE (defs₀ (F := F)) Variants.none c none) E (cc0__lrf_kernel i arg2 harg2 arg3 harg3 arg4 harg4 arg5 harg5 arg6 harg6 arg7 harg7 arg8 harg8 arg9 harg9) K := by
  rw [root_eq, k0_part5_eq_skeleton]; unfold k0_part5_skel
  simp only [bind_assoc, pure_bind, rest_eq, k0_part30_eq_skeleton]; unfold k0_part30_skel
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact (View.read_writes_eq_canon _ _ _ (cover16 _)).trans rfl
  isplitl [H3]
  · iexists _; isplitr
    swap; · iexact H3
    ipureintro
    exact (View.read_writes_eq_canon _ _ _ (cover16 _)).trans rfl
  isplitl [H4]
  · iexists _; isplitr
    swap; · iexact H4
    ipureintro
    exact (View.read_writes_eq_canon _ _ _ (cover16 _)).trans rfl
  isplitl [H5]
  · iexists _; isplitr
    swap; · iexact H5
    ipureintro
    exact (View.read_writes_eq_canon _ _ _ (cover3 _)).trans rfl
  isplitl [H6]
  · iexists _; isplitr
    swap; · iexact H6
    ipureintro
    exact (View.read_writes_eq_canon _ _ _ (cover16 _)).trans rfl
  iexists _; isplitr
  swap; · iexact H7
  ipureintro
  exact (View.read_writes_eq_canon _ _ _ (cover1 _)).trans rfl

variable (m : (ℓ : Loc nD τ sig) → Buf (Elt F) ℓ) (ρ : Dev nD → PrngReg)

/-- What the run is proved from: the arrays as the region finds them, and after the body at point `t` each input's
    buffer at its block and each output's at `outW` of the two. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (grid0.coords t) (iblk m c 0 t) (iblk m c 1 t)
    | ⟨3, _⟩ => out3 (grid0.coords t) (iblk m c 0 t) (iblk m c 1 t)
    | ⟨4, _⟩ => out4 (grid0.coords t) (iblk m c 0 t) (iblk m c 1 t)
    | ⟨5, _⟩ => out5 (grid0.coords t) (iblk m c 0 t) (iblk m c 1 t)
    | ⟨6, _⟩ => out6 (grid0.coords t) (iblk m c 0 t) (iblk m c 1 t)
    | ⟨7, _⟩ => out7 (grid0.coords t) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = out2 (grid0.coords t) (iblk m c 0 t) (iblk m c 1 t) := by dsimp only [dats]
theorem after_3 (c : Dev nD) (t : Fin cfg0.N) : (dats m 0 c).after 3 t = out3 (grid0.coords t) (iblk m c 0 t) (iblk m c 1 t) := by dsimp only [dats]
theorem after_4 (c : Dev nD) (t : Fin cfg0.N) : (dats m 0 c).after 4 t = out4 (grid0.coords t) (iblk m c 0 t) (iblk m c 1 t) := by dsimp only [dats]
theorem after_5 (c : Dev nD) (t : Fin cfg0.N) : (dats m 0 c).after 5 t = out5 (grid0.coords t) (iblk m c 0 t) (iblk m c 1 t) := by dsimp only [dats]
theorem after_6 (c : Dev nD) (t : Fin cfg0.N) : (dats m 0 c).after 6 t = out6 (grid0.coords t) (iblk m c 0 t) (iblk m c 1 t) := by dsimp only [dats]
theorem after_7 (c : Dev nD) (t : Fin cfg0.N) : (dats m 0 c).after 7 t = out7 (grid0.coords t) (iblk m c 0 t) (iblk m c 1 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel (grid0.coords t) (iblk m c 0 t) (iblk m c 1 t) c Set.univ _ _ _ _ _ _ _ _ _ _ _ _ _ _ _ _ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the launch's implicit arguments are found by unfolding plain definitions in a metavariable's type
set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The run ends with the argument as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ)) ((θ_run defs _ _).mono (fun _ h => h.2) (run_main_quiescent m ρ))

/-! ## The neighbours' array, block by block -/

theorem idx_inj : ∀ t t' : Fin cfg0.N, win0_6.index t = win0_6.index t' → t = t' :=
  (by decide +kernel : ∀ t t' : Fin grid0.N, win0_6.index t = win0_6.index t' → t = t')

theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj t t' h)

/-- Block `t` of the neighbours' final array is what point `t` wrote back. -/
theorem blocks6 (c : Dev nD) (t : Fin cfg0.N) (hf : (cfg0.win 6).flush t = true) :
    ((cfg0.win 6).blk t).view.read (Elt F) ((dats m 0 c).arrAt 6 cfg0.N) = (cfg0.win 6).cut (grid0.coords t) (out6 (grid0.coords t) (iblk m c 0 t) (iblk m c 1 t)) := by
  rw [(dats m 0 c).read_blk_arrAt_eq_flushed 6 disjoint6 cfg0.N t t.isLt hf]
  show (cfg0.win 6).cut (grid0.coords t) ((dats m 0 c).after 6 t) = _
  rw [after_6]

/-- The run with the neighbours' array named, the argument unchanged. -/
theorem run_blocks : θ_run defs (onTc (τ := τ) (main (F := F))) ⟨m, fun _ => 0, ρ⟩ fun r => ∀ c : Dev nD,
      r.2.mem ((c : Thread nD τ).loc main_v0) = (dats m 0 c).arrAt 6 cfg0.N
      ∧ r.2.mem ((c : Thread nD τ).loc main_arg0) = m ((c : Thread nD τ).loc main_arg0) :=
  (θ_run defs _ _).mono (fun r h c => ⟨(h c).1 6,
      ((h c).1 0).trans (((dats m 0 c).arrAt_in 0 rfl _).trans ((A_eq m c 0).trans (V_main_arg0 m c)))⟩) (run_main m ρ)

end Cert.Proof.KernelIdeal

end
-- ==== Proof.Frames.lean ====
/- The claims that state no value: every program runs to its end with its arguments unchanged and its counters at zero,
   and the two rewrites of the first call's idealization hold. -/
module

public import proofs.«01_k».proof.Defs
public import proofs.«01_k».proof.Proof.KernelBody
public import proofs.«01_k».proof.Proof.KernelIdealBody
public import proofs.«01_k».proof.Proof.Gen.Kernel2.Frame
public import proofs.«01_k».proof.Proof.Gen.Kernel2Ideal.Frame
public import proofs.«01_k».proof.Proof.Gen.ReferenceIdeal.Run
public import proofs.«01_k».proof.Proof.Gen.Reference2Ideal.Run
public import proofs.«01_k».proof.Proof.Gen.Pre_separated
public import proofs.«01_k».proof.Proof.Gen.Pre_off_axis
public import Idealize.ShloMosaic.Lib.Quiescent

@[expose] public section

noncomputable section

namespace Cert.Proof.Frames

open Idealize.ShloMosaic Idealize.ShloMosaic.TcCoe Idealize.SL.Sem

theorem kernel : Cert.quiescent_Kernel := fun m ρ _ => Cert.Proof.Kernel.frame m ρ
theorem kernel_ideal : Cert.quiescent_KernelIdeal := fun m ρ _ => Cert.Proof.KernelIdeal.frame m ρ
theorem kernel_ideal_pre : Cert.quiescent_KernelIdeal_pre_separated := fun m ρ _ => Cert.Proof.KernelIdeal.frame m ρ
theorem reference_ideal_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)
theorem reference_ideal : Cert.quiescent_ReferenceIdeal := fun m ρ _ => reference_ideal_run m ρ
theorem reference_ideal_pre : Cert.quiescent_ReferenceIdeal_pre_separated := fun m ρ _ => reference_ideal_run m ρ
theorem kernel2 : Cert.quiescent_Kernel2 := fun m ρ _ => Cert.Kernel2.Gen.frame m ρ
theorem kernel2_ideal : Cert.quiescent_Kernel2Ideal := fun m ρ _ => Cert.Kernel2Ideal.Gen.frame m ρ
theorem kernel2_ideal_pre : Cert.quiescent_Kernel2Ideal_pre_off_axis := fun m ρ _ => Cert.Kernel2Ideal.Gen.frame m ρ
theorem reference2_ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)
theorem reference2_ideal_pre : Cert.quiescent_Reference2Ideal_pre_off_axis := fun m ρ _ =>
  (θ_run Cert.Reference2Ideal.defs _ _).mono (fun r h => ⟨fun c => (h c).2, sem_eq_zero_of_no_sems (by decide) r.2⟩)
    (Cert.Reference2Ideal.Value.run (F := Ideal) m ρ)

/-- The two rewrites: the kernel's large constant stands for `∞`, and a sign is read by a comparison with zero. -/
theorem preserves : Cert.preserves_Kernel_KernelIdeal :=
  ⟨IdealRules.named_const.statement Cert.KernelIdeal.κ "big" .f32 0x7F61B1E6#32 ⊤ rfl,
    IdealRules.sign_bit.statement Cert.KernelIdeal.S256x1 .f32⟩

end Cert.Proof.Frames

end
-- ==== Proof.Select.lean ====
/- Repeated selection of the least remaining element, the lower position first, against a stable sort: the mathematics
   alone, on one row. -/
module

public import Idealize.ShloMosaic.Lib.SortPrefix
public import Mathlib.Data.EReal.Basic

@[expose] public section

noncomputable section

open Classical

namespace Cert.Proof.Select

open Idealize.ShloMosaic

/-- `c` is where `f` is least, and the first such position. -/
def FirstLeast {n : ℕ} (f : Fin n → EReal) (c : Fin n) : Prop :=
  ∀ p, f c ≤ f p ∧ (p < c → f c < f p)

/-- The order of the selection: the smaller key first, the lower position first among equals. -/
def before {n : ℕ} (d : Fin n → EReal) : Fin n → Fin n → Bool :=
  fun k k' => (fun a b : EReal => decide (a < b)) (d k) (d k') || (decide (d k = d k') && decide (k < k'))

theorem before_total {n : ℕ} (d : Fin n → EReal) : StrictTotalBefore (before d) :=
  StrictTotalBefore.of_key_then_position (fun a b : EReal => decide (a < b)) d (fun a => by simp)
    (fun a b c h h' => by simp only [decide_eq_true_eq] at *; exact h.trans h')
    (fun a b => by simp only [decide_eq_true_eq]; exact lt_trichotomy a b)

theorem before_false {n : ℕ} (d : Fin n → EReal) {p q : Fin n} (h : d q ≤ d p) (h' : p < q → d q < d p) :
    before d p q = false := by
  unfold before
  simp only [Bool.or_eq_false_iff, decide_eq_false_iff_not, not_lt, Bool.and_eq_false_iff]
  refine ⟨h, ?_⟩
  by_cases hlt : p < q
  · exact Or.inl (h' hlt).ne'
  · exact Or.inr (not_lt.mp hlt)

/-- A stable sort reads its comparison only of a later element against an earlier one. -/
theorem stableSort_of_later {n : ℕ} (R B : Fin n → Fin n → Bool) (h : ∀ a b, a < b → R b a = B b a)
    (l : List (Fin n)) (hl : l.Pairwise (· < ·)) : stableSort R l = stableSort B l := by
  induction l with
  | nil => rfl
  | cons a l ih =>
    rw [List.pairwise_cons] at hl
    unfold stableSort
    rw [ih hl.2]
    exact insertBefore_congr _ _ _ _ fun b hb => h a b (hl.1 b ((perm_stableSort B l).mem_iff.mp hb))

theorem sortedFrom_of_later {n : ℕ} (R B : Fin n → Fin n → Bool) (h : ∀ a b, a < b → R b a = B b a) :
    sortedFrom R = sortedFrom B := by
  funext k
  have e : sortPositions n R = sortPositions n B :=
    stableSort_of_later R B h (List.finRange n) (List.pairwise_lt_finRange n)
  unfold sortedFrom
  rw [List.get_of_eq e]
  rfl

/-- The stable sort by the keys alone is the sort by the keys and then the positions. -/
theorem sortedFrom_key {n : ℕ} (d : Fin n → EReal) (R : Fin n → Fin n → Bool)
    (hR : ∀ k k', R k k' = decide (d k < d k')) : sortedFrom R = sortedFrom (before d) :=
  sortedFrom_of_later _ _ fun a b hab => by
    rw [hR]; unfold before
    simp [not_lt.mpr hab.le]

/-- The rounds: `r` is put away first; every round takes the first least of what is left and puts it away. -/
structure Rounds {n : ℕ} (K : ℕ) (d : Fin n → EReal) (r : Fin n) (f : ℕ → Fin n → EReal) (c : ℕ → Fin n) : Prop where
  zero : ∀ p, f 0 p = if p = r then ⊤ else d p
  succ : ∀ j, j < K → ∀ p, f (j + 1) p = if p = c j then ⊤ else f j p
  least : ∀ j, j < K → FirstLeast (f j) (c j)

/-- What is taken, `r` first. -/
def taken {n : ℕ} (r : Fin n) (c : ℕ → Fin n) : ℕ → Fin n
  | 0 => r
  | j + 1 => c j

variable {n K : ℕ} {d : Fin n → EReal} {r : Fin n} {f : ℕ → Fin n → EReal} {c : ℕ → Fin n}

theorem Rounds.left (h : Rounds K d r f c) : ∀ j, j ≤ K → ∀ p, f j p = if ∃ i ≤ j, taken r c i = p then ⊤ else d p := by
  intro j
  induction j with
  | zero =>
    intro _ p
    rw [h.zero p]
    have : (∃ i ≤ 0, taken r c i = p) ↔ p = r := by
      constructor
      · rintro ⟨i, hi, rfl⟩; obtain rfl : i = 0 := by omega
        rfl
      · rintro rfl; exact ⟨0, le_refl _, rfl⟩
    simp only [this]
  | succ j ih =>
    intro hj p
    rw [h.succ j (by omega) p, ih (by omega) p]
    by_cases hc : p = c j
    · rw [if_pos hc, if_pos ⟨j + 1, le_refl _, hc.symm⟩]
    · rw [if_neg hc]
      have : (∃ i ≤ j + 1, taken r c i = p) ↔ ∃ i ≤ j, taken r c i = p := by
        constructor
        · rintro ⟨i, hi, e⟩
          rcases Nat.lt_or_ge j i with hlt | hge
          · obtain rfl : i = j + 1 := by omega
            exact absurd e.symm hc
          · exact ⟨i, hge, e⟩
        · rintro ⟨i, hi, e⟩; exact ⟨i, by omega, e⟩
      simp only [this]

/-- Something is left as long as fewer have been taken than there are. -/
theorem exists_left (t : ℕ → Fin n) (j : ℕ) (hj : j + 1 < n) : ∃ p, ∀ i ≤ j, t i ≠ p := by
  by_contra hcon
  have hall : ∀ p, ∃ i ≤ j, t i = p := fun p => by
    by_contra hp; exact hcon ⟨p, fun i hi e => hp ⟨i, hi, e⟩⟩
  have hs : Function.Surjective (fun i : Fin (j + 1) => t i.val) := fun p => by
    obtain ⟨i, hi, e⟩ := hall p; exact ⟨⟨i, by omega⟩, e⟩
  have := Fintype.card_le_of_surjective _ hs
  simp at this
  omega

theorem Rounds.fresh (h : Rounds K d r f c) (hn : K + 1 < n) (hfin : ∀ p, d p < ⊤) (j : ℕ) (hj : j < K) :
    ∀ i ≤ j, taken r c i ≠ c j := by
  intro i hi e
  obtain ⟨p, hp⟩ := exists_left (taken r c) j (by omega)
  have h1 := (h.least j hj p).1
  rw [h.left j hj.le, h.left j hj.le, if_pos ⟨i, hi, e⟩, if_neg (by rintro ⟨i', hi', e'⟩; exact hp i' hi' e')] at h1
  exact absurd (hfin p) (not_lt.mpr h1)

theorem Rounds.not_before (h : Rounds K d r f c) (hn : K + 1 < n) (hfin : ∀ p, d p < ⊤) (hr : ∀ p, p ≠ r → d r < d p)
    (i : ℕ) (hi : i ≤ K) (p : Fin n) (hp : ∀ i' < i, taken r c i' ≠ p) : before d p (taken r c i) = false := by
  cases i with
  | zero =>
    by_cases e : p = r
    · subst e; exact (before_total d).irrefl _
    · exact before_false d (hr p e).le fun _ => hr p e
  | succ j =>
    have hl := h.least j (by omega) p
    rw [h.left j (by omega), h.left j (by omega),
      if_neg (by rintro ⟨i', hi', e'⟩; exact h.fresh hn hfin j (by omega) i' hi' e'),
      if_neg (by rintro ⟨i', hi', e'⟩; exact hp i' (by omega) e')] at hl
    exact before_false d hl.1 hl.2

/-- What the rounds take, in order, is the start of the stable sort by the keys. -/
theorem Rounds.sorted (h : Rounds K d r f c) (hn : K + 1 < n) (hfin : ∀ p, d p < ⊤) (hr : ∀ p, p ≠ r → d r < d p)
    (j : ℕ) (hj : j < K) (R : Fin n → Fin n → Bool) (hR : ∀ k k', R k k' = decide (d k < d k')) :
    sortedFrom R ⟨j + 1, by omega⟩ = c j := by
  rw [sortedFrom_key d R hR]
  have hfr : ∀ a b, a < b → b ≤ K → taken r c a ≠ taken r c b := by
    intro a b hab hb
    cases b with
    | zero => omega
    | succ b => exact h.fresh hn hfin b (by omega) a (by omega)
  have := (before_total d).sortedFrom_eq_of_prefix (k := K + 1) (by omega) (fun i => taken r c i.val)
    (fun a b e => by
      rcases lt_trichotomy a.val b.val with hlt | heq | hgt
      · exact absurd e (hfr _ _ hlt (by omega))
      · exact Fin.ext heq
      · exact absurd e.symm (hfr _ _ hgt (by omega)))
    (fun a b hab => h.not_before hn hfin hr a.val (by omega) _ fun i' hi' => hfr _ _ (by
      have : a.val < b.val := hab
      omega) (by omega))
    (fun a p hp => h.not_before hn hfin hr a.val (by omega) p fun i' hi' => hp ⟨i', by omega⟩)
    ⟨j + 1, by omega⟩
  exact this

end Cert.Proof.Select

end
-- ==== Proof.SelectValue.lean ====
/- What the first call's selection computes, round by round: the position of the first least distance of every row, and
   the distances with that position put away. -/
module

public import proofs.«01_k».proof.Proof.KernelIdealParts
public import proofs.«01_k».proof.Proof.Select

public import Idealize.ShloMosaic.Lib.SortNet.Extract
public import Idealize.ShloMosaic.PureOps.Ideal.Laws
public import Idealize.ShloMosaic.Lib.Pointwise

@[expose] public section

set_option maxRecDepth 16384

noncomputable section

namespace Cert.Proof.KernelIdeal

open Cert.KernelIdeal Cert.KernelIdeal.Gen Cert.Proof.Select
open Idealize.ShloMosaic Idealize.ShloMosaic.TcCoe

section Chain

variable {F : FTy → Type} [FloatOps F] [Named F]

/-- The numbers of the columns, as the program holds them. -/
def colNos : IVec S1x2048 32 := iota .tc S1x2048 32 [1] iota_S1x2048_d1_w32

/-- The least of every row. -/
def rowMin (d : FVec F S256x2048 .f32) : FVec F S256 .f32 :=
  multiReduction .minimumf [1] S256 d 0x7F800000#32 reduces_S256x2048_S256 (.inl rfl) rfl

/-- The number of every column where a row's least stands, past the end elsewhere. -/
def cand (d : FVec F S256x2048 .f32) : IVec S256x2048 32 :=
  select (cmpf .oeq d (broadcastTo S256x2048 (shapeCast S256x1 (rowMin d) shapeCasts_S256_S256x1) broadcasts_S256x1_S256x2048))
    (broadcastTo S256x2048 (shapeCast S1x2048 colNos shapeCasts_S1x2048_S1x2048) broadcasts_S1x2048_S256x2048)
    (broadcast S256x2048 4096#32)

/-- The first of those columns, row by row. -/
def first (d : FVec F S256x2048 .f32) : IVec S256 32 :=
  multiReductionI .minsi [1] S256 (cand d) 2147483647#32 reduces_S256x2048_S256 rfl

/-- The same, standing as a column. -/
def pick (d : FVec F S256x2048 .f32) : IVec S256x1 32 := shapeCast S256x1 (first d) shapeCasts_S256_S256x1

/-- Where the picked column is, row by row. -/
def hit (d : FVec F S256x2048 .f32) : IVec S256x2048 1 :=
  cmpi .eq (broadcastTo S256x2048 colNos broadcasts_S1x2048_S256x2048) (broadcastTo S256x2048 (pick d) broadcasts_S256x1_S256x2048)

/-- The distances with the picked column put away. -/
def drop1 (d : FVec F S256x2048 .f32) : FVec F S256x2048 .f32 :=
  select (hit d) (broadcast S256x2048 (Named.named κ "big" 0x7F61B1E6#32)) d

/-- The distances after `j` rounds. -/
def after (d : FVec F S256x2048 .f32) : ℕ → FVec F S256x2048 .f32
  | 0 => d
  | j + 1 => drop1 (after d j)

/-- The distances before the first round. -/
def dist0 (i : grid0.Coords) (x0 : Vec F S1x256x3 .f32) (x1 : Vec F S1x3x2048 .f32) : FVec F S256x2048 .f32 :=
  k0_pay61 i (View.ld x0 r3) (View.ld x1 q0) (View.ld x1 q1) (View.ld x1 q2)

variable (i : grid0.Coords) (x0 : Vec F S1x256x3 .f32) (x1 : Vec F S1x3x2048 .f32)

theorem v44_eq : N.v44 i (loaded i x0 x1) = pick (after (dist0 i x0 x1) 0) := rfl
theorem v59_eq : N.v59 i (loaded i x0 x1) = pick (after (dist0 i x0 x1) 1) := rfl
theorem v74_eq : N.v74 i (loaded i x0 x1) = pick (after (dist0 i x0 x1) 2) := rfl
theorem v79_eq : N.v79 i (loaded i x0 x1) = after (dist0 i x0 x1) 3 := rfl
theorem v88_eq : N.v88 i (loaded i x0 x1) = first (after (dist0 i x0 x1) 3) := rfl
theorem v89_eq : N.v89 i (loaded i x0 x1) = pick (after (dist0 i x0 x1) 3) := by
  unfold N.v89; rw [v88_eq]; rfl
theorem v104_eq : N.v104 i (loaded i x0 x1) = pick (after (dist0 i x0 x1) 4) := by
  unfold N.v104; rw [v79_eq, v88_eq]; rfl
theorem v119_eq : N.v119 i (loaded i x0 x1) = pick (after (dist0 i x0 x1) 5) := by
  unfold N.v119; rw [v79_eq, v88_eq]; rfl
theorem v124_eq : N.v124 i (loaded i x0 x1) = after (dist0 i x0 x1) 6 := by
  unfold N.v124; rw [v79_eq, v88_eq]; rfl
theorem v134_eq : N.v134 i (loaded i x0 x1) = pick (after (dist0 i x0 x1) 6) := by
  unfold N.v134; rw [v79_eq, v88_eq]; rfl
theorem v135_eq : N.v135 i (loaded i x0 x1) = broadcastTo S256x2048 colNos broadcasts_S1x2048_S256x2048 := rfl
theorem v136_eq : N.v136 i (loaded i x0 x1) = broadcastTo S256x2048 (pick (after (dist0 i x0 x1) 6)) broadcasts_S256x1_S256x2048 := by
  unfold N.v136; rw [v79_eq, v88_eq]; rfl
theorem v149_eq : N.v149 i (loaded i x0 x1) = pick (after (dist0 i x0 x1) 7) := by
  unfold N.v149; rw [v124_eq, v135_eq, v136_eq]; rfl
theorem v164_eq : N.v164 i (loaded i x0 x1) = pick (after (dist0 i x0 x1) 8) := by
  unfold N.v164; rw [v124_eq, v135_eq, v136_eq]; rfl
theorem v169_eq : N.v169 i (loaded i x0 x1) = after (dist0 i x0 x1) 9 := by
  unfold N.v169; rw [v124_eq, v135_eq, v136_eq]; rfl
theorem v179_eq : N.v179 i (loaded i x0 x1) = pick (after (dist0 i x0 x1) 9) := by
  unfold N.v179; rw [v124_eq, v135_eq, v136_eq]; rfl
theorem v182_eq : N.v182 i (loaded i x0 x1) = hit (after (dist0 i x0 x1) 9) := by
  unfold N.v182; rw [v124_eq, v135_eq, v136_eq]; rfl
theorem v183_eq : N.v183 i (loaded i x0 x1) = broadcast S256x2048 (Named.named κ "big" 0x7F61B1E6#32) := rfl
theorem v194_eq : N.v194 i (loaded i x0 x1) = pick (after (dist0 i x0 x1) 10) := by
  unfold N.v194; rw [v169_eq, v182_eq, v183_eq]; rfl
theorem v209_eq : N.v209 i (loaded i x0 x1) = pick (after (dist0 i x0 x1) 11) := by
  unfold N.v209; rw [v169_eq, v182_eq, v183_eq]; rfl
theorem v224_eq : N.v224 i (loaded i x0 x1) = pick (after (dist0 i x0 x1) 12) := by
  unfold N.v224; rw [v169_eq, v182_eq, v183_eq]; rfl
theorem v229_eq : N.v229 i (loaded i x0 x1) = after (dist0 i x0 x1) 13 := by
  unfold N.v229; rw [v169_eq, v182_eq, v183_eq]; rfl
theorem v230_eq : N.v230 i (loaded i x0 x1) = rowMin (after (dist0 i x0 x1) 13) := by
  unfold N.v230; rw [v169_eq, v182_eq, v183_eq]; rfl

/-- The sixteen picked columns side by side. -/
theorem v270_eq (d : FVec F S256x2048 .f32) (hd : d = dist0 i x0 x1) : N.v270 i (loaded i x0 x1)
    = k0_pay97 colNos (pick (after d 0)) (pick (after d 1)) (pick (after d 2)) (pick (after d 3)) (pick (after d 4))
        (pick (after d 5)) (pick (after d 6)) (pick (after d 7)) (pick (after d 8)) (pick (after d 9)) (pick (after d 10))
        (pick (after d 11)) (pick (after d 12)) (after d 13) (rowMin (after d 13)) := by
  subst hd
  unfold N.v270
  rw [v44_eq, v59_eq, v74_eq, v89_eq, v104_eq, v119_eq, v134_eq, v149_eq, v164_eq, v179_eq, v194_eq, v209_eq, v224_eq,
    v229_eq, v230_eq]
  rfl

/-- Column `k` of what the program stores is the column picked in round `k`. -/
theorem v270_apply (r : Fin 256) (k : Fin 16) :
    N.v270 i (loaded i x0 x1) (ix2 r k) = pick (after (dist0 i x0 x1) k.val) (ix2 r 0) := by
  rw [v270_eq i x0 x1 _ rfl]
  generalize dist0 i x0 x1 = d
  have e : k0_pay97 colNos (pick (after d 0)) (pick (after d 1)) (pick (after d 2)) (pick (after d 3)) (pick (after d 4))
        (pick (after d 5)) (pick (after d 6)) (pick (after d 7)) (pick (after d 8)) (pick (after d 9)) (pick (after d 10))
        (pick (after d 11)) (pick (after d 12)) (after d 13) (rowMin (after d 13))
      = concatenate S256x16 1 (List.ofFn fun n : Fin 16 => (⟨S256x1, pick (after d n.val)⟩ : (s : Shape) × (s.Idx → BitVec 32)))
          concatenates_S256x1_S256x1_S256x1_S256x1_S256x1_S256x1_S256x1_S256x1_S256x1_S256x1_S256x1_S256x1_S256x1_S256x1_S256x1_S256x1_S256x16_d1 := rfl
  rw [e]
  refine concatenate_ofFn_unit_apply (t := S256x16) (s₁ := S256x1) 1 (fun n : Fin 16 => pick (after d n.val)) _ rfl rfl (ix2 r k) k rfl (ix2 r 0) ?_
  intro b hb
  match b with
  | ⟨0, _⟩ => rfl
  | ⟨1, _⟩ => exact absurd rfl hb

end Chain

/-! The rounds at the extended reals. -/

variable (d : FVec Ideal S256x2048 .f32)

/-- The least of row `r`, as a fold over the row. -/
theorem rowMin_apply (r : Fin 256) : rowMin d (ix1 r) = Finset.univ.fold min ⊤ fun c : Fin 2048 => d (ix2 r c) := by
  unfold rowMin
  pointwise
  rw [show Ideal.ofBits FTy.f32 2139095040#32 = ⊤ from by simp [Ideal.ofBits, Ideal.ieee]]

theorem select_eq_word {α : Type} (a b : BitVec 32) (x y : α) :
    Scalar.select (IntOp.cmpi CmpIPredicate.eq a b) x y = if a = b then x else y := by
  unfold Scalar.select IntOp.cmpi
  have e : (a == b) = decide (a = b) := by simp [beq_eq_decide]
  rw [e]
  by_cases h : a = b <;> simp [h, BitVec.ofBool]

theorem cand_apply (r : Fin 256) (c : Fin 2048) :
    cand d (ix2 r c) = if d (ix2 r c) = rowMin d (ix1 r) then BitVec.ofNat 32 c.val else 4096#32 := by
  unfold cand colNos
  pointwise

theorem first_apply (r : Fin 256) :
    first d (ix1 r) = Finset.univ.fold IntOp.minsi 2147483647#32 fun c : Fin 2048 => cand d (ix2 r c) := by
  unfold first
  pointwise

theorem pick_apply (r : Fin 256) : pick d (ix2 r 0) = first d (ix1 r) := by
  unfold pick
  pointwise

theorem drop1_apply (r : Fin 256) (c : Fin 2048) :
    drop1 d (ix2 r c) = if BitVec.ofNat 32 c.val = first d (ix1 r) then ⊤ else d (ix2 r c) := by
  unfold drop1 hit colNos pick
  pointwise
  rw [select_eq_word, IdealRules.named_const.ideal_named_scalar _ _ _ _ rfl]

theorem toInt_word (c : Fin 2048) : (BitVec.ofNat 32 c.val).toInt = c.val := by
  have := c.isLt
  rw [BitVec.toInt_eq_toNat_of_lt (by rw [BitVec.toNat_ofNat]; omega), BitVec.toNat_ofNat]
  omega

/-- A least over finitely many values from a start: at most every value, and attained unless the start is least. -/
theorem fold_least {β : Type} [LinearOrder β] {n : ℕ} (f : Fin n → β) (b m : β) (hm : m = Finset.univ.fold min b f) :
    (∀ c, m ≤ f c) ∧ (b ≤ m ∨ ∃ c, f c ≤ m) := by
  constructor
  · intro c
    have h := (Finset.le_fold_min (s := Finset.univ) (f := f) (b := b) m).mp hm.le
    exact h.2 c (Finset.mem_univ c)
  · have h := (Finset.fold_min_le (s := Finset.univ) (f := f) (b := b) m).mp hm.ge
    rcases h with h | ⟨c, _, h⟩
    · exact Or.inl h
    · exact Or.inr ⟨c, h⟩

/-- The word picked for row `r` is the number of the first least column. -/
theorem first_spec (r : Fin 256) :
    ∃ c : Fin 2048, first d (ix1 r) = BitVec.ofNat 32 c.val ∧ FirstLeast (fun c => d (ix2 r c)) c := by
  -- the least is attained
  obtain ⟨hle, hor⟩ := fold_least _ _ _ (rowMin_apply d r)
  have hex : ∃ c, d (ix2 r c) = rowMin d (ix1 r) := by
    rcases hor with h | ⟨c, h⟩
    · exact ⟨0, le_antisymm (le_trans le_top h) (hle 0)⟩
    · exact ⟨c, le_antisymm h (hle c)⟩
  -- the word as an integer
  have hw : (first d (ix1 r)).toInt = Finset.univ.fold min (2147483647#32 : BitVec 32).toInt fun c : Fin 2048 => (cand d (ix2 r c)).toInt := by
    rw [first_apply]
    exact (Finset.fold_hom (op := IntOp.minsi) (op' := min) (m := BitVec.toInt) fun x y => SortNet.toInt_minsi x y).symm
  obtain ⟨hwle, hwor⟩ := fold_least _ _ _ hw
  obtain ⟨c0, hc0⟩ := hex
  have hc0w : (first d (ix1 r)).toInt ≤ c0.val := by
    have := hwle c0
    rwa [cand_apply, if_pos hc0, toInt_word] at this
  have hwex : ∃ c, (cand d (ix2 r c)).toInt ≤ (first d (ix1 r)).toInt := by
    rcases hwor with h | ⟨c, h⟩
    · have h0 : (2147483647#32 : BitVec 32).toInt = 2147483647 := by decide
      have := c0.isLt
      omega
    · exact ⟨c, h⟩
  obtain ⟨c, hc⟩ := hwex
  have hlt := c0.isLt
  have heq : d (ix2 r c) = rowMin d (ix1 r) := by
    by_contra hne
    rw [cand_apply, if_neg hne] at hc
    have h0 : (4096#32 : BitVec 32).toInt = 4096 := by decide
    omega
  refine ⟨c, ?_, fun p => ⟨heq.trans_le (hle p), fun hp => ?_⟩⟩
  · have h1 := le_antisymm hc (hwle c)
    have h2 := BitVec.toInt_inj.mp h1
    rw [← h2, cand_apply, if_pos heq]
  · refine lt_of_le_of_ne (heq.trans_le (hle p)) fun e => ?_
    have h1 := hwle p
    rw [cand_apply, if_pos (e.symm.trans heq), toInt_word] at h1
    rw [cand_apply, if_pos heq, toInt_word] at hc
    have : p.val < c.val := hp
    omega

theorem word_inj {a b : Fin 2048} (h : BitVec.ofNat 32 a.val = BitVec.ofNat 32 b.val) : a = b := by
  have := congrArg BitVec.toInt h
  rw [toInt_word, toInt_word] at this
  exact Fin.ext (by exact_mod_cast this)

/-- The column picked from row `r`. -/
def col (r : Fin 256) : Fin 2048 := Classical.choose (first_spec d r)

theorem first_col (r : Fin 256) : first d (ix1 r) = BitVec.ofNat 32 (col d r).val := (Classical.choose_spec (first_spec d r)).1

theorem firstLeast_col (r : Fin 256) : FirstLeast (fun c => d (ix2 r c)) (col d r) := (Classical.choose_spec (first_spec d r)).2

theorem pick_col (r : Fin 256) : pick d (ix2 r 0) = BitVec.ofNat 32 (col d r).val := by rw [pick_apply, first_col]

theorem drop1_col (r : Fin 256) (c : Fin 2048) : drop1 d (ix2 r c) = if c = col d r then ⊤ else d (ix2 r c) := by
  rw [drop1_apply, first_col]
  by_cases h : c = col d r
  · rw [if_pos h, if_pos (by rw [h])]
  · rw [if_neg h, if_neg fun e => h (word_inj e)]

/-- Row `r` of the distances goes through the rounds of the selection. -/
theorem rounds_row (K : ℕ) (r : Fin 256) (key : Fin 2048 → EReal) (r0 : Fin 2048)
    (h0 : ∀ p, d (ix2 r p) = if p = r0 then ⊤ else key p) :
    Rounds K key r0 (fun j p => after d j (ix2 r p)) (fun j => col (after d j) r) where
  zero p := by rw [show after d 0 = d from rfl, h0]
  succ j _ p := by rw [show after d (j + 1) = drop1 (after d j) from rfl, drop1_col]
  least j _ := firstLeast_col (after d j) r

end Cert.Proof.KernelIdeal

end
-- ==== Proof.SelectRef.lean ====
/- The reference's neighbours' indices: the stable sort of every row's distances, past its first entry. -/
module

public import proofs.«01_k».proof.Proof.Gen.ReferenceIdeal.Run
public import proofs.«01_k».proof.Proof.Gen.Pre_separated
public import proofs.«01_k».proof.Proof.Select
public import Idealize.ShloMosaic.Lib.Pointwise

@[expose] public section

set_option maxRecDepth 16384

noncomputable section

namespace Cert.Proof.SelectRef

open Cert.ReferenceIdeal Cert.ReferenceIdeal.Gen Cert.Proof.Select
open Idealize.ShloMosaic Idealize.ShloMosaic.TcCoe

/-- The squared distance of the points `r` and `c` of cloud `b`. -/
def key (X : FVec Ideal S4x2048x3 .f32) (b : Fin 4) (r c : Fin 2048) : EReal :=
  (X (ix3 b r 0) - X (ix3 b c 0)) * (X (ix3 b r 0) - X (ix3 b c 0))
    + (X (ix3 b r 1) - X (ix3 b c 1)) * (X (ix3 b r 1) - X (ix3 b c 1))
    + (X (ix3 b r 2) - X (ix3 b c 2)) * (X (ix3 b r 2) - X (ix3 b c 2))

/-- The reference's table of squared distances. -/
def table (X : FVec Ideal S4x2048x3 .f32) : FVec Ideal S4x2048x2048 .f32 :=
  Host.reduceAdd (mulf (subf (broadcastInDim S4x2048x2048x3 ![0, 1, 2, 3] bcast_S4x2048x1x3_S4x2048x2048x3_0_1_2_3 (broadcastInDim S4x2048x1x3 ![0, 1, 3] bcast_S4x2048x3_S4x2048x1x3_0_1_3 X)) (broadcastInDim S4x2048x2048x3 ![0, 1, 2, 3] bcast_S4x1x2048x3_S4x2048x2048x3_0_1_2_3 (broadcastInDim S4x1x2048x3 ![0, 2, 3] bcast_S4x2048x3_S4x1x2048x3_0_2_3 X))) (subf (broadcastInDim S4x2048x2048x3 ![0, 1, 2, 3] bcast_S4x2048x1x3_S4x2048x2048x3_0_1_2_3 (broadcastInDim S4x2048x1x3 ![0, 1, 3] bcast_S4x2048x3_S4x2048x1x3_0_1_3 X)) (broadcastInDim S4x2048x2048x3 ![0, 1, 2, 3] bcast_S4x1x2048x3_S4x2048x2048x3_0_1_2_3 (broadcastInDim S4x1x2048x3 ![0, 2, 3] bcast_S4x2048x3_S4x1x2048x3_0_2_3 X))))
    (constant S_ .f32 0x00000000#32) reducesTo_S4x2048x2048x3_S4x2048x2048_d3 h_S_

/-- The reference's result. -/
def chosen (X : FVec Ideal S4x2048x3 .f32) : IVec S4x2048x16 32 :=
  extractStridedSlice S4x2048x16 ![0, 0, 1] ((Host.topK S4x2048x17 2 (FloatOps.cmpfTotal .gt) (Host.negf (table X)) sliceFits_S4x2048x2048_S4x2048x17).2) slices_S4x2048x17_S4x2048x16_0_0_1

theorem table_apply (X : FVec Ideal S4x2048x3 .f32) (b : Fin 4) (r c : Fin 2048) : table X (ix3 b r c) = key X b r c := by
  unfold table key
  pointwise
  rw [Fin.sum_univ_three]

/-- The positions a stable sort along the last axis brings, with the numbers of that axis carried along. -/
theorem sort2_positions {α : Type} (gt : α → α → BitVec 1) (x : S4x2048x2048.Idx → α) (b : Fin 4) (r p : Fin 2048) :
    (Host.sort2 S4x2048x2048 2 (fun l r => gt l.1 r.1) x fun i => BitVec.ofNat 32 (i 2).val).2 (ix3 b r p)
      = BitVec.ofNat 32 (sortedFrom (fun k k' => gt (x (ix3 b r k)) (x (ix3 b r k')) == 1#1) p).val := by
  have hal : ∀ k : Fin 2048, Shape.Idx.along (ix3 b r p : S4x2048x2048.Idx) (2 : Fin S4x2048x2048.rank) k = ix3 b r k := by
    intro k
    funext a
    match a with
    | ⟨0, _⟩ => rfl
    | ⟨1, _⟩ => rfl
    | ⟨2, _⟩ => rfl
  unfold Host.sort2
  rw [dif_pos (show 2 < S4x2048x2048.rank by decide)]
  refine (congrArg (fun i : S4x2048x2048.Idx => BitVec.ofNat 32 (i 2).val) (hal _)).trans ?_
  refine congrArg (fun R => BitVec.ofNat 32 (Fin.val (sortedFrom R p))) ?_
  funext k k'
  exact congrArg₂ (fun u v => gt (x u) (x v) == 1#1) (hal k) (hal k')

theorem chosen_apply (X : FVec Ideal S4x2048x3 .f32) (b : Fin 4) (r : Fin 2048) (j : Fin 16) : chosen X (ix3 b r j) =
    BitVec.ofNat 32 (sortedFrom (fun k k' => FloatOps.cmpfTotal (F := Ideal) (φ := .f32) .gt (Host.negf (table X) (ix3 b r k)) (Host.negf (table X) (ix3 b r k')) == 1#1) (⟨j.val + 1, by omega⟩ : Fin 2048)).val := by
  refine Eq.trans ?_ (sort2_positions (FloatOps.cmpfTotal (F := Ideal) (φ := .f32) .gt) (Host.negf (table X)) b r ⟨j.val + 1, by omega⟩)
  have e : (⟨1 + j.val, by omega⟩ : Fin 2048) = ⟨j.val + 1, by omega⟩ := Fin.ext (Nat.add_comm 1 j.val)
  unfold chosen Host.topK
  generalize Host.negf (table X) = y
  pointwise
  rw [e]

/-- The order the reference sorts by is that of the squared distances. -/
theorem gt_key (X : FVec Ideal S4x2048x3 .f32) (b : Fin 4) (r k k' : Fin 2048) :
    (FloatOps.cmpfTotal (F := Ideal) (φ := .f32) .gt (Host.negf (table X) (ix3 b r k)) (Host.negf (table X) (ix3 b r k')) == 1#1)
      = decide (key X b r k < key X b r k') := by
  have e : ∀ c, Host.negf (table X) (ix3 b r c) = -(key X b r c) := fun c => by
    rw [← table_apply]; rfl
  rw [e, e]
  show (BitVec.ofBool (decide (-(key X b r k') < -(key X b r k))) == 1#1) = _
  by_cases h : key X b r k < key X b r k'
  · simp [h, EReal.neg_lt_neg_iff, BitVec.ofBool]
  · simp [h, EReal.neg_lt_neg_iff, BitVec.ofBool]

/-- Every coordinate a real number, and no two points of a cloud at one place. -/
structure Apart (X : FVec Ideal S4x2048x3 .f32) : Prop where
  real : ∀ b r k, ∃ x : ℝ, X (ix3 b r k) = (x : EReal)
  pos : ∀ b r c, r ≠ c → 0 < key X b r c

theorem key_real {X : FVec Ideal S4x2048x3 .f32} (h : Apart X) (b : Fin 4) (r c : Fin 2048) : ∃ x : ℝ, key X b r c = (x : EReal) := by
  obtain ⟨x0, e0⟩ := h.real b r 0
  obtain ⟨x1, e1⟩ := h.real b r 1
  obtain ⟨x2, e2⟩ := h.real b r 2
  obtain ⟨y0, f0⟩ := h.real b c 0
  obtain ⟨y1, f1⟩ := h.real b c 1
  obtain ⟨y2, f2⟩ := h.real b c 2
  unfold key
  rw [e0, e1, e2, f0, f1, f2]
  exact ⟨(x0 - y0) * (x0 - y0) + (x1 - y1) * (x1 - y1) + (x2 - y2) * (x2 - y2), by push_cast; rfl⟩

theorem key_lt_top {X : FVec Ideal S4x2048x3 .f32} (h : Apart X) (b : Fin 4) (r c : Fin 2048) : key X b r c < ⊤ := by
  obtain ⟨x, e⟩ := key_real h b r c
  rw [e]; exact EReal.coe_lt_top x

theorem key_self {X : FVec Ideal S4x2048x3 .f32} (h : Apart X) (b : Fin 4) (r : Fin 2048) : key X b r r = 0 := by
  obtain ⟨x0, e0⟩ := h.real b r 0
  obtain ⟨x1, e1⟩ := h.real b r 1
  obtain ⟨x2, e2⟩ := h.real b r 2
  unfold key
  rw [e0, e1, e2]
  simp only [← EReal.coe_sub, sub_self, EReal.coe_zero, mul_zero, add_zero]

/-- The reference's neighbours are what the rounds of the selection take. -/
theorem chosen_rounds {X : FVec Ideal S4x2048x3 .f32} (h : Apart X) (b : Fin 4) (r : Fin 2048) (f : ℕ → Fin 2048 → EReal)
    (c : ℕ → Fin 2048) (hr : Rounds 16 (key X b r) r f c) (j : Fin 16) : chosen X (ix3 b r j) = BitVec.ofNat 32 (c j.val).val := by
  rw [chosen_apply, hr.sorted (by decide) (key_lt_top h b r) (fun p hp => by rw [key_self h]; exact h.pos b r p hp.symm) j.val j.isLt _
    (fun k k' => gt_key X b r k k')]

/-- What the claim assumes of the points. -/
theorem apart (X : FVec Ideal S4x2048x3 .f32) (h1 : (Cert.Pre_separated.fn (F := Ideal) X).1 = fun _ => 1#1)
    (h2 : (Cert.Pre_separated.fn (F := Ideal) X).2 = fun _ => 1#1) : Apart X where
  real b r k := by
    have h := congrFun h1 (ix3 b r k)
    unfold Cert.Pre_separated.fn at h
    pointwise at h
    rw [show Ideal.ofBits FTy.f32 2139095040#32 = ⊤ from by simp [Ideal.ofBits, Ideal.ieee]] at h
    have h' : max (X (ix3 b r k)) (-(X (ix3 b r k))) < ⊤ := by
      by_contra hc
      rw [show (decide (FloatOps.absf (F := Ideal) (φ := .f32) (X (ix3 b r k)) < (⊤ : EReal))) = false from decide_eq_false hc] at h
      exact absurd h (by decide)
    rw [max_lt_iff] at h'
    have hb : X (ix3 b r k) ≠ ⊥ := fun e => by
      rw [e, EReal.neg_bot] at h'
      exact absurd h'.2 (lt_irrefl _)
    exact ⟨(X (ix3 b r k)).toReal, (EReal.coe_toReal h'.1.ne hb).symm⟩
  pos b r c hne := by
    have h := congrFun h2 (ix3 b r c)
    unfold Cert.Pre_separated.fn at h
    pointwise at h
    rw [Fin.sum_univ_three] at h
    by_contra hc
    have hw : IntOp.cmpi CmpIPredicate.eq (BitVec.ofNat 32 r.val) (BitVec.ofNat 32 c.val) = 0#1 := by
      have hr := r.isLt
      have hcl := c.isLt
      have e : (BitVec.ofNat 32 r.val == BitVec.ofNat 32 c.val) = false := by
        rw [beq_eq_false_iff_ne]
        intro e
        have := congrArg BitVec.toNat e
        rw [BitVec.toNat_ofNat, BitVec.toNat_ofNat] at this
        exact hne (Fin.ext (by omega))
      show BitVec.ofBool (BitVec.ofNat 32 r.val == BitVec.ofNat 32 c.val) = 0#1
      rw [e]; rfl
    unfold key at hc
    rw [hw, show (decide ((0 : EReal) < _)) = false from decide_eq_false hc] at h
    exact absurd h (by decide)

end Cert.Proof.SelectRef

end
-- ==== Proof.SelectBlocks.lean ====
/- The neighbours' array after the first call, element by element, from the points. -/
module

public import proofs.«01_k».proof.Proof.KernelIdealBody
public import proofs.«01_k».proof.Proof.SelectValue
public import proofs.«01_k».proof.Proof.SelectRef

@[expose] public section

set_option maxRecDepth 16384

noncomputable section

namespace Cert.Proof.KernelIdeal

open Cert.KernelIdeal Cert.KernelIdeal.Gen Cert.Proof.Select
open Idealize.ShloMosaic Idealize.ShloMosaic.TcCoe Idealize.SL.Sem
open Idealize.ShloMosaic.Pipeline (Dat Cfg Window)

variable (m : (ℓ : Loc nD τ sig) → Buf (Elt Ideal) ℓ)

/-- The grid point of cloud `b` and row block `k`. -/
theorem point_exists : ∀ (b : Fin 4) (k : Fin 8), ∃ t : Fin grid0.N, (grid0.coords t 0).val = b.val ∧ (grid0.coords t 1).val = k.val := by
  decide +kernel

theorem index6 : ∀ t : Fin grid0.N, win0_6.index t 0 = (grid0.coords t 0).val ∧ win0_6.index t 1 = (grid0.coords t 1).val ∧ win0_6.index t 2 = 0 := by
  decide +kernel

theorem index0 : ∀ t : Fin grid0.N, win0_0.index t 0 = (grid0.coords t 0).val ∧ win0_0.index t 1 = (grid0.coords t 1).val ∧ win0_0.index t 2 = 0 := by
  decide +kernel

theorem index1 : ∀ t : Fin grid0.N, win0_1.index t 0 = (grid0.coords t 0).val ∧ win0_1.index t 1 = 0 ∧ win0_1.index t 2 = 0 := by
  decide +kernel

theorem flush6 : ∀ t : Fin cfg0.N, (cfg0.win 6).flush t = true :=
  (by decide +kernel : ∀ t : Fin grid0.N, win0_6.flush t = true)

theorem stored (c : Dev nD) (t : Fin cfg0.N) (b : Fin 4) (k : Fin 8) (hb : (grid0.coords t 0).val = b.val)
    (hk : (grid0.coords t 1).val = k.val) (r : Fin 256) (j : Fin 16) (R : Fin 2048) (hR : R.val = 256 * k.val + r.val) :
    (dats m 0 c).arrAt 6 cfg0.N (ix3 b R j) = out6 (grid0.coords t) (iblk m c 0 t) (iblk m c 1 t) (ix3 0 r j) := by
  have h := congrFun (blocks6 m c t (flush6 t)) (ix3 0 r j)
  rw [View.read_apply] at h
  obtain ⟨i0, i1, i2⟩ := index6 t
  have e : ((cfg0.win 6).blk t).view.emb (ix3 0 r j) = (ix3 b R j : S4x2048x16.Idx) := by
    funext a
    refine Fin.ext ?_
    refine (win0_6.rect_emb_val t (ix3 0 r j) a).trans ?_
    match a with
    | ⟨0, _⟩ => show win0_6.index t 0 * 1 + 0 = b.val; omega
    | ⟨1, _⟩ => show win0_6.index t 1 * 256 + r.val = R.val; omega
    | ⟨2, _⟩ => show win0_6.index t 2 * 16 + j.val = j.val; omega
  rw [e] at h
  exact h

theorem out6_apply (i : grid0.Coords) (x0 : Vec Ideal S1x256x3 .f32) (x1 : Vec Ideal S1x3x2048 .f32) (r : Fin 256) (j : Fin 16) :
    out6 i x0 x1 (ix3 0 r j) = N.v270 i (loaded i x0 x1) (ix2 r j) := by
  have e : r16.emb (ix3 0 r j) = (ix3 0 r j : S1x256x16.Idx) := by
    funext a
    refine Fin.ext ?_
    rw [Rect.emb_apply]
    match a with
    | ⟨0, _⟩ => rfl
    | ⟨1, _⟩ => show 0 + 1 * r.val = r.val; omega
    | ⟨2, _⟩ => show 0 + 1 * j.val = j.val; omega
  have hc : out6 i x0 x1 (r16.emb (ix3 0 r j)) = k0_pay193 (N.v270 i (loaded i x0 x1)) (ix3 0 r j) :=
    View.canon_cons_emb (Val := Elt Ideal) (e := .i32) r16 _ [] (ix3 0 r j)
  rw [e] at hc
  refine hc.trans ?_
  unfold k0_pay193
  pointwise

theorem block0 (c : Dev nD) (t : Fin cfg0.N) (b : Fin 4) (k : Fin 8) (hb : (grid0.coords t 0).val = b.val)
    (hk : (grid0.coords t 1).val = k.val) (r : Fin 256) (a : Fin 3) (R : Fin 2048) (hR : R.val = 256 * k.val + r.val) :
    (iblk m c 0 t : Vec Ideal S1x256x3 .f32) (ix3 0 r a) = (m ((c : Thread nD τ).loc main_arg0) : FVec Ideal S4x2048x3 .f32) (ix3 b R a) := by
  obtain ⟨i0, i1, i2⟩ := index0 t
  have e : ((cfg0.win 0).blk t).view.emb (ix3 0 r a) = (ix3 b R a : S4x2048x3.Idx) := by
    funext a'
    refine Fin.ext ?_
    refine (win0_0.rect_emb_val t (ix3 0 r a) a').trans ?_
    match a' with
    | ⟨0, _⟩ => show win0_0.index t 0 * 1 + 0 = b.val; omega
    | ⟨1, _⟩ => show win0_0.index t 1 * 256 + r.val = R.val; omega
    | ⟨2, _⟩ => show win0_0.index t 2 * 3 + a.val = a.val; omega
  unfold iblk
  rw [View.read_apply, e]
  show V m c main_arg0 (ix3 b R a) = _
  rw [V_main_arg0]

theorem block1 (c : Dev nD) (t : Fin cfg0.N) (b : Fin 4) (hb : (grid0.coords t 0).val = b.val)
    (a : Fin 3) (q : Fin 2048) :
    (iblk m c 1 t : Vec Ideal S1x3x2048 .f32) (ix3 0 a q) = (m ((c : Thread nD τ).loc main_arg0) : FVec Ideal S4x2048x3 .f32) (ix3 b q a) := by
  obtain ⟨i0, i1, i2⟩ := index1 t
  have e : ((cfg0.win 1).blk t).view.emb (ix3 0 a q) = (ix3 b a q : S4x3x2048.Idx) := by
    funext a'
    refine Fin.ext ?_
    refine (win0_1.rect_emb_val t (ix3 0 a q) a').trans ?_
    match a' with
    | ⟨0, _⟩ => show win0_1.index t 0 * 1 + 0 = b.val; omega
    | ⟨1, _⟩ => show win0_1.index t 1 * 3 + a.val = a.val; omega
    | ⟨2, _⟩ => show win0_1.index t 2 * 2048 + q.val = q.val; omega
  unfold iblk
  rw [View.read_apply, e]
  show V m c main_call0_v0 (ix3 b a q) = _
  entry_read
  show transpose S4x3x2048 [0, 2, 1] (m ((c : Thread nD τ).loc main_arg0) : FVec Ideal S4x2048x3 .f32) transposes_S4x2048x3_S4x3x2048_0_2_1 (ix3 b a q) = _
  pointwise

/-- The distances of a block, the own column put away. -/
theorem dist0_apply (i : grid0.Coords) (x0 : Vec Ideal S1x256x3 .f32) (x1 : Vec Ideal S1x3x2048 .f32) (r : Fin 256) (q : Fin 2048) :
    dist0 i x0 x1 (ix2 r q) = if BitVec.ofNat 32 q.val = IntOp.addi (BitVec.ofNat 32 r.val) (IntOp.muli (BitVec.ofNat 32 (i 1).val) 256#32) then ⊤ else
      (x0 (ix3 0 r 0) - x1 (ix3 0 0 q)) * (x0 (ix3 0 r 0) - x1 (ix3 0 0 q))
        + (x0 (ix3 0 r 1) - x1 (ix3 0 1 q)) * (x0 (ix3 0 r 1) - x1 (ix3 0 1 q))
        + (x0 (ix3 0 r 2) - x1 (ix3 0 2 q)) * (x0 (ix3 0 r 2) - x1 (ix3 0 2 q)) := by
  unfold dist0 k0_pay61 k0_pay60 k0_pay59 k0_pay58 k0_pay57 k0_pay56 k0_pay55 k0_pay54
  pointwise
  rw [select_eq_word, IdealRules.named_const.ideal_named_scalar _ _ _ _ rfl]
  rfl

theorem own_column (i : grid0.Coords) (k : Fin 8) (hk : (i 1).val = k.val) (r : Fin 256) (R : Fin 2048) (hR : R.val = 256 * k.val + r.val) (q : Fin 2048) :
    BitVec.ofNat 32 q.val = IntOp.addi (BitVec.ofNat 32 r.val) (IntOp.muli (BitVec.ofNat 32 (i 1).val) 256#32) ↔ q = R := by
  have e : IntOp.addi (BitVec.ofNat 32 r.val) (IntOp.muli (BitVec.ofNat 32 (i 1).val) 256#32) = BitVec.ofNat 32 R.val := by
    rw [hR, hk]
    show BitVec.ofNat 32 r.val + BitVec.ofNat 32 k.val * BitVec.ofNat 32 256 = _
    rw [← BitVec.ofNat_mul, ← BitVec.ofNat_add]
    congr 1
    omega
  rw [e]
  exact ⟨word_inj, fun h => by rw [h]⟩

/-- The neighbours' array is the reference's, element by element. -/
theorem neighbours_apply (c : Dev nD) (hX : SelectRef.Apart (m ((c : Thread nD τ).loc main_arg0))) (b : Fin 4) (k : Fin 8) (r : Fin 256)
    (R : Fin 2048) (hR : R.val = 256 * k.val + r.val) (j : Fin 16) :
    (dats m 0 c).arrAt 6 cfg0.N (ix3 b R j) = SelectRef.chosen (m ((c : Thread nD τ).loc main_arg0)) (ix3 b R j) := by
  obtain ⟨t, hb, hk⟩ := point_exists b k
  rw [stored m c t b k hb hk r j R hR, out6_apply, v270_apply, pick_col]
  refine (SelectRef.chosen_rounds hX b R _ _ (rounds_row (dist0 (grid0.coords t) (iblk m c 0 t) (iblk m c 1 t)) 16 r (SelectRef.key (m ((c : Thread nD τ).loc main_arg0)) b R) R fun p => ?_) j).symm
  rw [dist0_apply, block0 m c t b k hb hk r 0 R hR, block0 m c t b k hb hk r 1 R hR, block0 m c t b k hb hk r 2 R hR,
    block1 m c t b hb 0 p, block1 m c t b hb 1 p, block1 m c t b hb 2 p]
  by_cases hp : p = R
  · rw [if_pos hp, if_pos ((own_column _ k hk r R hR p).mpr hp)]
  · rw [if_neg hp, if_neg fun h => hp ((own_column _ k hk r R hR p).mp h)]
    rfl

theorem neighbours (c : Dev nD) (hX : SelectRef.Apart (m ((c : Thread nD τ).loc main_arg0))) :
    (dats m 0 c).arrAt 6 cfg0.N = SelectRef.chosen (m ((c : Thread nD τ).loc main_arg0)) := by
  funext x
  obtain ⟨b, R, j, rfl⟩ : ∃ (b : Fin 4) (R : Fin 2048) (j : Fin 16), x = ix3 b R j := ⟨x 0, x 1, x 2, eq_ix3 x⟩
  exact neighbours_apply m c hX b ⟨R.val / 256, by omega⟩ ⟨R.val % 256, by omega⟩ R (by show R.val = 256 * (R.val / 256) + R.val % 256; omega) j

end Cert.Proof.KernelIdeal

end
-- ==== Proof.DescrWord.lean ====
/- The descriptor's bin of one neighbour, and the sector of a point by comparisons and by its angle. -/
module

public import Idealize.ShloMosaic.PureOps.Ideal
public import Idealize.ShloMosaic.PureOps.Ideal.Laws
public import Idealize.ShloMosaic.Lib.Pointwise

@[expose] public section

noncomputable section

namespace Cert.Proof.Descr

open Idealize.ShloMosaic

/-- The least added to a sum of squares before its root. -/
def eps : EReal := Ideal.ofBits FTy.f32 730643660#32

/-- The length of the vector `(x, y, z)`. -/
def len (z y x : EReal) : EReal := Ideal.sqrt (x * x + y * y + z * z + eps)

/-- A number rounded down and cut to the whole numbers from nought to `top`. -/
def cut (top : BitVec 32) (s : EReal) : BitVec 32 :=
  IntOp.minsi top (IntOp.maxsi 0#32 (Ideal.fptosi 32 (Ideal.liftRound Int.floor s)))

/-- The sector of the point `(x, y)`, by its angle. -/
def sector (y x : EReal) : BitVec 32 :=
  cut 7#32 (Ideal.div (Ideal.atan2 y x + Ideal.atan2 (Ideal.ofBits FTy.f32 0#32) (Ideal.ofBits FTy.f32 3212836864#32))
    (Ideal.ofBits FTy.f32 1073741824#32 * Ideal.atan2 (Ideal.ofBits FTy.f32 0#32) (Ideal.ofBits FTy.f32 3212836864#32)) * Ideal.ofBits FTy.f32 1090519040#32)

/-- The sector of the point `(x, y)`, by comparisons. -/
def compass (y x : EReal) : BitVec 32 :=
  if 0 ≤ y then (if 0 < x then (if x ≤ y then 5#32 else 4#32) else (if 0 < y + x then 6#32 else 7#32))
  else (if 0 ≤ x then (if 0 ≤ y + x then 3#32 else 2#32) else (if y ≤ x then 1#32 else 0#32))

/-- The half above or below. -/
def height (z r : EReal) : BitVec 32 :=
  cut 1#32 (Ideal.div (Ideal.div z r + 1) (Ideal.ofBits FTy.f32 1073741824#32) * Ideal.ofBits FTy.f32 1073741824#32)

/-- The half within or without. -/
def shell (r d : EReal) : BitVec 32 := cut 1#32 (Ideal.div r d * Ideal.ofBits FTy.f32 1073741824#32)

/-- The step of a cosine. -/
def tilt (s : EReal) : BitVec 32 :=
  cut 10#32 (Ideal.div (min 1 (max (Ideal.ofBits FTy.f32 3212836864#32) s) + 1) (Ideal.ofBits FTy.f32 1073741824#32)
    * Ideal.ofBits FTy.f32 1093664768#32)

/-- The number of a bin from its four parts. -/
def number (az el rd c : BitVec 32) : BitVec 32 :=
  IntOp.addi (IntOp.muli (IntOp.addi (IntOp.muli (IntOp.addi (IntOp.muli az 2#32) el) 2#32) rd) 11#32) c

/-- What a neighbour adds to its bin. -/
def share (r d : EReal) : EReal := max (1 - Ideal.div r d) 0

/-- The greatest length of a cloud, with the least added. -/
def radius (f : Fin 2048 → EReal) : EReal := Finset.univ.fold max (Ideal.ofBits FTy.f32 4286578688#32) f + eps

/-- What the neighbours in bin `t` add together. -/
def total (bin : Fin 16 → BitVec 32) (sh : Fin 16 → EReal) (t : Fin 352) : EReal :=
  ∑ k : Fin 16, if BitVec.ofNat 32 t.val = bin k then sh k else 0

/-- The descriptor: the totals over their length. -/
def descr (bin : Fin 16 → BitVec 32) (sh : Fin 16 → EReal) (t : Fin 352) : EReal :=
  Ideal.div (total bin sh t) (Ideal.sqrt (∑ u : Fin 352, total bin sh u * total bin sh u + eps))

/-- The row an index names. -/
def rowOf (w : BitVec 32) : Fin 2048 := ⟨w.toNat % 2048, Nat.mod_lt _ (by norm_num)⟩

theorem select_word {α : Type} (v w : BitVec 32) (x y : α) : Scalar.select (IntOp.cmpi .eq v w) x y = if v = w then x else y := by
  unfold Scalar.select IntOp.cmpi
  have e : (v == w) = decide (v = w) := by simp [beq_eq_decide]
  rw [e]
  by_cases h : v = w <;> simp [h, BitVec.ofBool]

/-- A number of no sign is left as it is where a negative one would be shifted. -/
theorem select_nonneg (m : ℕ) (hm : m < 2 ^ 31) (y : BitVec 32) :
    Scalar.select (IntOp.cmpi CmpIPredicate.slt (BitVec.ofNat 32 m) 0#32) y (BitVec.ofNat 32 m) = BitVec.ofNat 32 m := by
  have hn : (BitVec.ofNat 32 m).slt 0#32 = false := by
    have : (BitVec.ofNat 32 m).toInt = m := by
      rw [BitVec.toInt_eq_toNat_cond, BitVec.toNat_ofNat, Nat.mod_eq_of_lt (by omega), if_pos (by omega)]
    simp [BitVec.slt, this]
  unfold Scalar.select IntOp.cmpi
  simp [hn]

theorem toInt_small (m : ℕ) (hm : m < 2 ^ 31) : (BitVec.ofNat 32 m).toInt = m := by
  rw [BitVec.toInt_eq_toNat_cond, BitVec.toNat_ofNat, Nat.mod_eq_of_lt (by omega), if_pos (by omega)]

theorem cut_le (n : ℕ) (hn : n < 2 ^ 31) (s : EReal) : ∃ m : ℕ, m ≤ n ∧ cut (BitVec.ofNat 32 n) s = BitVec.ofNat 32 m := by
  unfold cut
  generalize Ideal.fptosi 32 _ = w
  have hz : ∃ p : ℕ, p < 2 ^ 31 ∧ IntOp.maxsi 0#32 w = BitVec.ofNat 32 p := by
    refine ⟨(IntOp.maxsi 0#32 w).toNat, ?_, by simp⟩
    unfold IntOp.maxsi
    split
    · simp
    · rename_i h
      have : ¬ (w.toInt < 0) := by
        intro hlt
        apply h
        simp [BitVec.slt, BitVec.sle, hlt, Int.le_of_lt hlt]
      rw [BitVec.toInt_eq_toNat_cond] at this
      split at this <;> omega
  obtain ⟨p, hp, e⟩ := hz
  rw [e]
  have hnI : (BitVec.ofNat 32 n).toInt = n := by
    rw [BitVec.toInt_eq_toNat_cond, BitVec.toNat_ofNat, Nat.mod_eq_of_lt (by omega), if_pos (by omega)]
  have hpI : (BitVec.ofNat 32 p).toInt = p := by
    rw [BitVec.toInt_eq_toNat_cond, BitVec.toNat_ofNat, Nat.mod_eq_of_lt (by omega), if_pos (by omega)]
  unfold IntOp.minsi
  split
  · exact ⟨n, le_refl _, rfl⟩
  · rename_i h
    refine ⟨p, ?_, rfl⟩
    by_contra hc
    apply h
    simp [BitVec.slt, BitVec.sle, hnI, hpI]
    omega

/-- Every bin is one of the 352. -/
theorem number_lt (a e r c : EReal) : ∃ m : ℕ, m < 352 ∧ number (cut 7#32 a) (cut 1#32 e) (cut 1#32 r) (cut 10#32 c) = BitVec.ofNat 32 m := by
  obtain ⟨i, hi, ei⟩ := cut_le 7 (by norm_num) a
  obtain ⟨j, hj, ej⟩ := cut_le 1 (by norm_num) e
  obtain ⟨k, hk, ek⟩ := cut_le 1 (by norm_num) r
  obtain ⟨l, hl, el⟩ := cut_le 10 (by norm_num) c
  refine ⟨((i * 2 + j) * 2 + k) * 11 + l, by omega, ?_⟩
  rw [ei, ej, ek, el]
  unfold number
  show ((BitVec.ofNat 32 i * BitVec.ofNat 32 2 + BitVec.ofNat 32 j) * BitVec.ofNat 32 2 + BitVec.ofNat 32 k) * BitVec.ofNat 32 11 + BitVec.ofNat 32 l = _
  simp only [← BitVec.ofNat_mul, ← BitVec.ofNat_add]

theorem cut_real (s : ℝ) (m : ℕ) (hm : m ≤ 8) (h1 : (m : ℝ) ≤ s) (h2 : s < m + 1) : cut 7#32 (s : EReal) = BitVec.ofNat 32 (min m 7) := by
  have hf : ⌊s⌋ = (m : ℤ) := by
    rw [Int.floor_eq_iff]; exact ⟨by exact_mod_cast h1, by exact_mod_cast h2⟩
  unfold cut
  rw [Ideal.liftRound_coe, hf]
  have : Ideal.fptosi 32 (((((m : ℕ) : ℤ) : ℝ)) : EReal) = BitVec.ofNat 32 m := by
    unfold Ideal.fptosi
    show BitVec.ofInt 32 (max _ (min _ (if 0 ≤ (((m : ℕ) : ℤ) : ℝ) then _ else _))) = _
    rw [if_pos (by positivity), Int.floor_intCast, min_eq_right (by norm_num; omega), max_eq_right (by norm_num)]
    exact BitVec.ofInt_natCast ..
  rw [this]
  interval_cases m <;> decide

theorem half_turn : Ideal.atan2 (Ideal.ofBits FTy.f32 0#32) (Ideal.ofBits FTy.f32 3212836864#32) = ((Real.pi : ℝ) : EReal) := by
  have e0 : Ideal.ofBits FTy.f32 0#32 = ((0 : ℝ) : EReal) := by simp [Ideal.ofBits, Ideal.ieee]
  have e1 : Ideal.ofBits FTy.f32 3212836864#32 = ((-1 : ℝ) : EReal) := by
    simp [Ideal.ofBits, Ideal.ieee]
    rw [← EReal.coe_mul]
    norm_num
  have e2 : Ideal.atan2 ((0 : ℝ) : EReal) ((-1 : ℝ) : EReal) = ((if (0 : ℝ) < -1 then Real.arctan (0 / -1)
      else if (-1 : ℝ) < 0 then (if (0 : ℝ) ≤ 0 then Real.arctan (0 / -1) + Real.pi else Real.arctan (0 / -1) - Real.pi)
      else if (0 : ℝ) < 0 then Real.pi / 2 else if (0 : ℝ) < 0 then -(Real.pi / 2) else 0 : ℝ) : EReal) := rfl
  rw [e0, e1, e2]
  norm_num

theorem two_eq : Ideal.ofBits FTy.f32 1073741824#32 = ((2 : ℝ) : EReal) := by
  simp [Ideal.ofBits, Ideal.ieee]
  rw [← EReal.coe_mul]
  norm_num
theorem eight_eq : Ideal.ofBits FTy.f32 1090519040#32 = ((8 : ℝ) : EReal) := by
  simp [Ideal.ofBits, Ideal.ieee]
  rw [← EReal.coe_mul]
  norm_num

/-- The sector of an angle between two neighbouring eighths of the turn. -/
theorem sector_angle (y x : EReal) (θ : ℝ) (h : Ideal.atan2 y x = (θ : EReal)) (m : ℕ) (hm : m ≤ 8)
    (h1 : (m : ℝ) * (Real.pi / 4) - Real.pi ≤ θ) (h2 : θ < ((m : ℝ) + 1) * (Real.pi / 4) - Real.pi) : sector y x = BitVec.ofNat 32 (min m 7) := by
  have hpi := Real.pi_pos
  unfold sector
  rw [h, half_turn, two_eq, eight_eq]
  have e : Ideal.div ((θ : EReal) + ((Real.pi : ℝ) : EReal)) (((2 : ℝ) : EReal) * ((Real.pi : ℝ) : EReal)) * ((8 : ℝ) : EReal)
      = (((θ + Real.pi) * (2 * Real.pi)⁻¹ * 8 : ℝ) : EReal) := by
    unfold Ideal.div
    rw [← EReal.coe_mul, if_neg (by
      intro hz
      have : (2 * Real.pi : ℝ) = 0 := by exact_mod_cast hz
      linarith)]
    rw [← EReal.coe_inv, ← EReal.coe_add, ← EReal.coe_mul, ← EReal.coe_mul]
  rw [e]
  have key : (θ + Real.pi) * (2 * Real.pi)⁻¹ * 8 = (θ + Real.pi) / (Real.pi / 4) := by
    field_simp; ring
  rw [key]
  refine cut_real _ m hm ?_ ?_
  · rw [le_div_iff₀ (by positivity)]; linarith
  · rw [div_lt_iff₀ (by positivity)]; linarith

theorem atan_one_le {q : ℝ} (h : 1 ≤ q) : Real.pi / 4 ≤ Real.arctan q := by
  rw [← Real.arctan_one]; exact Real.arctan_strictMono.monotone h
theorem atan_lt_one {q : ℝ} (h : q < 1) : Real.arctan q < Real.pi / 4 := by
  rw [← Real.arctan_one]; exact Real.arctan_strictMono h
theorem atan_le_one {q : ℝ} (h : q ≤ 1) : Real.arctan q ≤ Real.pi / 4 := by
  rw [← Real.arctan_one]; exact Real.arctan_strictMono.monotone h
theorem atan_neg_one_le {q : ℝ} (h : -1 ≤ q) : -(Real.pi / 4) ≤ Real.arctan q := by
  rw [← Real.arctan_one, ← Real.arctan_neg]; exact Real.arctan_strictMono.monotone h
theorem atan_lt_neg_one {q : ℝ} (h : q < -1) : Real.arctan q < -(Real.pi / 4) := by
  rw [← Real.arctan_one, ← Real.arctan_neg]; exact Real.arctan_strictMono h
theorem atan_nonneg {q : ℝ} (h : 0 ≤ q) : 0 ≤ Real.arctan q := by
  have := Real.arctan_strictMono.monotone h; rwa [Real.arctan_zero] at this
theorem atan_pos {q : ℝ} (h : 0 < q) : 0 < Real.arctan q := by
  have := Real.arctan_strictMono h; rwa [Real.arctan_zero] at this
theorem atan_neg {q : ℝ} (h : q < 0) : Real.arctan q < 0 := by
  have := Real.arctan_strictMono h; rwa [Real.arctan_zero] at this

/-- Off the origin the comparisons name the sector of the angle. -/
theorem sector_eq (y x : ℝ) (h : y ≠ 0 ∨ x ≠ 0) : sector (y : EReal) (x : EReal) = compass (y : EReal) (x : EReal) := by
  have hpi := Real.pi_pos
  have hat : Ideal.atan2 (y : EReal) (x : EReal) = ((if 0 < x then Real.arctan (y / x)
      else if x < 0 then (if 0 ≤ y then Real.arctan (y / x) + Real.pi else Real.arctan (y / x) - Real.pi)
      else if 0 < y then Real.pi / 2 else if y < 0 then -(Real.pi / 2) else 0 : ℝ) : EReal) := rfl
  have c1 : ((0 : EReal) ≤ (y : EReal)) ↔ 0 ≤ y := EReal.coe_nonneg
  have c2 : ((0 : EReal) < (x : EReal)) ↔ 0 < x := EReal.coe_pos
  have c3 : ((x : EReal) ≤ (y : EReal)) ↔ x ≤ y := EReal.coe_le_coe_iff
  have c4 : ((0 : EReal) < (y : EReal) + (x : EReal)) ↔ 0 < y + x := by rw [← EReal.coe_add]; exact EReal.coe_pos
  have c5 : ((0 : EReal) ≤ (x : EReal)) ↔ 0 ≤ x := EReal.coe_nonneg
  have c6 : ((0 : EReal) ≤ (y : EReal) + (x : EReal)) ↔ 0 ≤ y + x := by rw [← EReal.coe_add]; exact EReal.coe_nonneg
  have c7 : ((y : EReal) ≤ (x : EReal)) ↔ y ≤ x := EReal.coe_le_coe_iff
  unfold compass
  simp only [c1, c2, c3, c4, c5, c6, c7]
  by_cases hy : 0 ≤ y
  · rw [if_pos hy]
    by_cases hx : 0 < x
    · rw [if_pos hx] at hat ⊢
      have hq : 0 ≤ y / x := div_nonneg hy hx.le
      by_cases hc : x ≤ y
      · rw [if_pos hc]
        refine sector_angle _ _ _ hat 5 (by norm_num) ?_ ?_
        · have := atan_one_le (q := y / x) (by rw [le_div_iff₀ hx]; linarith)
          push_cast; linarith
        · have := Real.arctan_lt_pi_div_two (y / x)
          push_cast; linarith
      · rw [if_neg hc]
        refine sector_angle _ _ _ hat 4 (by norm_num) ?_ ?_
        · have := atan_nonneg hq
          push_cast; linarith
        · have := atan_lt_one (q := y / x) (by rw [div_lt_iff₀ hx]; linarith)
          push_cast; linarith
    · rw [if_neg hx] at hat ⊢
      by_cases hx' : x < 0
      · rw [if_pos hx', if_pos hy] at hat
        by_cases hc : 0 < y + x
        · rw [if_pos hc]
          refine sector_angle _ _ _ hat 6 (by norm_num) ?_ ?_
          · have := Real.neg_pi_div_two_lt_arctan (y / x)
            push_cast; linarith
          · have := atan_lt_neg_one (q := y / x) (by rw [div_lt_iff_of_neg hx']; linarith)
            push_cast; linarith
        · rw [if_neg hc]
          have h3 := atan_neg_one_le (q := y / x) (by rw [le_div_iff_of_neg hx']; linarith)
          rcases hy.lt_or_eq with hy' | hy'
          · refine sector_angle _ _ _ hat 7 (by norm_num) ?_ ?_
            · push_cast; linarith
            · have := atan_neg (q := y / x) (div_neg_of_pos_of_neg hy' hx')
              push_cast; linarith
          · subst hy'
            rw [zero_div, Real.arctan_zero] at hat
            refine sector_angle _ _ _ hat 8 (by norm_num) ?_ ?_
            · push_cast; linarith
            · push_cast; linarith
      · have hx0 : x = 0 := le_antisymm (not_lt.mp hx) (not_lt.mp hx')
        subst hx0
        have hy' : 0 < y := lt_of_le_of_ne hy (Ne.symm (h.resolve_right (by simp)))
        rw [if_neg hx', if_pos hy'] at hat
        rw [if_pos (by linarith)]
        refine sector_angle _ _ _ hat 6 (by norm_num) ?_ ?_
        · push_cast; linarith
        · push_cast; linarith
  · rw [if_neg hy]
    have hy' : y < 0 := not_le.mp hy
    by_cases hx : 0 ≤ x
    · rw [if_pos hx]
      rcases hx.lt_or_eq with hx' | hx'
      · rw [if_pos hx'] at hat
        by_cases hc : 0 ≤ y + x
        · rw [if_pos hc]
          refine sector_angle _ _ _ hat 3 (by norm_num) ?_ ?_
          · have := atan_neg_one_le (q := y / x) (by rw [le_div_iff₀ hx']; linarith)
            push_cast; linarith
          · have := atan_neg (q := y / x) (div_neg_of_neg_of_pos hy' hx')
            push_cast; linarith
        · rw [if_neg hc]
          refine sector_angle _ _ _ hat 2 (by norm_num) ?_ ?_
          · have := Real.neg_pi_div_two_lt_arctan (y / x)
            push_cast; linarith
          · have := atan_lt_neg_one (q := y / x) (by rw [div_lt_iff₀ hx']; linarith)
            push_cast; linarith
      · subst hx'
        rw [if_neg (lt_irrefl _), if_neg (lt_irrefl _), if_neg (not_lt.mpr hy'.le), if_pos hy'] at hat
        rw [if_neg (by linarith)]
        refine sector_angle _ _ _ hat 2 (by norm_num) ?_ ?_
        · push_cast; linarith
        · push_cast; linarith
    · rw [if_neg hx]
      have hx' : x < 0 := not_le.mp hx
      rw [if_neg (not_lt.mpr hx'.le), if_pos hx', if_neg hy] at hat
      have hq := atan_pos (q := y / x) (div_pos_of_neg_of_neg hy' hx')
      by_cases hc : y ≤ x
      · rw [if_pos hc]
        refine sector_angle _ _ _ hat 1 (by norm_num) ?_ ?_
        · have := atan_one_le (q := y / x) (by rw [le_div_iff_of_neg hx']; linarith)
          push_cast; linarith
        · have := Real.arctan_lt_pi_div_two (y / x)
          push_cast; linarith
      · rw [if_neg hc]
        refine sector_angle _ _ _ hat 0 (by norm_num) ?_ ?_
        · push_cast; linarith
        · have := atan_lt_one (q := y / x) (by rw [div_lt_iff_of_neg hx']; linarith)
          push_cast; linarith

end Cert.Proof.Descr

end
-- ==== Proof.DescrValue.lean ====
/- What the second call computes of one block: the neighbours' normals, their bins, and the descriptor. -/
module

public import proofs.«01_k».proof.Proof.Gen.Kernel2Ideal.Frame
public import proofs.«01_k».proof.Proof.Gen.Kernel2Ideal.Skeleton
public import proofs.«01_k».proof.Proof.DescrWord
public import Idealize.ShloMosaic.Lib.Pointwise

@[expose] public section

set_option maxRecDepth 16384

noncomputable section

namespace Cert.Proof.Descr

open Cert.Kernel2Ideal Cert.Kernel2Ideal.Gen
open Idealize.ShloMosaic Idealize.ShloMosaic.TcCoe

section Chain

variable {F : FTy → Type} [FloatOps F]

/-- The entries of one slab of 128 columns that a block's remainders name. -/
def slab (o : ℕ) (h : S1x2048.Slices ![0, o] S1x128) (v14 : FVec F S1x2048 .f32) (v20 : IVec S256x128 32) : FVec F S256x16 .f32 :=
  extractStridedSlice S256x16 ![0, 0]
    (dynamicGather 1 (broadcastTo S256x128 (shapeCast S1x128 (extractStridedSlice S1x128 ![0, o] v14 h) shapeCasts_S1x128_S1x128) broadcasts_S1x128_S256x128)
      (shapeCast S256x128 (shapeCast S256x128x1 (select (cmpi .slt v20 (broadcast S256x128 0#32)) (addi v20 (broadcast S256x128 128#32)) v20) shapeCasts_S256x128_S256x128x1) shapeCasts_S256x128x1_S256x128))
    slices_S256x128_o0_0_S256x16

/-- The entries of a row that a block's indices name. -/
def row (v14 : FVec F S1x2048 .f32) (v16 : IVec S256x16 32) (v20 : IVec S256x128 32) : FVec F S256x16 .f32 :=
  (select (cmpi .eq v16 (broadcast S256x16 15#32)) (slab 1920 slices_S1x2048_o0_1920_S1x128 v14 v20) (select (cmpi .eq v16 (broadcast S256x16 14#32)) (slab 1792 slices_S1x2048_o0_1792_S1x128 v14 v20) (select (cmpi .eq v16 (broadcast S256x16 13#32)) (slab 1664 slices_S1x2048_o0_1664_S1x128 v14 v20) (select (cmpi .eq v16 (broadcast S256x16 12#32)) (slab 1536 slices_S1x2048_o0_1536_S1x128 v14 v20) (select (cmpi .eq v16 (broadcast S256x16 11#32)) (slab 1408 slices_S1x2048_o0_1408_S1x128 v14 v20) (select (cmpi .eq v16 (broadcast S256x16 10#32)) (slab 1280 slices_S1x2048_o0_1280_S1x128 v14 v20) (select (cmpi .eq v16 (broadcast S256x16 9#32)) (slab 1152 slices_S1x2048_o0_1152_S1x128 v14 v20) (select (cmpi .eq v16 (broadcast S256x16 8#32)) (slab 1024 slices_S1x2048_o0_1024_S1x128 v14 v20) (select (cmpi .eq v16 (broadcast S256x16 7#32)) (slab 896 slices_S1x2048_o0_896_S1x128 v14 v20) (select (cmpi .eq v16 (broadcast S256x16 6#32)) (slab 768 slices_S1x2048_o0_768_S1x128 v14 v20) (select (cmpi .eq v16 (broadcast S256x16 5#32)) (slab 640 slices_S1x2048_o0_640_S1x128 v14 v20) (select (cmpi .eq v16 (broadcast S256x16 4#32)) (slab 512 slices_S1x2048_o0_512_S1x128 v14 v20) (select (cmpi .eq v16 (broadcast S256x16 3#32)) (slab 384 slices_S1x2048_o0_384_S1x128 v14 v20) (select (cmpi .eq v16 (broadcast S256x16 2#32)) (slab 256 slices_S1x2048_o0_256_S1x128 v14 v20) (select (cmpi .eq v16 (broadcast S256x16 1#32)) (slab 128 slices_S1x2048_o0_128_S1x128 v14 v20) (select (cmpi .eq v16 (broadcast S256x16 0#32)) (slab 0 slices_S1x2048_o0_0_S1x128 v14 v20) (broadcast S256x16 (Scalar.ofBits .f32 0x00000000#32))))))))))))))))))

/-- What the neighbours of one column add to the descriptor. -/
def column (o : ℕ) (h : S256x16.Slices ![0, o] S256x1) (bin : IVec S256x16 32) (sh : FVec F S256x16 .f32) : FVec F S256x352 .f32 :=
  select (cmpi .eq (broadcastTo S256x352 (iota .tc S1x352 32 [1] iota_S1x352_d1_w32) broadcasts_S1x352_S256x352)
      (broadcastTo S256x352 (extractStridedSlice S256x1 ![0, o] bin h) broadcasts_S256x1_S256x352))
    (broadcastTo S256x352 (shapeCast S256x1 (extractStridedSlice S256x1 ![0, o] sh h) shapeCasts_S256x1_S256x1) broadcasts_S256x1_S256x352)
    (broadcast S256x352 (Scalar.ofBits .f32 0x00000000#32))

/-- The descriptor before the division. -/
def hist (bin : IVec S256x16 32) (sh : FVec F S256x16 .f32) : FVec F S256x352 .f32 :=
  (addf (addf (addf (addf (addf (addf (addf (addf (addf (addf (addf (addf (addf (addf (addf (addf (broadcast S256x352 (Scalar.ofBits .f32 0x00000000#32)) (column 0 slices_S256x16_o0_0_S256x1 bin sh)) (column 1 slices_S256x16_o0_1_S256x1 bin sh)) (column 2 slices_S256x16_o0_2_S256x1 bin sh)) (column 3 slices_S256x16_o0_3_S256x1 bin sh)) (column 4 slices_S256x16_o0_4_S256x1 bin sh)) (column 5 slices_S256x16_o0_5_S256x1 bin sh)) (column 6 slices_S256x16_o0_6_S256x1 bin sh)) (column 7 slices_S256x16_o0_7_S256x1 bin sh)) (column 8 slices_S256x16_o0_8_S256x1 bin sh)) (column 9 slices_S256x16_o0_9_S256x1 bin sh)) (column 10 slices_S256x16_o0_10_S256x1 bin sh)) (column 11 slices_S256x16_o0_11_S256x1 bin sh)) (column 12 slices_S256x16_o0_12_S256x1 bin sh)) (column 13 slices_S256x16_o0_13_S256x1 bin sh)) (column 14 slices_S256x16_o0_14_S256x1 bin sh)) (column 15 slices_S256x16_o0_15_S256x1 bin sh))

/-- The division by the length. -/
def unit (v1026 : FVec F S256x352 .f32) : FVec F S1x256x352 .f32 :=
  shapeCast S1x256x352 (divf v1026 (broadcastTo S256x352 (sqrt (addf (shapeCast S256x1 (multiReduction .add [1] S256 (mulf v1026 v1026) 0x00000000#32 reduces_S256x352_S256 (.inl rfl) rfl) shapeCasts_S256_S256x1) (broadcast S256x1 (Scalar.ofBits .f32 0x2B8CBCCC#32)))) broadcasts_S256x1_S256x352)) shapeCasts_S256x352_S1x256x352

/-- The steps of the cosines. -/
def tilts (v8 v9 v10 : FVec F S256x1 .f32) (g0 g1 g2 : FVec F S256x16 .f32) : IVec S256x16 32 :=
  k0_pay58 (divf (addf (minimumf (broadcast S256x16 (Scalar.ofBits .f32 0x3F800000#32)) (maximumf (broadcast S256x16 (Scalar.ofBits .f32 0xBF800000#32))
    (addf (addf (mulf g0 (broadcastTo S256x16 v8 broadcasts_S256x1_S256x16)) (mulf g1 (broadcastTo S256x16 v9 broadcasts_S256x1_S256x16))) (mulf g2 (broadcastTo S256x16 v10 broadcasts_S256x1_S256x16)))))
    (broadcast S256x16 (Scalar.ofBits .f32 0x3F800000#32))) (broadcast S256x16 (Scalar.ofBits .f32 0x40000000#32))) (k0_pay57 (F := F))

variable (x0 : Vec F S1x256x3 .f32) (x1 : Vec F S1x3x2048 .f32) (x2 : Vec F S1x256x16 .i32) (x3 : Vec F S1x256x16 .f32) (x4 : Vec F S1x256x16 .f32) (x5 : Vec F S1x256x16 .f32) (x6 : Vec F S1x1x2048 .f32)

/-- The bins of a block. -/
def bins : IVec S256x16 32 :=
  k0_pay65 (tilts (k0_pay4 (View.ld x0 r0_1)) (k0_pay5 (View.ld x0 r0_1)) (k0_pay6 (View.ld x0 r0_1))
      (row (k0_pay8 (View.ld x1 r0_3)) (k0_pay9 (View.ld x2 r0_2)) (k0_pay10 (View.ld x2 r0_2)))
      (row (k0_pay23 (View.ld x1 r0_4)) (k0_pay9 (View.ld x2 r0_2)) (k0_pay10 (View.ld x2 r0_2)))
      (row (k0_pay39 (View.ld x1 r0_5)) (k0_pay9 (View.ld x2 r0_2)) (k0_pay10 (View.ld x2 r0_2))))
    (k0_pay60 (View.ld x4 r0_2)) (k0_pay61 (View.ld x5 r0_2)) (k0_pay63 (k0_pay2 (View.ld x6 r0_0)) (View.ld x3 r0_2) (View.ld x4 r0_2) (View.ld x5 r0_2))
    (k0_pay64 (View.ld x3 r0_2) (View.ld x4 r0_2) (View.ld x5 r0_2)) 0#32 1#32

/-- What the neighbours of a block add. -/
def shares : FVec F S256x16 .f32 :=
  k0_pay67 (k0_pay66 (k0_pay2 (View.ld x6 r0_0)) (k0_pay62 (View.ld x3 r0_2) (View.ld x4 r0_2) (View.ld x5 r0_2)))

theorem bins_eq : k0_pay87 x0 x1 x2 x3 x4 x5 x6 = bins x0 x1 x2 x3 x4 x5 x6 := rfl

theorem shares_eq : k0_pay90 x0 x1 x2 x3 x4 x5 x6 = shares x3 x4 x5 x6 := rfl

theorem out_eq : out0_7 x0 x1 x2 x3 x4 x5 x6 = View.canon [⟨r0_6, unit (hist (bins x0 x1 x2 x3 x4 x5 x6) (shares x3 x4 x5 x6))⟩] := by
  rw [← bins_eq x0 x1 x2 x3 x4 x5 x6, ← shares_eq x0 x1 x2 x3 x4 x5 x6]
  rfl

end Chain

theorem slab_apply (o : ℕ) (ho : o + 128 ≤ 2048) (h : S1x2048.Slices ![0, o] S1x128) (v14 : FVec Ideal S1x2048 .f32) (v20 : IVec S256x128 32) (r : Fin 256) (k : Fin 16)
    (q : ℕ) (hq : q < 128) (hv : v20 (ix2 r ⟨k.val, by omega⟩) = BitVec.ofNat 32 q) :
    slab o h v14 v20 (ix2 r k) = v14 (ix2 0 ⟨o + q, by omega⟩) := by
  unfold slab
  pointwise
  refine congrArg (fun c => v14 (ix2 0 c)) (Fin.ext ?_)
  show o + _ % 128 = o + q
  rw [hv, select_nonneg q (by omega), BitVec.toNat_ofNat]
  omega

theorem column_apply (o : ℕ) (ho : o < 16) (h : S256x16.Slices ![0, o] S256x1) (bin : IVec S256x16 32) (sh : FVec Ideal S256x16 .f32) (r : Fin 256) (t : Fin 352) :
    column o h bin sh (ix2 r t) = if BitVec.ofNat 32 t.val = bin (ix2 r ⟨o, ho⟩) then sh (ix2 r ⟨o, ho⟩) else 0 := by
  unfold column
  pointwise
  exact select_word _ _ _ _

theorem unit_apply (d : FVec Ideal S256x352 .f32) (r : Fin 256) (t : Fin 352) :
    unit d (ix3 0 r t) = Ideal.div (d (ix2 r t)) (Ideal.sqrt (∑ u : Fin 352, d (ix2 r u) * d (ix2 r u) + eps)) := by
  unfold unit
  pointwise
  rfl

/-- The descriptor before the division, at an index: the sum of what the neighbours in that bin add. -/
theorem hist_apply (bin : IVec S256x16 32) (sh : FVec Ideal S256x16 .f32) (r : Fin 256) (t : Fin 352) :
    hist bin sh (ix2 r t) = total (fun k => bin (ix2 r k)) (fun k => sh (ix2 r k)) t := by
  have add : ∀ (x y : FVec Ideal S256x352 .f32) (j : S256x352.Idx), addf x y j = x j + y j := fun _ _ _ => rfl
  have z : (broadcast S256x352 (Scalar.ofBits .f32 0x00000000#32) : FVec Ideal S256x352 .f32) (ix2 r t) = 0 := by pointwise
  unfold hist
  simp only [add]
  rw [column_apply 0 (by omega)]
  rw [column_apply 1 (by omega)]
  rw [column_apply 2 (by omega)]
  rw [column_apply 3 (by omega)]
  rw [column_apply 4 (by omega)]
  rw [column_apply 5 (by omega)]
  rw [column_apply 6 (by omega)]
  rw [column_apply 7 (by omega)]
  rw [column_apply 8 (by omega)]
  rw [column_apply 9 (by omega)]
  rw [column_apply 10 (by omega)]
  rw [column_apply 11 (by omega)]
  rw [column_apply 12 (by omega)]
  rw [column_apply 13 (by omega)]
  rw [column_apply 14 (by omega)]
  rw [column_apply 15 (by omega)]
  rw [z]
  unfold total
  simp only [Fin.sum_univ_succ, Fin.sum_univ_zero, zero_add, add_zero, add_assoc]
  rfl

/-- The entry of a row that an index below 2048 names. -/
theorem row_apply (v14 : FVec Ideal S1x2048 .f32) (v16 : IVec S256x16 32) (v20 : IVec S256x128 32) (r : Fin 256) (k : Fin 16) (q : Fin 2048)
    (h16 : v16 (ix2 r k) = BitVec.ofNat 32 (q.val / 128)) (h20 : v20 (ix2 r ⟨k.val, by omega⟩) = BitVec.ofNat 32 (q.val % 128)) :
    row v14 v16 v20 (ix2 r k) = v14 (ix2 0 q) := by
  have sel : ∀ (g : BitVec 32) (x y : FVec Ideal S256x16 .f32), select (cmpi .eq v16 (broadcast S256x16 g)) x y (ix2 r k)
      = if v16 (ix2 r k) = g then x (ix2 r k) else y (ix2 r k) := by
    intro g x y
    pointwise
    exact select_word _ _ _ _
  have hm : q.val % 128 < 128 := Nat.mod_lt _ (by norm_num)
  have hd : q.val / 128 < 16 := by omega
  have hs : q.val = 128 * (q.val / 128) + q.val % 128 := by omega
  obtain ⟨qv, hqv⟩ := q
  generalize hD : qv / 128 = D at *
  generalize hM : qv % 128 = M at *
  simp only at hs h16 h20 hm hd
  subst hs
  unfold row
  simp only [sel, h16]
  rw [slab_apply 0 (by omega) _ v14 v20 r k M hm h20]
  rw [slab_apply 128 (by omega) _ v14 v20 r k M hm h20]
  rw [slab_apply 256 (by omega) _ v14 v20 r k M hm h20]
  rw [slab_apply 384 (by omega) _ v14 v20 r k M hm h20]
  rw [slab_apply 512 (by omega) _ v14 v20 r k M hm h20]
  rw [slab_apply 640 (by omega) _ v14 v20 r k M hm h20]
  rw [slab_apply 768 (by omega) _ v14 v20 r k M hm h20]
  rw [slab_apply 896 (by omega) _ v14 v20 r k M hm h20]
  rw [slab_apply 1024 (by omega) _ v14 v20 r k M hm h20]
  rw [slab_apply 1152 (by omega) _ v14 v20 r k M hm h20]
  rw [slab_apply 1280 (by omega) _ v14 v20 r k M hm h20]
  rw [slab_apply 1408 (by omega) _ v14 v20 r k M hm h20]
  rw [slab_apply 1536 (by omega) _ v14 v20 r k M hm h20]
  rw [slab_apply 1664 (by omega) _ v14 v20 r k M hm h20]
  rw [slab_apply 1792 (by omega) _ v14 v20 r k M hm h20]
  rw [slab_apply 1920 (by omega) _ v14 v20 r k M hm h20]
  clear h16
  interval_cases D <;> rfl

section Block

variable (x0 : Vec Ideal S1x256x3 .f32) (x1 : Vec Ideal S1x3x2048 .f32) (x2 : Vec Ideal S1x256x16 .i32) (x3 : Vec Ideal S1x256x16 .f32) (x4 : Vec Ideal S1x256x16 .f32) (x5 : Vec Ideal S1x256x16 .f32) (x6 : Vec Ideal S1x1x2048 .f32)

theorem radius_apply : k0_pay2 (View.ld x6 r0_0) (ix2 0 0) = radius fun q => x6 (ix3 0 0 q) := by
  unfold k0_pay2
  pointwise
  rfl

theorem shares_apply (r : Fin 256) (k : Fin 16) : shares x3 x4 x5 x6 (ix2 r k)
    = share (len (x3 (ix3 0 r k)) (x4 (ix3 0 r k)) (x5 (ix3 0 r k))) (radius fun q => x6 (ix3 0 0 q)) := by
  rw [← radius_apply x6]
  unfold shares k0_pay67 k0_pay66 k0_pay62 k0_pay59 k0_pay60 k0_pay61
  pointwise
  rfl

theorem quot_apply (r : Fin 256) (k : Fin 16) (q : Fin 2048) (h : x2 (ix3 0 r k) = BitVec.ofNat 32 q.val) :
    k0_pay9 (View.ld x2 r0_2) (ix2 r k) = BitVec.ofNat 32 (q.val / 128) := by
  unfold k0_pay9 k0_pay7
  pointwise
  rw [h]
  exact (by decide +kernel : ∀ q : Fin 2048, IntOp.shrsi ArithUnit.vector (BitVec.ofNat 32 q.val) 7#32 = BitVec.ofNat 32 (q.val / 128)) q

theorem rem_apply (r : Fin 256) (k : Fin 16) (q : Fin 2048) (h : x2 (ix3 0 r k) = BitVec.ofNat 32 q.val) :
    k0_pay10 (View.ld x2 r0_2) (ix2 r ⟨k.val, by omega⟩) = BitVec.ofNat 32 (q.val % 128) := by
  unfold k0_pay10 k0_pay7
  pointwise
  rw [h]
  exact (by decide +kernel : ∀ q : Fin 2048, IntOp.andi (BitVec.ofNat 32 q.val) 127#32 = BitVec.ofNat 32 (q.val % 128)) q

theorem normal0_apply (q : Fin 2048) : k0_pay8 (View.ld x1 r0_3) (ix2 0 q) = x1 (ix3 0 0 q) := by
  unfold k0_pay8
  pointwise

theorem normal1_apply (q : Fin 2048) : k0_pay23 (View.ld x1 r0_4) (ix2 0 q) = x1 (ix3 0 1 q) := by
  unfold k0_pay23
  pointwise

theorem normal2_apply (q : Fin 2048) : k0_pay39 (View.ld x1 r0_5) (ix2 0 q) = x1 (ix3 0 2 q) := by
  unfold k0_pay39
  pointwise

theorem bins_apply (r : Fin 256) (k : Fin 16) (q : Fin 2048) (h : x2 (ix3 0 r k) = BitVec.ofNat 32 q.val) : bins x0 x1 x2 x3 x4 x5 x6 (ix2 r k)
    = number (compass (x4 (ix3 0 r k)) (x5 (ix3 0 r k)))
      (height (x3 (ix3 0 r k)) (len (x3 (ix3 0 r k)) (x4 (ix3 0 r k)) (x5 (ix3 0 r k))))
      (shell (len (x3 (ix3 0 r k)) (x4 (ix3 0 r k)) (x5 (ix3 0 r k))) (radius fun q => x6 (ix3 0 0 q)))
      (tilt (x1 (ix3 0 0 q) * x0 (ix3 0 r 0) + x1 (ix3 0 1 q) * x0 (ix3 0 r 1) + x1 (ix3 0 2 q) * x0 (ix3 0 r 2))) := by
  rw [← radius_apply x6, ← normal0_apply x1 q, ← normal1_apply x1 q, ← normal2_apply x1 q,
    ← row_apply (k0_pay8 (View.ld x1 r0_3)) (k0_pay9 (View.ld x2 r0_2)) (k0_pay10 (View.ld x2 r0_2)) r k q (quot_apply x2 r k q h) (rem_apply x2 r k q h),
    ← row_apply (k0_pay23 (View.ld x1 r0_4)) (k0_pay9 (View.ld x2 r0_2)) (k0_pay10 (View.ld x2 r0_2)) r k q (quot_apply x2 r k q h) (rem_apply x2 r k q h),
    ← row_apply (k0_pay39 (View.ld x1 r0_5)) (k0_pay9 (View.ld x2 r0_2)) (k0_pay10 (View.ld x2 r0_2)) r k q (quot_apply x2 r k q h) (rem_apply x2 r k q h)]
  unfold bins
  generalize row (k0_pay8 (View.ld x1 r0_3)) (k0_pay9 (View.ld x2 r0_2)) (k0_pay10 (View.ld x2 r0_2)) = g0
  generalize row (k0_pay23 (View.ld x1 r0_4)) (k0_pay9 (View.ld x2 r0_2)) (k0_pay10 (View.ld x2 r0_2)) = g1
  generalize row (k0_pay39 (View.ld x1 r0_5)) (k0_pay9 (View.ld x2 r0_2)) (k0_pay10 (View.ld x2 r0_2)) = g2
  generalize k0_pay2 (View.ld x6 r0_0) = d
  unfold k0_pay65 tilts k0_pay63 k0_pay64 k0_pay62 k0_pay59 k0_pay60 k0_pay61 k0_pay58 k0_pay57 k0_pay4 k0_pay5 k0_pay6 k0_pay3
  pointwise
  rfl

/-- The block the body leaves, at an index. -/
theorem out_apply (r : Fin 256) (t : Fin 352) (q : Fin 16 → Fin 2048) (h : ∀ k, x2 (ix3 0 r k) = BitVec.ofNat 32 (q k).val) :
    out0_7 x0 x1 x2 x3 x4 x5 x6 (ix3 0 r t)
    = descr (fun k => number (compass (x4 (ix3 0 r k)) (x5 (ix3 0 r k)))
        (height (x3 (ix3 0 r k)) (len (x3 (ix3 0 r k)) (x4 (ix3 0 r k)) (x5 (ix3 0 r k))))
        (shell (len (x3 (ix3 0 r k)) (x4 (ix3 0 r k)) (x5 (ix3 0 r k))) (radius fun q => x6 (ix3 0 0 q)))
        (tilt (x1 (ix3 0 0 (q k)) * x0 (ix3 0 r 0) + x1 (ix3 0 1 (q k)) * x0 (ix3 0 r 1) + x1 (ix3 0 2 (q k)) * x0 (ix3 0 r 2))))
      (fun k => share (len (x3 (ix3 0 r k)) (x4 (ix3 0 r k)) (x5 (ix3 0 r k))) (radius fun q => x6 (ix3 0 0 q))) t := by
  have e : r0_6.emb (ix3 0 r t) = (ix3 0 r t : S1x256x352.Idx) := by
    funext a
    refine Fin.ext ?_
    rw [Rect.emb_apply]
    match a with
    | ⟨0, _⟩ => rfl
    | ⟨1, _⟩ => show 0 + 1 * r.val = r.val; omega
    | ⟨2, _⟩ => show 0 + 1 * t.val = t.val; omega
  have hc : out0_7 x0 x1 x2 x3 x4 x5 x6 (r0_6.emb (ix3 0 r t)) = unit (hist (bins x0 x1 x2 x3 x4 x5 x6) (shares x3 x4 x5 x6)) (ix3 0 r t) := by
    rw [out_eq]
    exact View.canon_cons_emb (Val := Elt Ideal) (e := .f32) r0_6 _ [] (ix3 0 r t)
  rw [e] at hc
  refine hc.trans ?_
  rw [unit_apply]
  simp only [hist_apply]
  unfold descr
  have hb : (fun k => bins x0 x1 x2 x3 x4 x5 x6 (ix2 r k)) = _ := funext fun k => bins_apply x0 x1 x2 x3 x4 x5 x6 r k (q k) (h k)
  have hs : (fun k => shares x3 x4 x5 x6 (ix2 r k)) = _ := funext fun k => shares_apply x3 x4 x5 x6 r k
  rw [hb, hs]

end Block

end Cert.Proof.Descr

end
-- ==== Proof.DescrRef.lean ====
/- The reference's descriptor at an index: the neighbours' bins, what each adds, and the division by the length. -/
module

public import proofs.«01_k».proof.Proof.Gen.Reference2Ideal.Run
public import proofs.«01_k».proof.Proof.DescrWord
public import Idealize.ShloMosaic.Lib.Pointwise

@[expose] public section

set_option maxRecDepth 16384

noncomputable section

namespace Cert.Proof.DescrRef

open Cert.Proof.Descr
open Cert.Reference2Ideal Cert.Reference2Ideal.Gen Cert.Reference2Ideal.Value
open Idealize.ShloMosaic Idealize.ShloMosaic.TcCoe

/-- The reference's look-up of normals at `(b, n, k, a)`: the row the two index columns name. -/
theorem gather_apply (x : FVec Ideal S4x2048x3 .f32) (idx : IVec S4x2048x16x2 32) (b : Fin 4) (n : Fin 2048) (k : Fin 16) (a : Fin 3) :
    Host.gather gather_S4x2048x3_S4x2048x16x2_S4x2048x16x3_3_01_n_n_01_3_113 x idx (ix4 b n k a)
      = x (ix3 ⟨min (idx (ix4 b n k 0)).toInt.toNat 3, by omega⟩ ⟨min (idx (ix4 b n k 1)).toInt.toNat 2047, by omega⟩ a) := by
  unfold Host.gather
  congr 1
  funext c
  refine Fin.ext ?_
  have h0 : ∀ i h, gather_S4x2048x3_S4x2048x16x2_S4x2048x16x3_3_01_n_n_01_3_113.siIdx (ix4 b n k a) ⟨i, h⟩ = (ix4 b n k ⟨i, h⟩ : S4x2048x16x2.Idx) := by
    intro i h
    funext e
    match e with
    | ⟨0, _⟩ => rfl
    | ⟨1, _⟩ => rfl
    | ⟨2, _⟩ => rfl
    | ⟨3, _⟩ => rfl
  match c with
  | ⟨0, _⟩ =>
    change GatherDims.start gather_S4x2048x3_S4x2048x16x2_S4x2048x16x3_3_01_n_n_01_3_113 _ _ (0 : Fin 3) + GatherDims.batchCoord gather_S4x2048x3_S4x2048x16x2_S4x2048x16x3_3_01_n_n_01_3_113 _ (0 : Fin 3) + GatherDims.offCoord gather_S4x2048x3_S4x2048x16x2_S4x2048x16x3_3_01_n_n_01_3_113 _ (0 : Fin 3) = _
    unfold GatherDims.start GatherDims.batchCoord GatherDims.offCoord
    rw [dif_pos (by decide), dif_neg (by decide), dif_neg (by decide), h0]
    rfl
  | ⟨1, _⟩ =>
    change GatherDims.start gather_S4x2048x3_S4x2048x16x2_S4x2048x16x3_3_01_n_n_01_3_113 _ _ (1 : Fin 3) + GatherDims.batchCoord gather_S4x2048x3_S4x2048x16x2_S4x2048x16x3_3_01_n_n_01_3_113 _ (1 : Fin 3) + GatherDims.offCoord gather_S4x2048x3_S4x2048x16x2_S4x2048x16x3_3_01_n_n_01_3_113 _ (1 : Fin 3) = _
    unfold GatherDims.start GatherDims.batchCoord GatherDims.offCoord
    rw [dif_pos (by decide), dif_neg (by decide), dif_neg (by decide), h0]
    rfl
  | ⟨2, _⟩ =>
    change GatherDims.start gather_S4x2048x3_S4x2048x16x2_S4x2048x16x3_3_01_n_n_01_3_113 _ _ (2 : Fin 3) + GatherDims.batchCoord gather_S4x2048x3_S4x2048x16x2_S4x2048x16x3_3_01_n_n_01_3_113 _ (2 : Fin 3) + GatherDims.offCoord gather_S4x2048x3_S4x2048x16x2_S4x2048x16x3_3_01_n_n_01_3_113 _ (2 : Fin 3) = _
    unfold GatherDims.start GatherDims.batchCoord GatherDims.offCoord
    rw [dif_neg (by decide), dif_neg (by decide), dif_pos (by decide)]
    exact Nat.zero_add _

/-- Where the reference's update `(b, n, k)` lands: at the place the three index columns name. -/
theorem scatter_at (idx : IVec S4x2048x16x3 32) (b : Fin 4) (n : Fin 2048) (k : Fin 16) (b' : Fin 4) (n' : Fin 2048) (t : Fin 352) :
    scatter_S4x2048x352_S4x2048x16x3_S4x2048x16_n_012_012_3.resultIdx? (ix3 b n k) idx = some (ix3 b' n' t)
      ↔ (idx (ix4 b n k 0)).toInt = b'.val ∧ (idx (ix4 b n k 1)).toInt = n'.val ∧ (idx (ix4 b n k 2)).toInt = t.val := by
  have h0 : ∀ i h, scatter_S4x2048x352_S4x2048x16x3_S4x2048x16_n_012_012_3.siIdx (ix3 b n k) ⟨i, h⟩ = (ix4 b n k ⟨i, h⟩ : S4x2048x16x3.Idx) := by
    intro i h
    funext e
    match e with
    | ⟨0, _⟩ => rfl
    | ⟨1, _⟩ => rfl
    | ⟨2, _⟩ => rfl
    | ⟨3, _⟩ => rfl
  have hw : ∀ a, scatter_S4x2048x352_S4x2048x16x3_S4x2048x16_n_012_012_3.window (ix3 b n k) a = 0 := by
    intro a
    unfold ScatterDims.window
    rw [dif_neg (by revert a; decide)]
  have s0 : scatter_S4x2048x352_S4x2048x16x3_S4x2048x16_n_012_012_3.start (ix3 b n k) idx (0 : Fin 3) = (idx (ix4 b n k 0)).toInt := by
    unfold ScatterDims.start
    rw [dif_pos (by decide), h0]
    rfl
  have s1 : scatter_S4x2048x352_S4x2048x16x3_S4x2048x16_n_012_012_3.start (ix3 b n k) idx (1 : Fin 3) = (idx (ix4 b n k 1)).toInt := by
    unfold ScatterDims.start
    rw [dif_pos (by decide), h0]
    rfl
  have s2 : scatter_S4x2048x352_S4x2048x16x3_S4x2048x16_n_012_012_3.start (ix3 b n k) idx (2 : Fin 3) = (idx (ix4 b n k 2)).toInt := by
    unfold ScatterDims.start
    rw [dif_pos (by decide), h0]
    rfl
  unfold ScatterDims.resultIdx?
  constructor
  · intro h
    split at h
    · rename_i hr
      have e := Option.some.inj h
      have e0 := congrArg Fin.val (congrFun e (0 : Fin 3))
      have e1 := congrArg Fin.val (congrFun e (1 : Fin 3))
      have e2 := congrArg Fin.val (congrFun e (2 : Fin 3))
      have r0 := hr (0 : Fin 3)
      have r1 := hr (1 : Fin 3)
      have r2 := hr (2 : Fin 3)
      simp only [hw, s0, s1, s2] at e0 e1 e2 r0 r1 r2
      change _ = b'.val at e0
      change _ = n'.val at e1
      change _ = t.val at e2
      omega
    · exact absurd h (by simp)
  · rintro ⟨e0, e1, e2⟩
    have hr : ∀ a : Fin 3, 0 ≤ scatter_S4x2048x352_S4x2048x16x3_S4x2048x16_n_012_012_3.start (ix3 b n k) idx a + scatter_S4x2048x352_S4x2048x16x3_S4x2048x16_n_012_012_3.window (ix3 b n k) a
        ∧ scatter_S4x2048x352_S4x2048x16x3_S4x2048x16_n_012_012_3.start (ix3 b n k) idx a + scatter_S4x2048x352_S4x2048x16x3_S4x2048x16_n_012_012_3.window (ix3 b n k) a < S4x2048x352.size a := by
      intro a
      rw [hw a]
      match a with
      | ⟨0, _⟩ => have := b'.isLt; constructor <;> [skip; show _ < (4 : ℤ)] <;> (erw [s0.trans e0]) <;> omega
      | ⟨1, _⟩ => have := n'.isLt; constructor <;> [skip; show _ < (2048 : ℤ)] <;> (erw [s1.trans e1]) <;> omega
      | ⟨2, _⟩ => have := t.isLt; constructor <;> [skip; show _ < (352 : ℤ)] <;> (erw [s2.trans e2]) <;> omega
    rw [dif_pos hr]
    refine congrArg some ?_
    funext a
    refine Fin.ext ?_
    match a with
    | ⟨0, _⟩ => show (_ + _ : ℤ).toNat = b'.val; erw [hw 0, s0, e0]; simp
    | ⟨1, _⟩ => show (_ + _ : ℤ).toNat = n'.val; erw [hw 1, s1, e1]; simp
    | ⟨2, _⟩ => show (_ + _ : ℤ).toNat = t.val; erw [hw 2, s2, e2]; simp

/-- The reference's sum of updates at `(b, n, t)`, its index columns naming each update's own cloud and vertex. -/
theorem scatter_apply (z : FVec Ideal S4x2048x352 .f32) (idx : IVec S4x2048x16x3 32) (upd : FVec Ideal S4x2048x16 .f32) (b : Fin 4) (n : Fin 2048) (t : Fin 352)
    (hz : z (ix3 b n t) = 0) (h0 : ∀ b n k, idx (ix4 b n k 0) = BitVec.ofNat 32 b.val) (h1 : ∀ b n k, idx (ix4 b n k 1) = BitVec.ofNat 32 n.val)
    (h2 : ∀ b n k, ∃ m : ℕ, m < 352 ∧ idx (ix4 b n k 2) = BitVec.ofNat 32 m) :
    Host.scatterAdd scatter_S4x2048x352_S4x2048x16x3_S4x2048x16_n_012_012_3 z idx upd (ix3 b n t)
      = total (fun k => idx (ix4 b n k 2)) (fun k => upd (ix3 b n k)) t := by
  show z (ix3 b n t) + ∑ j ∈ Finset.univ.filter (fun j => scatter_S4x2048x352_S4x2048x16x3_S4x2048x16_n_012_012_3.resultIdx? j idx = some (ix3 b n t)), upd j = _
  rw [hz, zero_add]
  unfold total
  rw [← Finset.sum_filter]
  have hb : b.val < 4 := b.isLt
  have hn : n.val < 2048 := n.isLt
  have ht : t.val < 352 := t.isLt
  have at2 : ∀ k : Fin 16, (idx (ix4 b n k 2)).toInt = t.val ↔ BitVec.ofNat 32 t.val = idx (ix4 b n k 2) := by
    intro k
    obtain ⟨m, hm, e⟩ := h2 b n k
    rw [e, toInt_small m (by omega)]
    constructor
    · intro h
      have : m = t.val := by exact_mod_cast h
      rw [this]
    · intro h
      have := congrArg BitVec.toNat h
      rw [BitVec.toNat_ofNat, BitVec.toNat_ofNat, Nat.mod_eq_of_lt (by omega), Nat.mod_eq_of_lt (by omega)] at this
      exact_mod_cast this.symm
  symm
  refine Finset.sum_nbij (fun k => (ix3 b n k : S4x2048x16.Idx)) ?_ ?_ ?_ ?_
  · intro k hk
    have hk' := (Finset.mem_filter.mp hk).2
    refine Finset.mem_filter.mpr ⟨Finset.mem_univ _, (scatter_at idx b n k b n t).mpr ⟨?_, ?_, (at2 k).mpr hk'⟩⟩
    · rw [h0, toInt_small _ (by omega)]
    · rw [h1, toInt_small _ (by omega)]
  · intro k _ k' _ h
    exact congrFun h (2 : Fin 3)
  · intro j hj
    have hj' := (Finset.mem_filter.mp hj).2
    obtain ⟨b', n', k', rfl⟩ : ∃ (b' : Fin 4) (n' : Fin 2048) (k' : Fin 16), j = ix3 b' n' k' := ⟨j 0, j 1, j 2, eq_ix3 j⟩
    obtain ⟨e0, e1, e2⟩ := (scatter_at idx b' n' k' b n t).mp hj'
    have hb' : b'.val < 4 := b'.isLt
    have hn' : n'.val < 2048 := n'.isLt
    rw [h0, toInt_small _ (by omega)] at e0
    rw [h1, toInt_small _ (by omega)] at e1
    obtain rfl : b' = b := Fin.ext (by exact_mod_cast e0)
    obtain rfl : n' = n := Fin.ext (by exact_mod_cast e1)
    exact ⟨k', Finset.mem_coe.mpr (Finset.mem_filter.mpr ⟨Finset.mem_univ _, (at2 k').mp e2⟩), rfl⟩
  · intro k _
    rfl

/-- The indices that a cloud's greatest length is taken over. -/
theorem cloud_fold (x : FVec Ideal S4x2048x1 .f32) (b : Fin 4) :
    Finset.fold max (Ideal.ofBits FTy.f32 4286578688#32) x {i | reducesTo_S4x2048x1_S4x1_d1.drop i = ix2 b 0}
      = Finset.univ.fold max (Ideal.ofBits FTy.f32 4286578688#32) fun q : Fin 2048 => x (ix3 b q 0) := by
  have hd : ∀ (b' : Fin 4) (q : Fin 2048) (e : Fin 1), reducesTo_S4x2048x1_S4x1_d1.drop (ix3 b' q e) = (ix2 b' e : S4x1.Idx) := by
    intro b' q e
    funext a
    match a with
    | ⟨0, _⟩ => rfl
    | ⟨1, _⟩ => rfl
  have hs : (Finset.univ.filter fun i : S4x2048x1.Idx => reducesTo_S4x2048x1_S4x1_d1.drop i = ix2 b 0) = Finset.univ.image fun q : Fin 2048 => (ix3 b q 0 : S4x2048x1.Idx) := by
    ext i
    obtain ⟨b', q, e, rfl⟩ : ∃ (b' : Fin 4) (q : Fin 2048) (e : Fin 1), i = ix3 b' q e := ⟨i 0, i 1, i 2, eq_ix3 i⟩
    rw [Finset.mem_filter, Finset.mem_image, hd]
    constructor
    · rintro ⟨_, h⟩
      obtain rfl : b' = b := congrFun h (0 : Fin 2)
      obtain rfl : e = 0 := congrFun h (1 : Fin 2)
      exact ⟨q, Finset.mem_univ _, rfl⟩
    · rintro ⟨q', _, h⟩
      obtain rfl : b = b' := congrFun h (0 : Fin 3)
      obtain rfl : (0 : Fin 1) = e := congrFun h (2 : Fin 3)
      exact ⟨Finset.mem_univ _, rfl⟩
  rw [hs, Finset.fold_image fun q _ q' _ h => congrFun h (1 : Fin 3)]
  rfl

variable (V : Valuation τ sig (Elt Ideal))

/-- The arrays the reference is given. -/
abbrev Z : FVec Ideal S4x2048x16 .f32 := V (Proc.devRef .tc main_arg0)
abbrev Y : FVec Ideal S4x2048x16 .f32 := V (Proc.devRef .tc main_arg1)
abbrev X : FVec Ideal S4x2048x16 .f32 := V (Proc.devRef .tc main_arg2)
abbrev N : FVec Ideal S4x2048x3 .f32 := V (Proc.devRef .tc main_arg3)
abbrev I : IVec S4x2048x16 32 := V (Proc.devRef .tc main_arg4)
abbrev R : FVec Ideal S4x2048x1 .f32 := V (Proc.devRef .tc main_arg5)

/-- The reference's length of a neighbour, and its cloud's greatest. -/
abbrev lenAt (b : Fin 4) (n : Fin 2048) (k : Fin 16) : EReal := len (Z V (ix3 b n k)) (Y V (ix3 b n k)) (X V (ix3 b n k))
abbrev radAt (b : Fin 4) : EReal := radius fun q => R V (ix3 b q 0)

theorem greatest_apply (b : Fin 4) : res_main_v5 V (ix3 b 0 0) = Finset.univ.fold max (Ideal.ofBits FTy.f32 4286578688#32) fun q : Fin 2048 => R V (ix3 b q 0) := by
  unfold res_main_v5
  pointwise
  exact cloud_fold (V (Proc.devRef .tc main_arg5)) b

theorem one_eq : Ideal.ofBits FTy.f32 1065353216#32 = 1 := by
  simp [Ideal.ofBits, Ideal.ieee]
  rw [← EReal.coe_mul]
  norm_num

theorem word_const (w : BitVec 32) : id (constantI S_ 32 w) ix0 = w := rfl

theorem real_const (w : BitVec 32) : id (constant (F := Ideal) S_ .f32 w) ix0 = Ideal.ofBits FTy.f32 w := rfl

theorem half_const : id (Host.atan2 (F := Ideal) (constant S_ .f32 0#32) (constant S_ .f32 3212836864#32)) ix0
    = Ideal.atan2 (Ideal.ofBits FTy.f32 0#32) (Ideal.ofBits FTy.f32 3212836864#32) := rfl

theorem full_const : id (mulf (F := Ideal) (constant S_ .f32 1073741824#32) (Host.atan2 (constant S_ .f32 0#32) (constant S_ .f32 3212836864#32))) ix0
    = Ideal.ofBits FTy.f32 1073741824#32 * Ideal.atan2 (Ideal.ofBits FTy.f32 0#32) (Ideal.ofBits FTy.f32 3212836864#32) := rfl

theorem gathered (hI : ∀ b n k, I V (ix3 b n k) = BitVec.ofNat 32 (rowOf (I V (ix3 b n k))).val) (b : Fin 4) (n : Fin 2048) (k : Fin 16) : ∀ a : Fin 3, Host.gather gather_S4x2048x3_S4x2048x16x2_S4x2048x16x3_3_01_n_n_01_3_113 (V (Proc.devRef .tc main_arg3)) (concatenate S4x2048x16x2 3 [⟨S4x2048x16x1, (broadcastInDim S4x2048x16x1 ![0, 1, 2] bcast_S4x2048x16_S4x2048x16x1_0_1_2 (broadcastInDim S4x2048x16 ![0, 1, 2] bcast_S4x1x1_S4x2048x16_0_1_2 (select (cmpi .slt (res_main_v1 V) (broadcastInDim S4x1x1 ![] bcast_S_S4x1x1 (constantI S_ 32 0#32))) (addi (res_main_v1 V) (broadcastInDim S4x1x1 ![] bcast_S_S4x1x1 (constantI S_ 32 4#32))) (res_main_v1 V))))⟩, ⟨S4x2048x16x1, (broadcastInDim S4x2048x16x1 ![0, 1, 2] bcast_S4x2048x16_S4x2048x16x1_0_1_2 (select (cmpi .slt (V (Proc.devRef .tc main_arg4)) (broadcastInDim S4x2048x16 ![] bcast_S_S4x2048x16 (constantI S_ 32 0#32))) (addi (V (Proc.devRef .tc main_arg4)) (broadcastInDim S4x2048x16 ![] bcast_S_S4x2048x16 (constantI S_ 32 2048#32))) (V (Proc.devRef .tc main_arg4))))⟩] concatenates_S4x2048x16x1_S4x2048x16x1_S4x2048x16x2_d3) (ix4 b n k a)
    = N V (ix3 b (rowOf (I V (ix3 b n k))) a) := by
  intro a
  refine (gather_apply (V (Proc.devRef .tc main_arg3)) _ b n k a).trans ?_
  have hr := (rowOf (I V (ix3 b n k))).isLt
  have hb := b.isLt
  refine congrArg (V (Proc.devRef .tc main_arg3)) (congrArg₂ (fun u v => (ix3 u v a : S4x2048x3.Idx)) (Fin.ext ?_) (Fin.ext ?_))
  · show min _ 3 = b.val
    unfold res_main_v1
    pointwise
    rw [select_nonneg _ (by omega), toInt_small _ (by omega)]
    omega
  · show min _ 2047 = (rowOf (I V (ix3 b n k))).val
    pointwise
    have e := hI b n k
    revert hr e
    generalize rowOf (I V (ix3 b n k)) = q
    intro hr e
    change (V (Proc.devRef .tc main_arg4) : IVec S4x2048x16 32) (ix3 b n k) = BitVec.ofNat 32 q.val at e
    rw [e]
    rw [select_nonneg _ (by omega), toInt_small _ (by omega)]
    omega

theorem bin_apply (hI : ∀ b n k, I V (ix3 b n k) = BitVec.ofNat 32 (rowOf (I V (ix3 b n k))).val) (b : Fin 4) (n : Fin 2048) (k : Fin 16) :
   (res_main_v84 V : IVec S4x2048x16 32) (ix3 b n k)
    = number (sector (Y V (ix3 b n k)) (X V (ix3 b n k))) (height (Z V (ix3 b n k)) (lenAt V b n k)) (shell (lenAt V b n k) (radAt V b))
      (tilt (N V (ix3 b (rowOf (I V (ix3 b n k))) 0) * N V (ix3 b n 0) + N V (ix3 b (rowOf (I V (ix3 b n k))) 1) * N V (ix3 b n 1)
        + N V (ix3 b (rowOf (I V (ix3 b n k))) 2) * N V (ix3 b n 2))) := by
  have hq := gathered V hI b n k
  have hR := greatest_apply V b
  unfold res_main_v84 res_main_v13 res_main_v62
  generalize res_main_v5 V = P at hR
  generalize Host.gather _ _ _ = G at hq
  pointwise
  rw [Fin.sum_univ_three, hq 0, hq 1, hq 2, hR]
  rw [real_const, real_const, half_const, full_const, word_const, word_const, word_const, word_const, one_eq]
  rfl

theorem share_apply (b : Fin 4) (n : Fin 2048) (k : Fin 16) :
    maximumf (subf (broadcastInDim S4x2048x16 ![] bcast_S_S4x2048x16 (constant S_ .f32 0x3F800000#32)) (Host.divf (res_main_v13 V) (broadcastInDim S4x2048x16 ![0, 1, 2] bcast_S4x1x1_S4x2048x16_0_1_2 (addf (res_main_v5 V) (broadcastInDim S4x1x1 ![] bcast_S_S4x1x1 (constant S_ .f32 0x2B8CBCCC#32)))))) (broadcastInDim S4x2048x16 ![] bcast_S_S4x2048x16 (constant S_ .f32 0x00000000#32)) (ix3 b n k)
      = share (lenAt V b n k) (radAt V b) := by
  have hR := greatest_apply V b
  unfold res_main_v13
  generalize res_main_v5 V = P at hR ⊢
  pointwise
  rw [hR]
  rfl

/-- The bin of neighbour `k` of vertex `n` in cloud `b`. -/
def binAt (b : Fin 4) (n : Fin 2048) (k : Fin 16) : BitVec 32 :=
  number (sector (Y V (ix3 b n k)) (X V (ix3 b n k))) (height (Z V (ix3 b n k)) (lenAt V b n k)) (shell (lenAt V b n k) (radAt V b))
    (tilt (N V (ix3 b (rowOf (I V (ix3 b n k))) 0) * N V (ix3 b n 0) + N V (ix3 b (rowOf (I V (ix3 b n k))) 1) * N V (ix3 b n 1)
      + N V (ix3 b (rowOf (I V (ix3 b n k))) 2) * N V (ix3 b n 2)))

theorem total_apply (hI : ∀ b n k, I V (ix3 b n k) = BitVec.ofNat 32 (rowOf (I V (ix3 b n k))).val) (b : Fin 4) (n : Fin 2048) (t : Fin 352) :
    (res_main_v115 V : FVec Ideal S4x2048x352 .f32) (ix3 b n t) = total (binAt V b n) (fun k => share (lenAt V b n k) (radAt V b)) t := by
  have hb : ∀ b n k, (res_main_v84 V : IVec S4x2048x16 32) (ix3 b n k) = binAt V b n k := bin_apply V hI
  have hlt : ∀ b n k, ∃ m : ℕ, m < 352 ∧ binAt V b n k = BitVec.ofNat 32 m := fun b n k => number_lt _ _ _ _
  have hs := share_apply V b n
  have h2 : ∀ b n k, Scalar.select (IntOp.cmpi .slt ((res_main_v84 V : IVec S4x2048x16 32) (ix3 b n k)) 0#32)
      (IntOp.addi ((res_main_v84 V : IVec S4x2048x16 32) (ix3 b n k)) 352#32) ((res_main_v84 V : IVec S4x2048x16 32) (ix3 b n k)) = binAt V b n k := by
    intro b n k
    obtain ⟨m, hm, e⟩ := hlt b n k
    rw [hb, e, select_nonneg _ (by omega)]
  unfold res_main_v115
  refine (scatter_apply _ _ _ b n t ?_ ?_ ?_ ?_).trans ?_
  · pointwise
  · intro b n k
    have := b.isLt
    unfold res_main_v1
    pointwise
    rw [select_nonneg _ (by omega)]
  · intro b n k
    have := n.isLt
    unfold res_main_v3
    pointwise
    rw [select_nonneg _ (by omega)]
  · intro b n k
    obtain ⟨m, hm, e⟩ := hlt b n k
    refine ⟨m, hm, ?_⟩
    rw [← e, ← h2]
    generalize res_main_v84 V = W
    pointwise
  · refine congrArg₂ (fun f g => total f g t) (funext fun k => ?_) (funext fun k => hs k)
    rw [← h2]
    generalize res_main_v84 V = W
    pointwise

/-- The reference's result. -/
abbrev result : FVec Ideal S4x2048x352 .f32 :=
  Host.divf (res_main_v115 V) (broadcastInDim S4x2048x352 ![0, 1, 2] bcast_S4x2048x1_S4x2048x352_0_1_2 (Host.sqrt (addf (broadcastInDim S4x2048x1 ![0, 1] bcast_S4x2048_S4x2048x1_0_1 (Host.reduceAdd (mulf (res_main_v115 V) (res_main_v115 V)) (constant S_ .f32 0x00000000#32) reducesTo_S4x2048x352_S4x2048_d2 h_S_)) (broadcastInDim S4x2048x1 ![] bcast_S_S4x2048x1 (constant S_ .f32 0x2B8CBCCC#32)))))

/-- The descriptors, element by element. -/
theorem result_apply (hI : ∀ b n k, I V (ix3 b n k) = BitVec.ofNat 32 (rowOf (I V (ix3 b n k))).val) (b : Fin 4) (n : Fin 2048) (t : Fin 352) :
    result V (ix3 b n t) = descr (binAt V b n) (fun k => share (lenAt V b n k) (radAt V b)) t := by
  have ht := total_apply V hI b n
  unfold result
  generalize res_main_v115 V = T at ht
  pointwise
  unfold descr
  rw [ht]
  simp only [ht]
  rfl

/-- The descriptors of the given arrays. -/
def descriptors (z y x : FVec Ideal S4x2048x16 .f32) (nrm : FVec Ideal S4x2048x3 .f32) (idx : IVec S4x2048x16 32) (rmax : FVec Ideal S4x2048x1 .f32) (b : Fin 4) (n : Fin 2048) (t : Fin 352) : EReal :=
  descr (fun k => number (sector (y (ix3 b n k)) (x (ix3 b n k))) (height (z (ix3 b n k)) (len (z (ix3 b n k)) (y (ix3 b n k)) (x (ix3 b n k))))
      (shell (len (z (ix3 b n k)) (y (ix3 b n k)) (x (ix3 b n k))) (radius fun q => rmax (ix3 b q 0)))
      (tilt (nrm (ix3 b (rowOf (idx (ix3 b n k))) 0) * nrm (ix3 b n 0) + nrm (ix3 b (rowOf (idx (ix3 b n k))) 1) * nrm (ix3 b n 1)
        + nrm (ix3 b (rowOf (idx (ix3 b n k))) 2) * nrm (ix3 b n 2))))
    (fun k => share (len (z (ix3 b n k)) (y (ix3 b n k)) (x (ix3 b n k))) (radius fun q => rmax (ix3 b q 0))) t

theorem result_descriptors (hI : ∀ b n k, I V (ix3 b n k) = BitVec.ofNat 32 (rowOf (I V (ix3 b n k))).val) (b : Fin 4) (n : Fin 2048) (t : Fin 352) :
    result V (ix3 b n t) = descriptors (Z V) (Y V) (X V) (N V) (I V) (R V) b n t := result_apply V hI b n t

end Cert.Proof.DescrRef

end
-- ==== Proof.DescrBlocks.lean ====
/- The descriptors after the second call, element by element, from its arguments. -/
module

public import proofs.«01_k».proof.Pre_off_axis
public import proofs.«01_k».proof.Proof.Gen.Pre_off_axis
public import proofs.«01_k».proof.Proof.Gen.Kernel2Ideal.Value
public import proofs.«01_k».proof.Proof.DescrValue
public import proofs.«01_k».proof.Proof.DescrRef

@[expose] public section

set_option maxRecDepth 16384

noncomputable section

namespace Cert.Proof.Descr

open Cert.Kernel2Ideal Cert.Kernel2Ideal.Gen Cert.Kernel2Ideal.Value
open Idealize.ShloMosaic Idealize.ShloMosaic.TcCoe Idealize.SL.Sem
open Idealize.ShloMosaic.Pipeline (Dat Cfg Window)

/-- What the claim assumes of the local coordinates and of the neighbours' indices. -/
structure OffAxis (y x : FVec Ideal S4x2048x16 .f32) (idx : IVec S4x2048x16 32) : Prop where
  word : ∀ b n k, idx (ix3 b n k) = BitVec.ofNat 32 (rowOf (idx (ix3 b n k))).val
  realY : ∀ b n k, ∃ a : ℝ, y (ix3 b n k) = (a : EReal)
  realX : ∀ b n k, ∃ a : ℝ, x (ix3 b n k) = (a : EReal)
  off : ∀ b n k, y (ix3 b n k) ≠ 0 ∨ x (ix3 b n k) ≠ 0

theorem real_of_abs (v : EReal) (h : Scalar.cmpf (F := Ideal) (φ := .f32) .olt (FloatOps.absf (F := Ideal) (φ := .f32) v) (Ideal.ofBits FTy.f32 2139095040#32) = 1#1) : ∃ a : ℝ, v = (a : EReal) := by
  rw [show Ideal.ofBits FTy.f32 2139095040#32 = ⊤ from by simp [Ideal.ofBits, Ideal.ieee]] at h
  have h' : max v (-v) < ⊤ := by
    by_contra hc
    have e : Scalar.cmpf (F := Ideal) (φ := .f32) .olt (FloatOps.absf (F := Ideal) (φ := .f32) v) (⊤ : EReal) = BitVec.ofBool (decide (max v (-v) < ⊤)) := rfl
    rw [e, decide_eq_false hc] at h
    exact absurd h (by decide)
  rw [max_lt_iff] at h'
  have hb : v ≠ ⊥ := fun e => by
    rw [e, EReal.neg_bot] at h'
    exact absurd h'.2 (lt_irrefl _)
  exact ⟨v.toReal, (EReal.coe_toReal h'.1.ne hb).symm⟩

theorem word_of_bounds (w : BitVec 32) (h1 : IntOp.cmpi .sge w 0#32 = 1#1) (h2 : IntOp.cmpi .slt w 2048#32 = 1#1) : w = BitVec.ofNat 32 (rowOf w).val := by
  have h1' : BitVec.ofBool (BitVec.sle 0#32 w) = 1#1 := h1
  have h2' : BitVec.ofBool (BitVec.slt w 2048#32) = 1#1 := h2
  have a1 : BitVec.sle 0#32 w = true := by
    cases e : BitVec.sle 0#32 w
    · rw [e] at h1'; exact absurd h1' (by decide)
    · rfl
  have a2 : BitVec.slt w 2048#32 = true := by
    cases e : BitVec.slt w 2048#32
    · rw [e] at h2'; exact absurd h2' (by decide)
    · rfl
  rw [BitVec.sle_iff_toInt_le] at a1
  rw [BitVec.slt_iff_toInt_lt] at a2
  have e0 : (0#32 : BitVec 32).toInt = 0 := by decide
  have e1 : (2048#32 : BitVec 32).toInt = 2048 := by decide
  rw [e0] at a1
  rw [e1] at a2
  rw [BitVec.toInt_eq_toNat_cond] at a1 a2
  have hw := w.isLt
  apply BitVec.eq_of_toNat_eq
  rw [BitVec.toNat_ofNat]
  show w.toNat = w.toNat % 2048 % 2 ^ 32
  split at a1 <;> omega

theorem off_axis (z y x : FVec Ideal S4x2048x16 .f32) (nrm : FVec Ideal S4x2048x3 .f32) (idx : IVec S4x2048x16 32) (rmax : FVec Ideal S4x2048x1 .f32)
    (h1 : (Cert.Pre_off_axis.fn (F := Ideal) z y x nrm idx rmax).1 = fun _ => 1#1)
    (h2 : (Cert.Pre_off_axis.fn (F := Ideal) z y x nrm idx rmax).2.1 = fun _ => 1#1)
    (h3 : (Cert.Pre_off_axis.fn (F := Ideal) z y x nrm idx rmax).2.2.1 = fun _ => 1#1)
    (h4 : (Cert.Pre_off_axis.fn (F := Ideal) z y x nrm idx rmax).2.2.2.1 = fun _ => 1#1)
    (h5 : (Cert.Pre_off_axis.fn (F := Ideal) z y x nrm idx rmax).2.2.2.2 = fun _ => 1#1) : OffAxis y x idx where
  word b n k := by
    have a := congrFun h1 (ix3 b n k)
    have a' := congrFun h2 (ix3 b n k)
    unfold Cert.Pre_off_axis.fn at a a'
    pointwise at a
    pointwise at a'
    exact word_of_bounds _ a a'
  realY b n k := by
    have a := congrFun h3 (ix3 b n k)
    unfold Cert.Pre_off_axis.fn at a
    pointwise at a
    exact real_of_abs _ a
  realX b n k := by
    have a := congrFun h4 (ix3 b n k)
    unfold Cert.Pre_off_axis.fn at a
    pointwise at a
    exact real_of_abs _ a
  off b n k := by
    have a := congrFun h5 (ix3 b n k)
    unfold Cert.Pre_off_axis.fn at a
    pointwise at a
    by_contra hc
    obtain ⟨hy, hx⟩ := not_or.mp hc
    rw [decide_eq_false hy, decide_eq_false hx] at a
    exact absurd a (by decide)

variable (m : (ℓ : Loc nD τ sig) → Buf (Elt Ideal) ℓ)

/-- The grid point of cloud `b` and row block `k`. -/
theorem point_exists : ∀ (b : Fin 4) (k : Fin 8), ∃ t : Fin grid0.N, (grid0.coords t 0).val = b.val ∧ (grid0.coords t 1).val = k.val := by
  decide +kernel

theorem index0 : ∀ t : Fin grid0.N, win0_0.index t 0 = (grid0.coords t 0).val ∧ win0_0.index t 1 = (grid0.coords t 1).val ∧ win0_0.index t 2 = 0 := by
  decide +kernel

theorem index1 : ∀ t : Fin grid0.N, win0_1.index t 0 = (grid0.coords t 0).val ∧ win0_1.index t 1 = 0 ∧ win0_1.index t 2 = 0 := by
  decide +kernel

theorem index2 : ∀ t : Fin grid0.N, win0_2.index t 0 = (grid0.coords t 0).val ∧ win0_2.index t 1 = (grid0.coords t 1).val ∧ win0_2.index t 2 = 0 := by
  decide +kernel

theorem index3 : ∀ t : Fin grid0.N, win0_3.index t 0 = (grid0.coords t 0).val ∧ win0_3.index t 1 = (grid0.coords t 1).val ∧ win0_3.index t 2 = 0 := by
  decide +kernel

theorem index4 : ∀ t : Fin grid0.N, win0_4.index t 0 = (grid0.coords t 0).val ∧ win0_4.index t 1 = (grid0.coords t 1).val ∧ win0_4.index t 2 = 0 := by
  decide +kernel

theorem index5 : ∀ t : Fin grid0.N, win0_5.index t 0 = (grid0.coords t 0).val ∧ win0_5.index t 1 = (grid0.coords t 1).val ∧ win0_5.index t 2 = 0 := by
  decide +kernel

theorem index6 : ∀ t : Fin grid0.N, win0_6.index t 0 = (grid0.coords t 0).val ∧ win0_6.index t 1 = 0 ∧ win0_6.index t 2 = 0 := by
  decide +kernel

theorem index7 : ∀ t : Fin grid0.N, win0_7.index t 0 = (grid0.coords t 0).val ∧ win0_7.index t 1 = (grid0.coords t 1).val ∧ win0_7.index t 2 = 0 := by
  decide +kernel

theorem flush7 : ∀ t : Fin cfg0.N, (cfg0.win 7).flush t = true :=
  (by decide +kernel : ∀ t : Fin grid0.N, win0_7.flush t = true)

theorem stored (c : Dev nD) (t : Fin cfg0.N) (b : Fin 4) (k : Fin 8) (hb : (grid0.coords t 0).val = b.val)
    (hk : (grid0.coords t 1).val = k.val) (r : Fin 256) (j : Fin 352) (R : Fin 2048) (hR : R.val = 256 * k.val + r.val) :
    (dats m 0 c).arrAt 7 cfg0.N (ix3 b R j) = out0_7 (iblk m c 0 t) (iblk m c 1 t) (iblk m c 2 t) (iblk m c 3 t) (iblk m c 4 t) (iblk m c 5 t) (iblk m c 6 t) (ix3 0 r j) := by
  have h := congrFun (blocks7 m c t (flush7 t)) (ix3 0 r j)
  rw [View.read_apply] at h
  obtain ⟨i0, i1, i2⟩ := index7 t
  have e : ((cfg0.win 7).blk t).view.emb (ix3 0 r j) = (ix3 b R j : S4x2048x352.Idx) := by
    funext a
    refine Fin.ext ?_
    refine (win0_7.rect_emb_val t (ix3 0 r j) a).trans ?_
    match a with
    | ⟨0, _⟩ => show win0_7.index t 0 * 1 + 0 = b.val; omega
    | ⟨1, _⟩ => show win0_7.index t 1 * 256 + r.val = R.val; omega
    | ⟨2, _⟩ => show win0_7.index t 2 * 352 + j.val = j.val; omega
  rw [e, flushed7] at h
  exact h

theorem block0 (c : Dev nD) (t : Fin cfg0.N) (b : Fin 4) (k : Fin 8) (hb : (grid0.coords t 0).val = b.val)
    (hk : (grid0.coords t 1).val = k.val) (r : Fin 256) (a : Fin 3) (R : Fin 2048) (hR : R.val = 256 * k.val + r.val) :
    (iblk m c 0 t : Vec Ideal S1x256x3 .f32) (ix3 0 r a) = (m ((c : Thread nD τ).loc main_arg3) : FVec Ideal S4x2048x3 .f32) (ix3 b R a) := by
  obtain ⟨i0, i1, i2⟩ := index0 t
  have e : ((cfg0.win 0).blk t).view.emb (ix3 0 r a) = (ix3 b R a : S4x2048x3.Idx) := by
    funext a'
    refine Fin.ext ?_
    refine (win0_0.rect_emb_val t (ix3 0 r a) a').trans ?_
    match a' with
    | ⟨0, _⟩ => show win0_0.index t 0 * 1 + 0 = b.val; omega
    | ⟨1, _⟩ => show win0_0.index t 1 * 256 + r.val = R.val; omega
    | ⟨2, _⟩ => show win0_0.index t 2 * 3 + a.val = a.val; omega
  unfold iblk
  rw [View.read_apply, e]
  show V m c main_arg3 (ix3 b R a) = _
  rw [V_main_arg3]

theorem block2 (c : Dev nD) (t : Fin cfg0.N) (b : Fin 4) (k : Fin 8) (hb : (grid0.coords t 0).val = b.val)
    (hk : (grid0.coords t 1).val = k.val) (r : Fin 256) (a : Fin 16) (R : Fin 2048) (hR : R.val = 256 * k.val + r.val) :
    (iblk m c 2 t : Vec Ideal S1x256x16 .i32) (ix3 0 r a) = (m ((c : Thread nD τ).loc main_arg4) : IVec S4x2048x16 32) (ix3 b R a) := by
  obtain ⟨i0, i1, i2⟩ := index2 t
  have e : ((cfg0.win 2).blk t).view.emb (ix3 0 r a) = (ix3 b R a : S4x2048x16.Idx) := by
    funext a'
    refine Fin.ext ?_
    refine (win0_2.rect_emb_val t (ix3 0 r a) a').trans ?_
    match a' with
    | ⟨0, _⟩ => show win0_2.index t 0 * 1 + 0 = b.val; omega
    | ⟨1, _⟩ => show win0_2.index t 1 * 256 + r.val = R.val; omega
    | ⟨2, _⟩ => show win0_2.index t 2 * 16 + a.val = a.val; omega
  unfold iblk
  rw [View.read_apply, e]
  show V m c main_arg4 (ix3 b R a) = _
  rw [V_main_arg4]

theorem block3 (c : Dev nD) (t : Fin cfg0.N) (b : Fin 4) (k : Fin 8) (hb : (grid0.coords t 0).val = b.val)
    (hk : (grid0.coords t 1).val = k.val) (r : Fin 256) (a : Fin 16) (R : Fin 2048) (hR : R.val = 256 * k.val + r.val) :
    (iblk m c 3 t : Vec Ideal S1x256x16 .f32) (ix3 0 r a) = (m ((c : Thread nD τ).loc main_arg0) : FVec Ideal S4x2048x16 .f32) (ix3 b R a) := by
  obtain ⟨i0, i1, i2⟩ := index3 t
  have e : ((cfg0.win 3).blk t).view.emb (ix3 0 r a) = (ix3 b R a : S4x2048x16.Idx) := by
    funext a'
    refine Fin.ext ?_
    refine (win0_3.rect_emb_val t (ix3 0 r a) a').trans ?_
    match a' with
    | ⟨0, _⟩ => show win0_3.index t 0 * 1 + 0 = b.val; omega
    | ⟨1, _⟩ => show win0_3.index t 1 * 256 + r.val = R.val; omega
    | ⟨2, _⟩ => show win0_3.index t 2 * 16 + a.val = a.val; omega
  unfold iblk
  rw [View.read_apply, e]
  show V m c main_arg0 (ix3 b R a) = _
  rw [V_main_arg0]

theorem block4 (c : Dev nD) (t : Fin cfg0.N) (b : Fin 4) (k : Fin 8) (hb : (grid0.coords t 0).val = b.val)
    (hk : (grid0.coords t 1).val = k.val) (r : Fin 256) (a : Fin 16) (R : Fin 2048) (hR : R.val = 256 * k.val + r.val) :
    (iblk m c 4 t : Vec Ideal S1x256x16 .f32) (ix3 0 r a) = (m ((c : Thread nD τ).loc main_arg1) : FVec Ideal S4x2048x16 .f32) (ix3 b R a) := by
  obtain ⟨i0, i1, i2⟩ := index4 t
  have e : ((cfg0.win 4).blk t).view.emb (ix3 0 r a) = (ix3 b R a : S4x2048x16.Idx) := by
    funext a'
    refine Fin.ext ?_
    refine (win0_4.rect_emb_val t (ix3 0 r a) a').trans ?_
    match a' with
    | ⟨0, _⟩ => show win0_4.index t 0 * 1 + 0 = b.val; omega
    | ⟨1, _⟩ => show win0_4.index t 1 * 256 + r.val = R.val; omega
    | ⟨2, _⟩ => show win0_4.index t 2 * 16 + a.val = a.val; omega
  unfold iblk
  rw [View.read_apply, e]
  show V m c main_arg1 (ix3 b R a) = _
  rw [V_main_arg1]

theorem block5 (c : Dev nD) (t : Fin cfg0.N) (b : Fin 4) (k : Fin 8) (hb : (grid0.coords t 0).val = b.val)
    (hk : (grid0.coords t 1).val = k.val) (r : Fin 256) (a : Fin 16) (R : Fin 2048) (hR : R.val = 256 * k.val + r.val) :
    (iblk m c 5 t : Vec Ideal S1x256x16 .f32) (ix3 0 r a) = (m ((c : Thread nD τ).loc main_arg2) : FVec Ideal S4x2048x16 .f32) (ix3 b R a) := by
  obtain ⟨i0, i1, i2⟩ := index5 t
  have e : ((cfg0.win 5).blk t).view.emb (ix3 0 r a) = (ix3 b R a : S4x2048x16.Idx) := by
    funext a'
    refine Fin.ext ?_
    refine (win0_5.rect_emb_val t (ix3 0 r a) a').trans ?_
    match a' with
    | ⟨0, _⟩ => show win0_5.index t 0 * 1 + 0 = b.val; omega
    | ⟨1, _⟩ => show win0_5.index t 1 * 256 + r.val = R.val; omega
    | ⟨2, _⟩ => show win0_5.index t 2 * 16 + a.val = a.val; omega
  unfold iblk
  rw [View.read_apply, e]
  show V m c main_arg2 (ix3 b R a) = _
  rw [V_main_arg2]

theorem block1 (c : Dev nD) (t : Fin cfg0.N) (b : Fin 4) (hb : (grid0.coords t 0).val = b.val)
    (a : Fin 3) (q : Fin 2048) :
    (iblk m c 1 t : Vec Ideal S1x3x2048 .f32) (ix3 0 a q) = (m ((c : Thread nD τ).loc main_arg3) : FVec Ideal S4x2048x3 .f32) (ix3 b q a) := by
  obtain ⟨i0, i1, i2⟩ := index1 t
  have e : ((cfg0.win 1).blk t).view.emb (ix3 0 a q) = (ix3 b a q : S4x3x2048.Idx) := by
    funext a'
    refine Fin.ext ?_
    refine (win0_1.rect_emb_val t (ix3 0 a q) a').trans ?_
    match a' with
    | ⟨0, _⟩ => show win0_1.index t 0 * 1 + 0 = b.val; omega
    | ⟨1, _⟩ => show win0_1.index t 1 * 3 + a.val = a.val; omega
    | ⟨2, _⟩ => show win0_1.index t 2 * 2048 + q.val = q.val; omega
  unfold iblk
  rw [View.read_apply, e]
  show V m c main_call0_v0 (ix3 b a q) = _
  entry_read
  show transpose S4x3x2048 [0, 2, 1] (m ((c : Thread nD τ).loc main_arg3) : FVec Ideal S4x2048x3 .f32) transposes_S4x2048x3_S4x3x2048_0_2_1 (ix3 b a q) = _
  pointwise

theorem block6 (c : Dev nD) (t : Fin cfg0.N) (b : Fin 4) (hb : (grid0.coords t 0).val = b.val)
    (a : Fin 1) (q : Fin 2048) :
    (iblk m c 6 t : Vec Ideal S1x1x2048 .f32) (ix3 0 a q) = (m ((c : Thread nD τ).loc main_arg5) : FVec Ideal S4x2048x1 .f32) (ix3 b q a) := by
  obtain ⟨i0, i1, i2⟩ := index6 t
  have e : ((cfg0.win 6).blk t).view.emb (ix3 0 a q) = (ix3 b a q : S4x1x2048.Idx) := by
    funext a'
    refine Fin.ext ?_
    refine (win0_6.rect_emb_val t (ix3 0 a q) a').trans ?_
    match a' with
    | ⟨0, _⟩ => show win0_6.index t 0 * 1 + 0 = b.val; omega
    | ⟨1, _⟩ => show win0_6.index t 1 * 1 + a.val = a.val; omega
    | ⟨2, _⟩ => show win0_6.index t 2 * 2048 + q.val = q.val; omega
  unfold iblk
  rw [View.read_apply, e]
  show V m c main_call0_v1 (ix3 b a q) = _
  entry_read
  show transpose S4x1x2048 [0, 2, 1] (m ((c : Thread nD τ).loc main_arg5) : FVec Ideal S4x2048x1 .f32) transposes_S4x2048x1_S4x1x2048_0_2_1 (ix3 b a q) = _
  pointwise
  rw [Fin.eq_zero a]

theorem descriptors_apply (c : Dev nD) (hO : OffAxis (m ((c : Thread nD τ).loc main_arg1)) (m ((c : Thread nD τ).loc main_arg2)) (m ((c : Thread nD τ).loc main_arg4))) (b : Fin 4) (k : Fin 8) (r : Fin 256)
    (R : Fin 2048) (hR : R.val = 256 * k.val + r.val) (j : Fin 352) :
    (dats m 0 c).arrAt 7 cfg0.N (ix3 b R j) = DescrRef.descriptors (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b R j := by
  obtain ⟨t, hb, hk⟩ := point_exists b k
  rw [stored m c t b k hb hk r j R hR]
  refine (out_apply (iblk m c 0 t) (iblk m c 1 t) (iblk m c 2 t) (iblk m c 3 t) (iblk m c 4 t) (iblk m c 5 t) (iblk m c 6 t) r j
    (fun i => rowOf ((m ((c : Thread nD τ).loc main_arg4) : IVec S4x2048x16 32) (ix3 b R i))) ?_).trans ?_
  · intro i
    exact (block2 m c t b k hb hk r i R hR).trans (hO.word b R i)
  · have hrad : (radius fun q => (iblk m c 6 t : Vec Ideal S1x1x2048 .f32) (ix3 0 0 q)) = radius fun q => (m ((c : Thread nD τ).loc main_arg5) : FVec Ideal S4x2048x1 .f32) (ix3 b q 0) :=
      congrArg radius (funext fun q => block6 m c t b hb 0 q)
    have hsec : ∀ i, compass ((m ((c : Thread nD τ).loc main_arg1) : FVec Ideal S4x2048x16 .f32) (ix3 b R i)) ((m ((c : Thread nD τ).loc main_arg2) : FVec Ideal S4x2048x16 .f32) (ix3 b R i))
        = sector ((m ((c : Thread nD τ).loc main_arg1) : FVec Ideal S4x2048x16 .f32) (ix3 b R i)) ((m ((c : Thread nD τ).loc main_arg2) : FVec Ideal S4x2048x16 .f32) (ix3 b R i)) := by
      intro i
      have ho := hO.off b R i
      obtain ⟨y, hy⟩ := hO.realY b R i
      obtain ⟨x, hx⟩ := hO.realX b R i
      rw [hy, hx] at ho ⊢
      refine (sector_eq y x ?_).symm
      rcases ho with ho | ho
      · exact Or.inl fun e => ho (by rw [e]; rfl)
      · exact Or.inr fun e => ho (by rw [e]; rfl)
    unfold DescrRef.descriptors
    refine congrArg₂ (fun f g => descr f g j) (funext fun i => ?_) (funext fun i => ?_)
    · rw [hrad, block0 m c t b k hb hk r 0 R hR, block0 m c t b k hb hk r 1 R hR, block0 m c t b k hb hk r 2 R hR,
        block3 m c t b k hb hk r i R hR, block4 m c t b k hb hk r i R hR, block5 m c t b k hb hk r i R hR,
        block1 m c t b hb 0, block1 m c t b hb 1, block1 m c t b hb 2, hsec]
    · rw [hrad, block3 m c t b k hb hk r i R hR, block4 m c t b k hb hk r i R hR, block5 m c t b k hb hk r i R hR]

/-- The descriptors' array after the second call. -/
theorem descriptors_eq (c : Dev nD) (hO : OffAxis (m ((c : Thread nD τ).loc main_arg1)) (m ((c : Thread nD τ).loc main_arg2)) (m ((c : Thread nD τ).loc main_arg4))) (i : S4x2048x352.Idx) :
    (dats m 0 c).arrAt 7 cfg0.N i = DescrRef.descriptors (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) (i 2) := by
  obtain ⟨b, R, j, rfl⟩ : ∃ (b : Fin 4) (R : Fin 2048) (j : Fin 352), i = ix3 b R j := ⟨i 0, i 1, i 2, eq_ix3 i⟩
  exact descriptors_apply m c hO b ⟨R.val / 256, by omega⟩ ⟨R.val % 256, by omega⟩ R (by show R.val = 256 * (R.val / 256) + R.val % 256; omega) j

end Cert.Proof.Descr

end
-- ==== Proof.Algebraic.lean ====
/- The neighbours and the descriptors: both programs end with the reference's. -/
module

public import proofs.«01_k».proof.Defs
public import proofs.«01_k».proof.Proof.SelectBlocks
public import proofs.«01_k».proof.Proof.DescrBlocks
public import proofs.«01_k».proof.Proof.Gen.ReferenceIdeal.Run
public import proofs.«01_k».proof.Proof.Gen.Reference2Ideal.Run
public import proofs.«01_k».proof.Proof.Gen.Pre_separated
public import proofs.«01_k».proof.Proof.Gen.Pre_off_axis

@[expose] public section

noncomputable section

namespace Cert.Proof.Algebraic

open Idealize.ShloMosaic Idealize.ShloMosaic.TcCoe Idealize.SL.Sem

theorem neighbours : Cert.algebraic_KernelIdeal_ReferenceIdeal_pre_separated := by
  intro m g m' g' hpre hargs
  refine ⟨fun c => SelectRef.chosen (m ((c.tc : Thread Cert.KernelIdeal.nD Cert.KernelIdeal.τ).loc Cert.KernelIdeal.main_arg0)), ?_, ?_⟩
  · exact (θ_run Cert.KernelIdeal.defs _ _).mono
      (fun r h c => ⟨(h c).1.trans (Cert.Proof.KernelIdeal.neighbours m c (SelectRef.apart _ (hpre c).1 (hpre c).2)), (h c).2⟩)
      (Cert.Proof.KernelIdeal.run_blocks m g)
  · exact (θ_run Cert.ReferenceIdeal.defs _ _).mono
      (fun r h c => ⟨(h c).1.trans (congrArg SelectRef.chosen (hargs c)), (h c).2⟩)
      (Cert.ReferenceIdeal.Value.run (F := Ideal) m' g')

theorem descriptors : Cert.algebraic_Kernel2Ideal_Reference2Ideal_pre_off_axis := by
  intro m g m' g' hpre hargs
  have hO := fun c => Descr.off_axis _ _ _ _ _ _ (hpre c).1 (hpre c).2.1 (hpre c).2.2.1 (hpre c).2.2.2.1 (hpre c).2.2.2.2
  refine ⟨fun c => fun i => DescrRef.descriptors (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (i 0) (i 1) (i 2), ?_, ?_⟩
  · exact (θ_run Cert.Kernel2Ideal.defs _ _).mono
      (fun r h c => ⟨(h c).1.trans (funext fun i => Descr.descriptors_eq m c (hO c) i), (h c).2⟩)
      (Cert.Kernel2Ideal.Value.run_blocks m g)
  · refine (θ_run Cert.Reference2Ideal.defs _ _).mono
      (fun r h c => ⟨(h c).1.trans (funext fun i => ?_), (h c).2⟩)
      (Cert.Reference2Ideal.Value.run (F := Ideal) m' g')
    obtain ⟨a0, a1, a2, a3, a4, a5⟩ := hargs c
    obtain ⟨b, n, t, rfl⟩ : ∃ (b : Fin 4) (n : Fin 2048) (t : Fin 352), i = ix3 b n t := ⟨i 0, i 1, i 2, eq_ix3 i⟩
    have hI := (hO c).word
    rw [← a4] at hI
    refine (DescrRef.result_descriptors (StableHlo.launchContents m' c) hI b n t).trans ?_
    show DescrRef.descriptors (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) b n t = _
    rw [a0, a1, a2, a3, a4, a5]
    rfl

end Cert.Proof.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.ReferenceIdeal.Run
public import proofs.«01_k».proof.Proof.Gen.Pre_separated
public import proofs.«01_k».proof.Proof.Gen.Pre_off_axis
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Pre_separated.Gen.facts, Cert.Pre_off_axis.Gen.facts,
  Frames.kernel, Frames.kernel_ideal, Frames.kernel_ideal_pre, Frames.reference_ideal, Frames.reference_ideal_pre, Frames.kernel2, Frames.kernel2_ideal, Frames.kernel2_ideal_pre,
  Frames.reference2_ideal, Frames.reference2_ideal_pre, Frames.preserves, Algebraic.neighbours, trivial, Algebraic.descriptors⟩

end Cert.Proof

end
